-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_attention_operands [hPre_attention_operands : Cert.Pre_attention_operands.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_attention_operands.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).1 = (fun _ => 1#1)
    ∧ (Cert.Pre_attention_operands.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.1 = (fun _ => 1#1)
    ∧ (Cert.Pre_attention_operands.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.2.1 = (fun _ => 1#1)
    ∧ (Cert.Pre_attention_operands.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.2.2 = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_attention_operands [hPre_attention_operands : Cert.Pre_attention_operands.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_attention_operands.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4))).1 = (fun _ => 1#1)
    ∧ (Cert.Pre_attention_operands.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4))).2.1 = (fun _ => 1#1)
    ∧ (Cert.Pre_attention_operands.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4))).2.2.1 = (fun _ => 1#1)
    ∧ (Cert.Pre_attention_operands.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4))).2.2.2 = (fun _ => 1#1)

def Pre_MixFfn (m : (ℓ : Loc Cert.MixFfn.nD Cert.MixFfn.τ Cert.MixFfn.sig) → Buf (Elt Bits) ℓ) : Prop :=
  True

def Pre_MixFfnIdeal (m : (ℓ : Loc Cert.MixFfnIdeal.nD Cert.MixFfnIdeal.τ Cert.MixFfnIdeal.sig) → Buf (Elt Ideal) ℓ) : Prop :=
  True

def Pre_MixFfnRefIdeal (m : (ℓ : Loc Cert.MixFfnRefIdeal.nD Cert.MixFfnRefIdeal.τ Cert.MixFfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionIdeal_pre_attention_operands [hAttentionIdeal : Cert.AttentionIdeal.Facts] [hPre_attention_operands : Cert.Pre_attention_operands.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_attention_operands m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4))
      ∧ r.2.sem = fun _ => 0)

def quiescent_AttentionRefIdeal_pre_attention_operands [hAttentionRefIdeal : Cert.AttentionRefIdeal.Facts] [hPre_attention_operands : Cert.Pre_attention_operands.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_attention_operands m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4))
      ∧ r.2.sem = fun _ => 0)

def quiescent_MixFfn [hMixFfn : Cert.MixFfn.Facts] : Prop :=
  ∀ (m : (ℓ : Loc Cert.MixFfn.nD Cert.MixFfn.τ Cert.MixFfn.sig) → Buf (Elt Bits) ℓ) (g : Dev Cert.MixFfn.nD → PrngReg), Pre_MixFfn m →
    θ_run (Cert.MixFfn.defs (F := Bits)) (onTc (τ := Cert.MixFfn.τ) (Cert.MixFfn.main (F := Bits))) ⟨m, fun _ => 0, g⟩ (fun r => (∀ c : Dev Cert.MixFfn.nD,
      r.2.mem ((c.tc : Thread Cert.MixFfn.nD Cert.MixFfn.τ).loc Cert.MixFfn.main_arg0) = m ((c.tc : Thread Cert.MixFfn.nD Cert.MixFfn.τ).loc Cert.MixFfn.main_arg0)
      ∧ r.2.mem ((c.tc : Thread Cert.MixFfn.nD Cert.MixFfn.τ).loc Cert.MixFfn.main_arg1) = m ((c.tc : Thread Cert.MixFfn.nD Cert.MixFfn.τ).loc Cert.MixFfn.main_arg1)
      ∧ r.2.mem ((c.tc : Thread Cert.MixFfn.nD Cert.MixFfn.τ).loc Cert.MixFfn.main_arg2) = m ((c.tc : Thread Cert.MixFfn.nD Cert.MixFfn.τ).loc Cert.MixFfn.main_arg2)
      ∧ r.2.mem ((c.tc : Thread Cert.MixFfn.nD Cert.MixFfn.τ).loc Cert.MixFfn.main_arg3) = m ((c.tc : Thread Cert.MixFfn.nD Cert.MixFfn.τ).loc Cert.MixFfn.main_arg3)
      ∧ r.2.mem ((c.tc : Thread Cert.MixFfn.nD Cert.MixFfn.τ).loc Cert.MixFfn.main_arg4) = m ((c.tc : Thread Cert.MixFfn.nD Cert.MixFfn.τ).loc Cert.MixFfn.main_arg4)
      ∧ r.2.mem ((c.tc : Thread Cert.MixFfn.nD Cert.MixFfn.τ).loc Cert.MixFfn.main_arg5) = m ((c.tc : Thread Cert.MixFfn.nD Cert.MixFfn.τ).loc Cert.MixFfn.main_arg5)
      ∧ r.2.mem ((c.tc : Thread Cert.MixFfn.nD Cert.MixFfn.τ).loc Cert.MixFfn.main_arg6) = m ((c.tc : Thread Cert.MixFfn.nD Cert.MixFfn.τ).loc Cert.MixFfn.main_arg6)
      ∧ r.2.mem ((c.tc : Thread Cert.MixFfn.nD Cert.MixFfn.τ).loc Cert.MixFfn.main_arg7) = m ((c.tc : Thread Cert.MixFfn.nD Cert.MixFfn.τ).loc Cert.MixFfn.main_arg7)
      ∧ r.2.mem ((c.tc : Thread Cert.MixFfn.nD Cert.MixFfn.τ).loc Cert.MixFfn.main_arg8) = m ((c.tc : Thread Cert.MixFfn.nD Cert.MixFfn.τ).loc Cert.MixFfn.main_arg8)
      ∧ r.2.mem ((c.tc : Thread Cert.MixFfn.nD Cert.MixFfn.τ).loc Cert.MixFfn.main_arg9) = m ((c.tc : Thread Cert.MixFfn.nD Cert.MixFfn.τ).loc Cert.MixFfn.main_arg9)
      ∧ r.2.mem ((c.tc : Thread Cert.MixFfn.nD Cert.MixFfn.τ).loc Cert.MixFfn.main_arg10) = m ((c.tc : Thread Cert.MixFfn.nD Cert.MixFfn.τ).loc Cert.MixFfn.main_arg10)
      ∧ r.2.mem ((c.tc : Thread Cert.MixFfn.nD Cert.MixFfn.τ).loc Cert.MixFfn.main_arg11) = m ((c.tc : Thread Cert.MixFfn.nD Cert.MixFfn.τ).loc Cert.MixFfn.main_arg11)
      ∧ r.2.mem ((c.tc : Thread Cert.MixFfn.nD Cert.MixFfn.τ).loc Cert.MixFfn.main_arg12) = m ((c.tc : Thread Cert.MixFfn.nD Cert.MixFfn.τ).loc Cert.MixFfn.main_arg12)
      ∧ r.2.mem ((c.tc : Thread Cert.MixFfn.nD Cert.MixFfn.τ).loc Cert.MixFfn.main_arg13) = m ((c.tc : Thread Cert.MixFfn.nD Cert.MixFfn.τ).loc Cert.MixFfn.main_arg13))
      ∧ r.2.sem = fun _ => 0)

def quiescent_MixFfnIdeal [hMixFfnIdeal : Cert.MixFfnIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg), Pre_MixFfnIdeal m →
    θ_run (Cert.MixFfnIdeal.defs (F := Ideal)) (onTc (τ := Cert.MixFfnIdeal.τ) (Cert.MixFfnIdeal.main (F := Ideal))) ⟨m, fun _ => 0, g⟩ (fun r => (∀ c : Dev Cert.MixFfnIdeal.nD,
      r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
      ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
      ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
      ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
      ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
      ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
      ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6)
      ∧ r.2.mem ((c.tc : Thread Cert.MixFfnIdeal.nD Cert.MixFfnIdeal.τ).loc Cert.MixFfnIdeal.main_arg7) = m ((c.tc : Thread Cert.MixFfnIdeal.nD Cert.MixFfnIdeal.τ).loc Cert.MixFfnIdeal.main_arg7)
      ∧ r.2.mem ((c.tc : Thread Cert.MixFfnIdeal.nD Cert.MixFfnIdeal.τ).loc Cert.MixFfnIdeal.main_arg8) = m ((c.tc : Thread Cert.MixFfnIdeal.nD Cert.MixFfnIdeal.τ).loc Cert.MixFfnIdeal.main_arg8)
      ∧ r.2.mem ((c.tc : Thread Cert.MixFfnIdeal.nD Cert.MixFfnIdeal.τ).loc Cert.MixFfnIdeal.main_arg9) = m ((c.tc : Thread Cert.MixFfnIdeal.nD Cert.MixFfnIdeal.τ).loc Cert.MixFfnIdeal.main_arg9)
      ∧ r.2.mem ((c.tc : Thread Cert.MixFfnIdeal.nD Cert.MixFfnIdeal.τ).loc Cert.MixFfnIdeal.main_arg10) = m ((c.tc : Thread Cert.MixFfnIdeal.nD Cert.MixFfnIdeal.τ).loc Cert.MixFfnIdeal.main_arg10)
      ∧ r.2.mem ((c.tc : Thread Cert.MixFfnIdeal.nD Cert.MixFfnIdeal.τ).loc Cert.MixFfnIdeal.main_arg11) = m ((c.tc : Thread Cert.MixFfnIdeal.nD Cert.MixFfnIdeal.τ).loc Cert.MixFfnIdeal.main_arg11)
      ∧ r.2.mem ((c.tc : Thread Cert.MixFfnIdeal.nD Cert.MixFfnIdeal.τ).loc Cert.MixFfnIdeal.main_arg12) = m ((c.tc : Thread Cert.MixFfnIdeal.nD Cert.MixFfnIdeal.τ).loc Cert.MixFfnIdeal.main_arg12)
      ∧ r.2.mem ((c.tc : Thread Cert.MixFfnIdeal.nD Cert.MixFfnIdeal.τ).loc Cert.MixFfnIdeal.main_arg13) = m ((c.tc : Thread Cert.MixFfnIdeal.nD Cert.MixFfnIdeal.τ).loc Cert.MixFfnIdeal.main_arg13))
      ∧ r.2.sem = fun _ => 0)

def quiescent_MixFfnRefIdeal [hMixFfnRefIdeal : Cert.MixFfnRefIdeal.Facts] : Prop :=
  ∀ (m : (ℓ : Loc Cert.MixFfnRefIdeal.nD Cert.MixFfnRefIdeal.τ Cert.MixFfnRefIdeal.sig) → Buf (Elt Ideal) ℓ) (g : Dev Cert.MixFfnRefIdeal.nD → PrngReg), Pre_MixFfnRefIdeal m →
    θ_run (Cert.MixFfnRefIdeal.defs (F := Ideal)) (onTc (τ := Cert.MixFfnRefIdeal.τ) (Cert.MixFfnRefIdeal.main (F := Ideal))) ⟨m, fun _ => 0, g⟩ (fun r => (∀ c : Dev Cert.MixFfnRefIdeal.nD,
      r.2.mem ((c.tc : Thread Cert.MixFfnRefIdeal.nD Cert.MixFfnRefIdeal.τ).loc Cert.MixFfnRefIdeal.main_arg0) = m ((c.tc : Thread Cert.MixFfnRefIdeal.nD Cert.MixFfnRefIdeal.τ).loc Cert.MixFfnRefIdeal.main_arg0)
      ∧ r.2.mem ((c.tc : Thread Cert.MixFfnRefIdeal.nD Cert.MixFfnRefIdeal.τ).loc Cert.MixFfnRefIdeal.main_arg1) = m ((c.tc : Thread Cert.MixFfnRefIdeal.nD Cert.MixFfnRefIdeal.τ).loc Cert.MixFfnRefIdeal.main_arg1)
      ∧ r.2.mem ((c.tc : Thread Cert.MixFfnRefIdeal.nD Cert.MixFfnRefIdeal.τ).loc Cert.MixFfnRefIdeal.main_arg2) = m ((c.tc : Thread Cert.MixFfnRefIdeal.nD Cert.MixFfnRefIdeal.τ).loc Cert.MixFfnRefIdeal.main_arg2)
      ∧ r.2.mem ((c.tc : Thread Cert.MixFfnRefIdeal.nD Cert.MixFfnRefIdeal.τ).loc Cert.MixFfnRefIdeal.main_arg3) = m ((c.tc : Thread Cert.MixFfnRefIdeal.nD Cert.MixFfnRefIdeal.τ).loc Cert.MixFfnRefIdeal.main_arg3)
      ∧ r.2.mem ((c.tc : Thread Cert.MixFfnRefIdeal.nD Cert.MixFfnRefIdeal.τ).loc Cert.MixFfnRefIdeal.main_arg4) = m ((c.tc : Thread Cert.MixFfnRefIdeal.nD Cert.MixFfnRefIdeal.τ).loc Cert.MixFfnRefIdeal.main_arg4)
      ∧ r.2.mem ((c.tc : Thread Cert.MixFfnRefIdeal.nD Cert.MixFfnRefIdeal.τ).loc Cert.MixFfnRefIdeal.main_arg5) = m ((c.tc : Thread Cert.MixFfnRefIdeal.nD Cert.MixFfnRefIdeal.τ).loc Cert.MixFfnRefIdeal.main_arg5)
      ∧ r.2.mem ((c.tc : Thread Cert.MixFfnRefIdeal.nD Cert.MixFfnRefIdeal.τ).loc Cert.MixFfnRefIdeal.main_arg6) = m ((c.tc : Thread Cert.MixFfnRefIdeal.nD Cert.MixFfnRefIdeal.τ).loc Cert.MixFfnRefIdeal.main_arg6)
      ∧ r.2.mem ((c.tc : Thread Cert.MixFfnRefIdeal.nD Cert.MixFfnRefIdeal.τ).loc Cert.MixFfnRefIdeal.main_arg7) = m ((c.tc : Thread Cert.MixFfnRefIdeal.nD Cert.MixFfnRefIdeal.τ).loc Cert.MixFfnRefIdeal.main_arg7)
      ∧ r.2.mem ((c.tc : Thread Cert.MixFfnRefIdeal.nD Cert.MixFfnRefIdeal.τ).loc Cert.MixFfnRefIdeal.main_arg8) = m ((c.tc : Thread Cert.MixFfnRefIdeal.nD Cert.MixFfnRefIdeal.τ).loc Cert.MixFfnRefIdeal.main_arg8)
      ∧ r.2.mem ((c.tc : Thread Cert.MixFfnRefIdeal.nD Cert.MixFfnRefIdeal.τ).loc Cert.MixFfnRefIdeal.main_arg9) = m ((c.tc : Thread Cert.MixFfnRefIdeal.nD Cert.MixFfnRefIdeal.τ).loc Cert.MixFfnRefIdeal.main_arg9)
      ∧ r.2.mem ((c.tc : Thread Cert.MixFfnRefIdeal.nD Cert.MixFfnRefIdeal.τ).loc Cert.MixFfnRefIdeal.main_arg10) = m ((c.tc : Thread Cert.MixFfnRefIdeal.nD Cert.MixFfnRefIdeal.τ).loc Cert.MixFfnRefIdeal.main_arg10)
      ∧ r.2.mem ((c.tc : Thread Cert.MixFfnRefIdeal.nD Cert.MixFfnRefIdeal.τ).loc Cert.MixFfnRefIdeal.main_arg11) = m ((c.tc : Thread Cert.MixFfnRefIdeal.nD Cert.MixFfnRefIdeal.τ).loc Cert.MixFfnRefIdeal.main_arg11)
      ∧ r.2.mem ((c.tc : Thread Cert.MixFfnRefIdeal.nD Cert.MixFfnRefIdeal.τ).loc Cert.MixFfnRefIdeal.main_arg12) = m ((c.tc : Thread Cert.MixFfnRefIdeal.nD Cert.MixFfnRefIdeal.τ).loc Cert.MixFfnRefIdeal.main_arg12)
      ∧ r.2.mem ((c.tc : Thread Cert.MixFfnRefIdeal.nD Cert.MixFfnRefIdeal.τ).loc Cert.MixFfnRefIdeal.main_arg13) = m ((c.tc : Thread Cert.MixFfnRefIdeal.nD Cert.MixFfnRefIdeal.τ).loc Cert.MixFfnRefIdeal.main_arg13))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def preserves_Attention_AttentionIdeal : Prop :=
  True

def algebraic_AttentionIdeal_AttentionRefIdeal_pre_attention_operands [hAttentionIdeal : Cert.AttentionIdeal.Facts] [hAttentionRefIdeal : Cert.AttentionRefIdeal.Facts] [hPre_attention_operands : Cert.Pre_attention_operands.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_attention_operands m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)
      ∧ m' ((c.tc : Thread Cert.AttentionRefIdeal.nD Cert.AttentionRefIdeal.τ).loc Cert.AttentionRefIdeal.main_arg3) = m ((c.tc : Thread Cert.AttentionIdeal.nD Cert.AttentionIdeal.τ).loc Cert.AttentionIdeal.main_arg3)
      ∧ m' ((c.tc : Thread Cert.AttentionRefIdeal.nD Cert.AttentionRefIdeal.τ).loc Cert.AttentionRefIdeal.main_arg4) = m ((c.tc : Thread Cert.AttentionIdeal.nD Cert.AttentionIdeal.τ).loc Cert.AttentionIdeal.main_arg4)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v28) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2)
          ∧ r.2.mem ((c.tc : Thread Cert.AttentionRefIdeal.nD Cert.AttentionRefIdeal.τ).loc Cert.AttentionRefIdeal.main_arg3) = m' ((c.tc : Thread Cert.AttentionRefIdeal.nD Cert.AttentionRefIdeal.τ).loc Cert.AttentionRefIdeal.main_arg3)
          ∧ r.2.mem ((c.tc : Thread Cert.AttentionRefIdeal.nD Cert.AttentionRefIdeal.τ).loc Cert.AttentionRefIdeal.main_arg4) = m' ((c.tc : Thread Cert.AttentionRefIdeal.nD Cert.AttentionRefIdeal.τ).loc Cert.AttentionRefIdeal.main_arg4))

def preserves_MixFfn_MixFfnIdeal : Prop :=
  True

def algebraic_MixFfnIdeal_MixFfnRefIdeal [hMixFfnIdeal : Cert.MixFfnIdeal.Facts] [hMixFfnRefIdeal : Cert.MixFfnRefIdeal.Facts] : Prop :=
  ∀ (m : (ℓ : Loc Cert.MixFfnIdeal.nD Cert.MixFfnIdeal.τ Cert.MixFfnIdeal.sig) → Buf (Elt Ideal) ℓ) (g : Dev Cert.MixFfnIdeal.nD → PrngReg)
    (m' : (ℓ : Loc Cert.MixFfnRefIdeal.nD Cert.MixFfnRefIdeal.τ Cert.MixFfnRefIdeal.sig) → Buf (Elt Ideal) ℓ) (g' : Dev Cert.MixFfnRefIdeal.nD → PrngReg), Pre_MixFfnIdeal m →
    (∀ c : Dev Cert.MixFfnIdeal.nD,
      m' ((c.tc : Thread Cert.MixFfnRefIdeal.nD Cert.MixFfnRefIdeal.τ).loc Cert.MixFfnRefIdeal.main_arg0) = m ((c.tc : Thread Cert.MixFfnIdeal.nD Cert.MixFfnIdeal.τ).loc Cert.MixFfnIdeal.main_arg0)
      ∧ m' ((c.tc : Thread Cert.MixFfnRefIdeal.nD Cert.MixFfnRefIdeal.τ).loc Cert.MixFfnRefIdeal.main_arg1) = m ((c.tc : Thread Cert.MixFfnIdeal.nD Cert.MixFfnIdeal.τ).loc Cert.MixFfnIdeal.main_arg1)
      ∧ m' ((c.tc : Thread Cert.MixFfnRefIdeal.nD Cert.MixFfnRefIdeal.τ).loc Cert.MixFfnRefIdeal.main_arg2) = m ((c.tc : Thread Cert.MixFfnIdeal.nD Cert.MixFfnIdeal.τ).loc Cert.MixFfnIdeal.main_arg2)
      ∧ m' ((c.tc : Thread Cert.MixFfnRefIdeal.nD Cert.MixFfnRefIdeal.τ).loc Cert.MixFfnRefIdeal.main_arg3) = m ((c.tc : Thread Cert.MixFfnIdeal.nD Cert.MixFfnIdeal.τ).loc Cert.MixFfnIdeal.main_arg3)
      ∧ m' ((c.tc : Thread Cert.MixFfnRefIdeal.nD Cert.MixFfnRefIdeal.τ).loc Cert.MixFfnRefIdeal.main_arg4) = m ((c.tc : Thread Cert.MixFfnIdeal.nD Cert.MixFfnIdeal.τ).loc Cert.MixFfnIdeal.main_arg4)
      ∧ m' ((c.tc : Thread Cert.MixFfnRefIdeal.nD Cert.MixFfnRefIdeal.τ).loc Cert.MixFfnRefIdeal.main_arg5) = m ((c.tc : Thread Cert.MixFfnIdeal.nD Cert.MixFfnIdeal.τ).loc Cert.MixFfnIdeal.main_arg5)
      ∧ m' ((c.tc : Thread Cert.MixFfnRefIdeal.nD Cert.MixFfnRefIdeal.τ).loc Cert.MixFfnRefIdeal.main_arg6) = m ((c.tc : Thread Cert.MixFfnIdeal.nD Cert.MixFfnIdeal.τ).loc Cert.MixFfnIdeal.main_arg6)
      ∧ m' ((c.tc : Thread Cert.MixFfnRefIdeal.nD Cert.MixFfnRefIdeal.τ).loc Cert.MixFfnRefIdeal.main_arg7) = m ((c.tc : Thread Cert.MixFfnIdeal.nD Cert.MixFfnIdeal.τ).loc Cert.MixFfnIdeal.main_arg7)
      ∧ m' ((c.tc : Thread Cert.MixFfnRefIdeal.nD Cert.MixFfnRefIdeal.τ).loc Cert.MixFfnRefIdeal.main_arg8) = m ((c.tc : Thread Cert.MixFfnIdeal.nD Cert.MixFfnIdeal.τ).loc Cert.MixFfnIdeal.main_arg8)
      ∧ m' ((c.tc : Thread Cert.MixFfnRefIdeal.nD Cert.MixFfnRefIdeal.τ).loc Cert.MixFfnRefIdeal.main_arg9) = m ((c.tc : Thread Cert.MixFfnIdeal.nD Cert.MixFfnIdeal.τ).loc Cert.MixFfnIdeal.main_arg9)
      ∧ m' ((c.tc : Thread Cert.MixFfnRefIdeal.nD Cert.MixFfnRefIdeal.τ).loc Cert.MixFfnRefIdeal.main_arg10) = m ((c.tc : Thread Cert.MixFfnIdeal.nD Cert.MixFfnIdeal.τ).loc Cert.MixFfnIdeal.main_arg10)
      ∧ m' ((c.tc : Thread Cert.MixFfnRefIdeal.nD Cert.MixFfnRefIdeal.τ).loc Cert.MixFfnRefIdeal.main_arg11) = m ((c.tc : Thread Cert.MixFfnIdeal.nD Cert.MixFfnIdeal.τ).loc Cert.MixFfnIdeal.main_arg11)
      ∧ m' ((c.tc : Thread Cert.MixFfnRefIdeal.nD Cert.MixFfnRefIdeal.τ).loc Cert.MixFfnRefIdeal.main_arg12) = m ((c.tc : Thread Cert.MixFfnIdeal.nD Cert.MixFfnIdeal.τ).loc Cert.MixFfnIdeal.main_arg12)
      ∧ m' ((c.tc : Thread Cert.MixFfnRefIdeal.nD Cert.MixFfnRefIdeal.τ).loc Cert.MixFfnRefIdeal.main_arg13) = m ((c.tc : Thread Cert.MixFfnIdeal.nD Cert.MixFfnIdeal.τ).loc Cert.MixFfnIdeal.main_arg13)) →
    ∃ (v0 : (c : Dev Cert.MixFfnIdeal.nD) → Buf (Elt Ideal) ((c.tc : Thread Cert.MixFfnIdeal.nD Cert.MixFfnIdeal.τ).loc Cert.MixFfnIdeal.main_v27)),
      θ_run (Cert.MixFfnIdeal.defs (F := Ideal)) (onTc (τ := Cert.MixFfnIdeal.τ) (Cert.MixFfnIdeal.main (F := Ideal))) ⟨m, fun _ => 0, g⟩ (fun r => ∀ c : Dev Cert.MixFfnIdeal.nD,
          r.2.mem ((c.tc : Thread Cert.MixFfnIdeal.nD Cert.MixFfnIdeal.τ).loc Cert.MixFfnIdeal.main_v27) = v0 c
          ∧ r.2.mem ((c.tc : Thread Cert.MixFfnIdeal.nD Cert.MixFfnIdeal.τ).loc Cert.MixFfnIdeal.main_arg0) = m ((c.tc : Thread Cert.MixFfnIdeal.nD Cert.MixFfnIdeal.τ).loc Cert.MixFfnIdeal.main_arg0)
          ∧ r.2.mem ((c.tc : Thread Cert.MixFfnIdeal.nD Cert.MixFfnIdeal.τ).loc Cert.MixFfnIdeal.main_arg1) = m ((c.tc : Thread Cert.MixFfnIdeal.nD Cert.MixFfnIdeal.τ).loc Cert.MixFfnIdeal.main_arg1)
          ∧ r.2.mem ((c.tc : Thread Cert.MixFfnIdeal.nD Cert.MixFfnIdeal.τ).loc Cert.MixFfnIdeal.main_arg2) = m ((c.tc : Thread Cert.MixFfnIdeal.nD Cert.MixFfnIdeal.τ).loc Cert.MixFfnIdeal.main_arg2)
          ∧ r.2.mem ((c.tc : Thread Cert.MixFfnIdeal.nD Cert.MixFfnIdeal.τ).loc Cert.MixFfnIdeal.main_arg3) = m ((c.tc : Thread Cert.MixFfnIdeal.nD Cert.MixFfnIdeal.τ).loc Cert.MixFfnIdeal.main_arg3)
          ∧ r.2.mem ((c.tc : Thread Cert.MixFfnIdeal.nD Cert.MixFfnIdeal.τ).loc Cert.MixFfnIdeal.main_arg4) = m ((c.tc : Thread Cert.MixFfnIdeal.nD Cert.MixFfnIdeal.τ).loc Cert.MixFfnIdeal.main_arg4)
          ∧ r.2.mem ((c.tc : Thread Cert.MixFfnIdeal.nD Cert.MixFfnIdeal.τ).loc Cert.MixFfnIdeal.main_arg5) = m ((c.tc : Thread Cert.MixFfnIdeal.nD Cert.MixFfnIdeal.τ).loc Cert.MixFfnIdeal.main_arg5)
          ∧ r.2.mem ((c.tc : Thread Cert.MixFfnIdeal.nD Cert.MixFfnIdeal.τ).loc Cert.MixFfnIdeal.main_arg6) = m ((c.tc : Thread Cert.MixFfnIdeal.nD Cert.MixFfnIdeal.τ).loc Cert.MixFfnIdeal.main_arg6)
          ∧ r.2.mem ((c.tc : Thread Cert.MixFfnIdeal.nD Cert.MixFfnIdeal.τ).loc Cert.MixFfnIdeal.main_arg7) = m ((c.tc : Thread Cert.MixFfnIdeal.nD Cert.MixFfnIdeal.τ).loc Cert.MixFfnIdeal.main_arg7)
          ∧ r.2.mem ((c.tc : Thread Cert.MixFfnIdeal.nD Cert.MixFfnIdeal.τ).loc Cert.MixFfnIdeal.main_arg8) = m ((c.tc : Thread Cert.MixFfnIdeal.nD Cert.MixFfnIdeal.τ).loc Cert.MixFfnIdeal.main_arg8)
          ∧ r.2.mem ((c.tc : Thread Cert.MixFfnIdeal.nD Cert.MixFfnIdeal.τ).loc Cert.MixFfnIdeal.main_arg9) = m ((c.tc : Thread Cert.MixFfnIdeal.nD Cert.MixFfnIdeal.τ).loc Cert.MixFfnIdeal.main_arg9)
          ∧ r.2.mem ((c.tc : Thread Cert.MixFfnIdeal.nD Cert.MixFfnIdeal.τ).loc Cert.MixFfnIdeal.main_arg10) = m ((c.tc : Thread Cert.MixFfnIdeal.nD Cert.MixFfnIdeal.τ).loc Cert.MixFfnIdeal.main_arg10)
          ∧ r.2.mem ((c.tc : Thread Cert.MixFfnIdeal.nD Cert.MixFfnIdeal.τ).loc Cert.MixFfnIdeal.main_arg11) = m ((c.tc : Thread Cert.MixFfnIdeal.nD Cert.MixFfnIdeal.τ).loc Cert.MixFfnIdeal.main_arg11)
          ∧ r.2.mem ((c.tc : Thread Cert.MixFfnIdeal.nD Cert.MixFfnIdeal.τ).loc Cert.MixFfnIdeal.main_arg12) = m ((c.tc : Thread Cert.MixFfnIdeal.nD Cert.MixFfnIdeal.τ).loc Cert.MixFfnIdeal.main_arg12)
          ∧ r.2.mem ((c.tc : Thread Cert.MixFfnIdeal.nD Cert.MixFfnIdeal.τ).loc Cert.MixFfnIdeal.main_arg13) = m ((c.tc : Thread Cert.MixFfnIdeal.nD Cert.MixFfnIdeal.τ).loc Cert.MixFfnIdeal.main_arg13))
      ∧ θ_run (Cert.MixFfnRefIdeal.defs (F := Ideal)) (onTc (τ := Cert.MixFfnRefIdeal.τ) (Cert.MixFfnRefIdeal.main (F := Ideal))) ⟨m', fun _ => 0, g'⟩ (fun r => ∀ c : Dev Cert.MixFfnRefIdeal.nD,
          r.2.mem ((c.tc : Thread Cert.MixFfnRefIdeal.nD Cert.MixFfnRefIdeal.τ).loc Cert.MixFfnRefIdeal.main_v77) = v0 c
          ∧ r.2.mem ((c.tc : Thread Cert.MixFfnRefIdeal.nD Cert.MixFfnRefIdeal.τ).loc Cert.MixFfnRefIdeal.main_arg0) = m' ((c.tc : Thread Cert.MixFfnRefIdeal.nD Cert.MixFfnRefIdeal.τ).loc Cert.MixFfnRefIdeal.main_arg0)
          ∧ r.2.mem ((c.tc : Thread Cert.MixFfnRefIdeal.nD Cert.MixFfnRefIdeal.τ).loc Cert.MixFfnRefIdeal.main_arg1) = m' ((c.tc : Thread Cert.MixFfnRefIdeal.nD Cert.MixFfnRefIdeal.τ).loc Cert.MixFfnRefIdeal.main_arg1)
          ∧ r.2.mem ((c.tc : Thread Cert.MixFfnRefIdeal.nD Cert.MixFfnRefIdeal.τ).loc Cert.MixFfnRefIdeal.main_arg2) = m' ((c.tc : Thread Cert.MixFfnRefIdeal.nD Cert.MixFfnRefIdeal.τ).loc Cert.MixFfnRefIdeal.main_arg2)
          ∧ r.2.mem ((c.tc : Thread Cert.MixFfnRefIdeal.nD Cert.MixFfnRefIdeal.τ).loc Cert.MixFfnRefIdeal.main_arg3) = m' ((c.tc : Thread Cert.MixFfnRefIdeal.nD Cert.MixFfnRefIdeal.τ).loc Cert.MixFfnRefIdeal.main_arg3)
          ∧ r.2.mem ((c.tc : Thread Cert.MixFfnRefIdeal.nD Cert.MixFfnRefIdeal.τ).loc Cert.MixFfnRefIdeal.main_arg4) = m' ((c.tc : Thread Cert.MixFfnRefIdeal.nD Cert.MixFfnRefIdeal.τ).loc Cert.MixFfnRefIdeal.main_arg4)
          ∧ r.2.mem ((c.tc : Thread Cert.MixFfnRefIdeal.nD Cert.MixFfnRefIdeal.τ).loc Cert.MixFfnRefIdeal.main_arg5) = m' ((c.tc : Thread Cert.MixFfnRefIdeal.nD Cert.MixFfnRefIdeal.τ).loc Cert.MixFfnRefIdeal.main_arg5)
          ∧ r.2.mem ((c.tc : Thread Cert.MixFfnRefIdeal.nD Cert.MixFfnRefIdeal.τ).loc Cert.MixFfnRefIdeal.main_arg6) = m' ((c.tc : Thread Cert.MixFfnRefIdeal.nD Cert.MixFfnRefIdeal.τ).loc Cert.MixFfnRefIdeal.main_arg6)
          ∧ r.2.mem ((c.tc : Thread Cert.MixFfnRefIdeal.nD Cert.MixFfnRefIdeal.τ).loc Cert.MixFfnRefIdeal.main_arg7) = m' ((c.tc : Thread Cert.MixFfnRefIdeal.nD Cert.MixFfnRefIdeal.τ).loc Cert.MixFfnRefIdeal.main_arg7)
          ∧ r.2.mem ((c.tc : Thread Cert.MixFfnRefIdeal.nD Cert.MixFfnRefIdeal.τ).loc Cert.MixFfnRefIdeal.main_arg8) = m' ((c.tc : Thread Cert.MixFfnRefIdeal.nD Cert.MixFfnRefIdeal.τ).loc Cert.MixFfnRefIdeal.main_arg8)
          ∧ r.2.mem ((c.tc : Thread Cert.MixFfnRefIdeal.nD Cert.MixFfnRefIdeal.τ).loc Cert.MixFfnRefIdeal.main_arg9) = m' ((c.tc : Thread Cert.MixFfnRefIdeal.nD Cert.MixFfnRefIdeal.τ).loc Cert.MixFfnRefIdeal.main_arg9)
          ∧ r.2.mem ((c.tc : Thread Cert.MixFfnRefIdeal.nD Cert.MixFfnRefIdeal.τ).loc Cert.MixFfnRefIdeal.main_arg10) = m' ((c.tc : Thread Cert.MixFfnRefIdeal.nD Cert.MixFfnRefIdeal.τ).loc Cert.MixFfnRefIdeal.main_arg10)
          ∧ r.2.mem ((c.tc : Thread Cert.MixFfnRefIdeal.nD Cert.MixFfnRefIdeal.τ).loc Cert.MixFfnRefIdeal.main_arg11) = m' ((c.tc : Thread Cert.MixFfnRefIdeal.nD Cert.MixFfnRefIdeal.τ).loc Cert.MixFfnRefIdeal.main_arg11)
          ∧ r.2.mem ((c.tc : Thread Cert.MixFfnRefIdeal.nD Cert.MixFfnRefIdeal.τ).loc Cert.MixFfnRefIdeal.main_arg12) = m' ((c.tc : Thread Cert.MixFfnRefIdeal.nD Cert.MixFfnRefIdeal.τ).loc Cert.MixFfnRefIdeal.main_arg12)
          ∧ r.2.mem ((c.tc : Thread Cert.MixFfnRefIdeal.nD Cert.MixFfnRefIdeal.τ).loc Cert.MixFfnRefIdeal.main_arg13) = m' ((c.tc : Thread Cert.MixFfnRefIdeal.nD Cert.MixFfnRefIdeal.τ).loc Cert.MixFfnRefIdeal.main_arg13))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v67_0)) (v1 : (c : Dev Cert.InProjIdeal.nD) → Buf (Elt Ideal) ((c.tc : Thread Cert.InProjIdeal.nD Cert.InProjIdeal.τ).loc Cert.InProjIdeal.main_v67_1)) (v2 : (c : Dev Cert.InProjIdeal.nD) → Buf (Elt Ideal) ((c.tc : Thread Cert.InProjIdeal.nD Cert.InProjIdeal.τ).loc Cert.InProjIdeal.main_v67_2)) (v3 : (c : Dev Cert.InProjIdeal.nD) → Buf (Elt Ideal) ((c.tc : Thread Cert.InProjIdeal.nD Cert.InProjIdeal.τ).loc Cert.InProjIdeal.main_v67_3)) (v4 : (c : Dev Cert.InProjIdeal.nD) → Buf (Elt Ideal) ((c.tc : Thread Cert.InProjIdeal.nD Cert.InProjIdeal.τ).loc Cert.InProjIdeal.main_v67_4)) (v5 : (c : Dev Cert.InProjIdeal.nD) → Buf (Elt Ideal) ((c.tc : Thread Cert.InProjIdeal.nD Cert.InProjIdeal.τ).loc Cert.InProjIdeal.main_v67_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v67_0) = v0 c
          ∧ r.2.mem ((c.tc : Thread Cert.InProjIdeal.nD Cert.InProjIdeal.τ).loc Cert.InProjIdeal.main_v67_1) = v1 c
          ∧ r.2.mem ((c.tc : Thread Cert.InProjIdeal.nD Cert.InProjIdeal.τ).loc Cert.InProjIdeal.main_v67_2) = v2 c
          ∧ r.2.mem ((c.tc : Thread Cert.InProjIdeal.nD Cert.InProjIdeal.τ).loc Cert.InProjIdeal.main_v67_3) = v3 c
          ∧ r.2.mem ((c.tc : Thread Cert.InProjIdeal.nD Cert.InProjIdeal.τ).loc Cert.InProjIdeal.main_v67_4) = v4 c
          ∧ r.2.mem ((c.tc : Thread Cert.InProjIdeal.nD Cert.InProjIdeal.τ).loc Cert.InProjIdeal.main_v67_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v17) = v0 c
          ∧ r.2.mem ((c.tc : Thread Cert.InProjRefIdeal.nD Cert.InProjRefIdeal.τ).loc Cert.InProjRefIdeal.main_v169) = v1 c
          ∧ r.2.mem ((c.tc : Thread Cert.InProjRefIdeal.nD Cert.InProjRefIdeal.τ).loc Cert.InProjRefIdeal.main_v171) = v2 c
          ∧ r.2.mem ((c.tc : Thread Cert.InProjRefIdeal.nD Cert.InProjRefIdeal.τ).loc Cert.InProjRefIdeal.main_v172) = v3 c
          ∧ r.2.mem ((c.tc : Thread Cert.InProjRefIdeal.nD Cert.InProjRefIdeal.τ).loc Cert.InProjRefIdeal.main_v158) = v4 c
          ∧ r.2.mem ((c.tc : Thread Cert.InProjRefIdeal.nD Cert.InProjRefIdeal.τ).loc Cert.InProjRefIdeal.main_v164) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def Claim : Prop :=
  ∃ (hAttention : Cert.Attention.Facts) (hAttentionIdeal : Cert.AttentionIdeal.Facts) (hAttentionRefIdeal : Cert.AttentionRefIdeal.Facts) (hMixFfn : Cert.MixFfn.Facts) (hMixFfnIdeal : Cert.MixFfnIdeal.Facts) (hMixFfnRefIdeal : Cert.MixFfnRefIdeal.Facts) (hInProj : Cert.InProj.Facts) (hInProjIdeal : Cert.InProjIdeal.Facts) (hInProjRefIdeal : Cert.InProjRefIdeal.Facts) (hPre_attention_operands : Cert.Pre_attention_operands.Facts),
    quiescent_Attention (hAttention := hAttention)
    ∧ quiescent_AttentionIdeal (hAttentionIdeal := hAttentionIdeal)
    ∧ quiescent_AttentionIdeal_pre_attention_operands (hAttentionIdeal := hAttentionIdeal) (hPre_attention_operands := hPre_attention_operands)
    ∧ quiescent_AttentionRefIdeal (hAttentionRefIdeal := hAttentionRefIdeal)
    ∧ quiescent_AttentionRefIdeal_pre_attention_operands (hAttentionRefIdeal := hAttentionRefIdeal) (hPre_attention_operands := hPre_attention_operands)
    ∧ quiescent_MixFfn (hMixFfn := hMixFfn)
    ∧ quiescent_MixFfnIdeal (hMixFfnIdeal := hMixFfnIdeal)
    ∧ quiescent_MixFfnRefIdeal (hMixFfnRefIdeal := hMixFfnRefIdeal)
    ∧ quiescent_InProj (hInProj := hInProj)
    ∧ quiescent_InProjIdeal (hInProjIdeal := hInProjIdeal)
    ∧ quiescent_InProjRefIdeal (hInProjRefIdeal := hInProjRefIdeal)
    ∧ preserves_Attention_AttentionIdeal
    ∧ algebraic_AttentionIdeal_AttentionRefIdeal_pre_attention_operands (hAttentionIdeal := hAttentionIdeal) (hAttentionRefIdeal := hAttentionRefIdeal) (hPre_attention_operands := hPre_attention_operands)
    ∧ preserves_MixFfn_MixFfnIdeal
    ∧ algebraic_MixFfnIdeal_MixFfnRefIdeal (hMixFfnIdeal := hMixFfnIdeal) (hMixFfnRefIdeal := hMixFfnRefIdeal)
    ∧ preserves_InProj_InProjIdeal
    ∧ algebraic_InProjIdeal_InProjRefIdeal (hInProjIdeal := hInProjIdeal) (hInProjRefIdeal := hInProjRefIdeal)
-- ==== Pre_attention_operands.lean ====
abbrev S2x2x64x65536 : Shape := ⟨4, ![2, 2, 64, 65536]⟩
abbrev S2x2x8x65536 : Shape := ⟨4, ![2, 2, 8, 65536]⟩
abbrev S2x8x128 : Shape := ⟨3, ![2, 8, 128]⟩
abbrev S2x16384x128 : Shape := ⟨3, ![2, 16384, 128]⟩
abbrev S2x2x80x16384 : Shape := ⟨4, ![2, 2, 80, 16384]⟩
abbrev S_ : Shape := ⟨0, ![]⟩
abbrev S2x2x1x65536 : Shape := ⟨4, ![2, 2, 1, 65536]⟩
abbrev S2x2x65536 : Shape := ⟨3, ![2, 2, 65536]⟩
abbrev S2x2x1x16384 : Shape := ⟨4, ![2, 2, 1, 16384]⟩
abbrev S2x2x16384 : Shape := ⟨3, ![2, 2, 16384]⟩

class Facts : Prop where
  bitsLt_bf16_f32 : FTy.bits .bf16 < FTy.bits .f32
  bcast_S_S2x2x64x65536 : S_.BroadcastsInDim S2x2x64x65536 (![] : Fin 0 → Fin S2x2x64x65536.rank)
  slices_S2x2x8x65536_S2x2x1x65536_0_0_0_0 : S2x2x8x65536.Slices ![0, 0, 0, 0] S2x2x1x65536
  shapeCasts_S2x2x1x65536_S2x2x65536 : S2x2x1x65536.ShapeCasts S2x2x65536
  bcast_S_S2x2x65536 : S_.BroadcastsInDim S2x2x65536 (![] : Fin 0 → Fin S2x2x65536.rank)
  bcast_S_S2x16384x128 : S_.BroadcastsInDim S2x16384x128 (![] : Fin 0 → Fin S2x16384x128.rank)
  slices_S2x2x80x16384_S2x2x1x16384_0_0_64_0 : S2x2x80x16384.Slices ![0, 0, 64, 0] S2x2x1x16384
  shapeCasts_S2x2x1x16384_S2x2x16384 : S2x2x1x16384.ShapeCasts S2x2x16384
  bcast_S_S2x2x16384 : S_.BroadcastsInDim S2x2x16384 (![] : Fin 0 → Fin S2x2x16384.rank)

variable [Facts]

def fn {F : FTy → Type} [FloatOps F] (main_arg0 : FVec F S2x2x64x65536 .bf16) (main_arg1 : FVec F S2x2x8x65536 .f32) (main_arg2 : FVec F S2x8x128 .f32) (main_arg3 : FVec F S2x16384x128 .bf16) (main_arg4 : FVec F S2x2x80x16384 .bf16) : IVec S2x2x64x65536 1 × IVec S2x2x65536 1 × IVec S2x16384x128 1 × IVec S2x2x16384 1 :=
  let main_v0 : FVec F S2x2x64x65536 .f32 := (extf .f32 · bitsLt_bf16_f32) main_arg0
  let main_v1 : FVec F S2x2x64x65536 .f32 := Host.absf main_v0
  let main_cst : FVec F S_ .f32 := constant S_ .f32 0x7F800000#32
  let main_v2 : FVec F S2x2x64x65536 .f32 := broadcastInDim S2x2x64x65536 ![] bcast_S_S2x2x64x65536 main_cst
  let main_v3 : IVec S2x2x64x65536 1 := cmpf .olt main_v1 main_v2
  let main_v4 : FVec F S2x2x1x65536 .f32 := (extractStridedSlice S2x2x1x65536 ![0, 0, 0, 0] · slices_S2x2x8x65536_S2x2x1x65536_0_0_0_0) main_arg1
  let main_v5 : FVec F S2x2x65536 .f32 := shapeCast S2x2x65536 main_v4 shapeCasts_S2x2x1x65536_S2x2x65536
  let main_cst_0 : FVec F S_ .f32 := constant S_ .f32 0x00000000#32
  let main_v6 : FVec F S2x2x65536 .f32 := broadcastInDim S2x2x65536 ![] bcast_S_S2x2x65536 main_cst_0
  let main_v7 : IVec S2x2x65536 1 := cmpf .oge main_v5 main_v6
  let main_v8 : FVec F S2x16384x128 .f32 := (extf .f32 · bitsLt_bf16_f32) main_arg3
  let main_v9 : FVec F S2x16384x128 .f32 := Host.absf main_v8
  let main_cst_1 : FVec F S_ .f32 := constant S_ .f32 0x7F800000#32
  let main_v10 : FVec F S2x16384x128 .f32 := broadcastInDim S2x16384x128 ![] bcast_S_S2x16384x128 main_cst_1
  let main_v11 : IVec S2x16384x128 1 := cmpf .olt main_v9 main_v10
  let main_v12 : FVec F S2x2x1x16384 .bf16 := (extractStridedSlice S2x2x1x16384 ![0, 0, 64, 0] · slices_S2x2x80x16384_S2x2x1x16384_0_0_64_0) main_arg4
  let main_v13 : FVec F S2x2x16384 .bf16 := shapeCast S2x2x16384 main_v12 shapeCasts_S2x2x1x16384_S2x2x16384
  let main_v14 : FVec F S2x2x16384 .f32 := (extf .f32 · bitsLt_bf16_f32) main_v13
  let main_cst_2 : FVec F S_ .f32 := constant S_ .f32 0x3F800000#32
  let main_v15 : FVec F S2x2x16384 .f32 := broadcastInDim S2x2x16384 ![] bcast_S_S2x2x16384 main_cst_2
  let main_v16 : IVec S2x2x16384 1 := cmpf .oeq main_v14 main_v15
  (main_v3, main_v7, main_v11, main_v16)
-- ==== Attention.lean ====
abbrev S2x2x64x65536 : Shape := ⟨4, ![2, 2, 64, 65536]⟩
abbrev S2x2x8x65536 : Shape := ⟨4, ![2, 2, 8, 65536]⟩
abbrev S2x8x128 : Shape := ⟨3, ![2, 8, 128]⟩
abbrev S2x16384x128 : Shape := ⟨3, ![2, 16384, 128]⟩
abbrev S2x2x80x16384 : Shape := ⟨4, ![2, 2, 80, 16384]⟩
abbrev S2x16384x512 : Shape := ⟨3, ![2, 16384, 512]⟩
abbrev S1x1x64x1024 : Shape := ⟨4, ![1, 1, 64, 1024]⟩
abbrev S1x1x8x1024 : Shape := ⟨4, ![1, 1, 8, 1024]⟩
abbrev S1x8x128 : Shape := ⟨3, ![1, 8, 128]⟩
abbrev S1x16384x128 : Shape := ⟨3, ![1, 16384, 128]⟩
abbrev S1x1x80x16384 : Shape := ⟨4, ![1, 1, 80, 16384]⟩
abbrev S1x256x256 : Shape := ⟨3, ![1, 256, 256]⟩
abbrev S64x1024 : Shape := ⟨2, ![64, 1024]⟩
abbrev S128x1 : Shape := ⟨2, ![128, 1]⟩
abbrev S128x1024 : Shape := ⟨2, ![128, 1024]⟩
abbrev S1x128 : Shape := ⟨2, ![1, 128]⟩
abbrev S1x1x128 : Shape := ⟨3, ![1, 1, 128]⟩
abbrev S1 : Shape := ⟨1, ![1]⟩
abbrev S1x1 : Shape := ⟨2, ![1, 1]⟩
abbrev S1x1x1x1024 : Shape := ⟨4, ![1, 1, 1, 1024]⟩
abbrev S1x1024 : Shape := ⟨2, ![1, 1024]⟩
abbrev S80x1024 : Shape := ⟨2, ![80, 1024]⟩
abbrev S1x2048x128 : Shape := ⟨3, ![1, 2048, 128]⟩
abbrev S2048x128 : Shape := ⟨2, ![2048, 128]⟩
abbrev S2048x1024 : Shape := ⟨2, ![2048, 1024]⟩
abbrev S1x1x80x2048 : Shape := ⟨4, ![1, 1, 80, 2048]⟩
abbrev S80x2048 : Shape := ⟨2, ![80, 2048]⟩
abbrev S1024x128 : Shape := ⟨2, ![1024, 128]⟩
abbrev S256x64 : Shape := ⟨2, ![256, 64]⟩
abbrev S1x256x64 : Shape := ⟨3, ![1, 256, 64]⟩
abbrev S1x1x1024 : Shape := ⟨3, ![1, 1, 1024]⟩
abbrev S1x1x1 : Shape := ⟨3, ![1, 1, 1]⟩
abbrev S1024 : Shape := ⟨1, ![1024]⟩

abbrev nBuf : Space → Nat
  | .hbm => 6
  | .vmem => 12
  | .smem => 0
  | _ => 0

abbrev bufTy : (tb : Table) → Fin (tcTables nBuf tb) → BufTy
  | .hbm, ⟨0, _⟩ => ⟨S2x2x64x65536, .bf16⟩
  | .hbm, ⟨1, _⟩ => ⟨S2x2x8x65536, .f32⟩
  | .hbm, ⟨2, _⟩ => ⟨S2x8x128, .f32⟩
  | .hbm, ⟨3, _⟩ => ⟨S2x16384x128, .bf16⟩
  | .hbm, ⟨4, _⟩ => ⟨S2x2x80x16384, .bf16⟩
  | .hbm, ⟨5, _⟩ => ⟨S2x16384x512, .bf16⟩
  | .local _ .vmem, ⟨0, _⟩ => ⟨S1x1x64x1024, .bf16⟩
  | .local _ .vmem, ⟨1, _⟩ => ⟨S1x1x64x1024, .bf16⟩
  | .local _ .vmem, ⟨2, _⟩ => ⟨S1x1x8x1024, .f32⟩
  | .local _ .vmem, ⟨3, _⟩ => ⟨S1x1x8x1024, .f32⟩
  | .local _ .vmem, ⟨4, _⟩ => ⟨S1x8x128, .f32⟩
  | .local _ .vmem, ⟨5, _⟩ => ⟨S1x8x128, .f32⟩
  | .local _ .vmem, ⟨6, _⟩ => ⟨S1x16384x128, .bf16⟩
  | .local _ .vmem, ⟨7, _⟩ => ⟨S1x16384x128, .bf16⟩
  | .local _ .vmem, ⟨8, _⟩ => ⟨S1x1x80x16384, .bf16⟩
  | .local _ .vmem, ⟨9, _⟩ => ⟨S1x1x80x16384, .bf16⟩
  | .local _ .vmem, ⟨10, _⟩ => ⟨S1x256x256, .bf16⟩
  | .local _ .vmem, ⟨11, _⟩ => ⟨S1x256x256, .bf16⟩
  | _, _ => ⟨S2x2x64x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 64], ![false, false, false]⟩

@[reducible] def k0_t1_loop : Scf.Loop 32 :=
  let c0_i32_107 : BitVec 32 := 0#32
  let c7_i32 : BitVec 32 := 7#32
  let v201 : BitVec 32 := Scalar.addi c0_i32_107 c7_i32
  let c1_i32_108 : BitVec 32 := 1#32
  ⟨c0_i32_107, v201, c1_i32_108⟩
def k0_mult1 (k0_t1 : Fin k0_t1_loop.trips) : BitVec 32 :=
  let c0_i32_107 : BitVec 32 := 0#32
  let c1_i32_108 : BitVec 32 := 1#32
  let arg9 : BitVec 32 := Scf.iv c0_i32_107 c1_i32_108 k0_t1
  let c1_i32_129 : BitVec 32 := 1#32
  let v245 : BitVec 32 := Scalar.addi arg9 c1_i32_129
  let c2048_i32 : BitVec 32 := 2048#32
  let v246 : BitVec 32 := Scalar.muli v245 c2048_i32
  v246
def k0_off1 (k0_t1 : Fin k0_t1_loop.trips) : Fin 3 → Nat :=
  let c0_130 : Index := 0#32
  let c0_i32_107 : BitVec 32 := 0#32
  let c1_i32_108 : BitVec 32 := 1#32
  let arg9 : BitVec 32 := Scf.iv c0_i32_107 c1_i32_108 k0_t1
  let c1_i32_129 : BitVec 32 := 1#32
  let v245 : BitVec 32 := Scalar.addi arg9 c1_i32_129
  let c2048_i32 : BitVec 32 := 2048#32
  let v246 : BitVec 32 := Scalar.muli v245 c2048_i32
  let v247 : BitVec 32 := v246
  let v248 : Index := Scalar.indexCast v247
  let c0_131 : Index := 0#32
  ![0, v248.toNat, 0]
def k0_mult2 (k0_t1 : Fin k0_t1_loop.trips) : BitVec 32 :=
  let c0_i32_107 : BitVec 32 := 0#32
  let c1_i32_108 : BitVec 32 := 1#32
  let arg9 : BitVec 32 := Scf.iv c0_i32_107 c1_i32_108 k0_t1
  let c2048_i32_134 : BitVec 32 := 2048#32
  let v263 : BitVec 32 := Scalar.muli arg9 c2048_i32_134
  v263
def k0_off2 (k0_t1 : Fin k0_t1_loop.trips) : Fin 4 → Nat :=
  let c0_135 : Index := 0#32
  let c0_136 : Index := 0#32
  let c0_137 : Index := 0#32
  let c0_i32_107 : BitVec 32 := 0#32
  let c1_i32_108 : BitVec 32 := 1#32
  let arg9 : BitVec 32 := Scf.iv c0_i32_107 c1_i32_108 k0_t1
  let c2048_i32_134 : BitVec 32 := 2048#32
  let v263 : BitVec 32 := Scalar.muli arg9 c2048_i32_134
  let v264 : BitVec 32 := v263
  let v265 : Index := Scalar.indexCast v264
  ![0, 0, 0, v265.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x80x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttentionRefIdeal.lean ====
abbrev S2x2x64x65536 : Shape := ⟨4, ![2, 2, 64, 65536]⟩
abbrev S2x2x8x65536 : Shape := ⟨4, ![2, 2, 8, 65536]⟩
abbrev S2x8x128 : Shape := ⟨3, ![2, 8, 128]⟩
abbrev S2x16384x128 : Shape := ⟨3, ![2, 16384, 128]⟩
abbrev S2x2x80x16384 : Shape := ⟨4, ![2, 2, 80, 16384]⟩
abbrev S2x2x64x64x4x256 : Shape := ⟨6, ![2, 2, 64, 64, 4, 256]⟩
abbrev S2x64x256x2x4x64 : Shape := ⟨6, ![2, 64, 256, 2, 4, 64]⟩
abbrev S2x16384x2x4x64 : Shape := ⟨5, ![2, 16384, 2, 4, 64]⟩
abbrev S2x16384x2x64 : Shape := ⟨4, ![2, 16384, 2, 64]⟩
abbrev S2x2x64x16384 : Shape := ⟨4, ![2, 2, 64, 16384]⟩
abbrev S2x2x16384x16384x4 : Shape := ⟨5, ![2, 2, 16384, 16384, 4]⟩
abbrev S2x2x4x16384x16384 : Shape := ⟨5, ![2, 2, 4, 16384, 16384]⟩
abbrev S_ : Shape := ⟨0, ![]⟩
abbrev S2x2x4x16384 : Shape := ⟨4, ![2, 2, 4, 16384]⟩
abbrev S2x2x4x16384x1 : Shape := ⟨5, ![2, 2, 4, 16384, 1]⟩
abbrev S2x2x64x4x16384 : Shape := ⟨5, ![2, 2, 64, 4, 16384]⟩
abbrev S2x16384x512 : Shape := ⟨3, ![2, 16384, 512]⟩

abbrev nBuf : Space → Nat
  | .hbm => 38
  | .vmem => 0
  | .smem => 0
  | _ => 0

abbrev bufTy : (tb : Table) → Fin (tcTables nBuf tb) → BufTy
  | .hbm, ⟨0, _⟩ => ⟨S2x2x64x65536, .bf16⟩
  | .hbm, ⟨1, _⟩ => ⟨S2x2x8x65536, .f32⟩
  | .hbm, ⟨2, _⟩ => ⟨S2x8x128, .f32⟩
  | .hbm, ⟨3, _⟩ => ⟨S2x16384x128, .bf16⟩
  | .hbm, ⟨4, _⟩ => ⟨S2x2x80x16384, .bf16⟩
  | .hbm, ⟨5, _⟩ => ⟨S2x2x64x64x4x256, .bf16⟩
  | .hbm, ⟨6, _⟩ => ⟨S2x64x256x2x4x64, .bf16⟩
  | .hbm, ⟨7, _⟩ => ⟨S2x16384x2x4x64, .bf16⟩
  | .hbm, ⟨8, _⟩ => ⟨S2x16384x2x4x64, .f32⟩
  | .hbm, ⟨9, _⟩ => ⟨S2x16384x2x64, .bf16⟩
  | .hbm, ⟨10, _⟩ => ⟨S2x16384x2x64, .f32⟩
  | .hbm, ⟨11, _⟩ => ⟨S2x2x64x16384, .bf16⟩
  | .hbm, ⟨12, _⟩ => ⟨S2x16384x2x64, .bf16⟩
  | .hbm, ⟨13, _⟩ => ⟨S2x16384x2x64, .f32⟩
  | .hbm, ⟨14, _⟩ => ⟨S2x2x16384x16384x4, .f32⟩
  | .hbm, ⟨15, _⟩ => ⟨S2x2x4x16384x16384, .f32⟩
  | .hbm, ⟨16, _⟩ => ⟨S_, .f32⟩
  | .hbm, ⟨17, _⟩ => ⟨S_, .f32⟩
  | .hbm, ⟨18, _⟩ => ⟨S2x2x4x16384x16384, .f32⟩
  | .hbm, ⟨19, _⟩ => ⟨S2x2x4x16384x16384, .f32⟩
  | .hbm, ⟨20, _⟩ => ⟨S_, .f32⟩
  | .hbm, ⟨21, _⟩ => ⟨S2x2x4x16384, .f32⟩
  | .hbm, ⟨22, _⟩ => ⟨S_, .f32⟩
  | .hbm, ⟨23, _⟩ => ⟨S2x2x4x16384, .f32⟩
  | .hbm, ⟨24, _⟩ => ⟨S2x2x4x16384, .f32⟩
  | .hbm, ⟨25, _⟩ => ⟨S2x2x4x16384x1, .f32⟩
  | .hbm, ⟨26, _⟩ => ⟨S2x2x4x16384x16384, .f32⟩
  | .hbm, ⟨27, _⟩ => ⟨S2x2x4x16384x16384, .f32⟩
  | .hbm, ⟨28, _⟩ => ⟨S2x2x4x16384x16384, .f32⟩
  | .hbm, ⟨29, _⟩ => ⟨S_, .f32⟩
  | .hbm, ⟨30, _⟩ => ⟨S2x2x4x16384, .f32⟩
  | .hbm, ⟨31, _⟩ => ⟨S2x2x4x16384x1, .f32⟩
  | .hbm, ⟨32, _⟩ => ⟨S2x2x4x16384x16384, .f32⟩
  | .hbm, ⟨33, _⟩ => ⟨S2x2x4x16384x16384, .f32⟩
  | .hbm, ⟨34, _⟩ => ⟨S2x2x64x4x16384, .f32⟩
  | .hbm, ⟨35, _⟩ => ⟨S2x16384x2x4x64, .f32⟩
  | .hbm, ⟨36, _⟩ => ⟨S2x16384x512, .f32⟩
  | .hbm, ⟨37, _⟩ => ⟨S2x16384x512, .bf16⟩
  | _, _ => ⟨S2x2x64x65536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== MixFfn.lean ====
abbrev S32x2048x1024 : Shape := ⟨3, ![32, 2048, 1024]⟩
abbrev S65536x512 : Shape := ⟨2, ![65536, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S512 : Shape := ⟨1, ![512]⟩
abbrev S512x512 : Shape := ⟨2, ![512, 512]⟩
abbrev S_ : Shape := ⟨0, ![]⟩
abbrev S1024x1024 : Shape := ⟨2, ![1024, 1024]⟩
abbrev S512x1024 : Shape := ⟨2, ![512, 1024]⟩
abbrev S1024x2816 : Shape := ⟨2, ![1024, 2816]⟩
abbrev S2816x1024 : Shape := ⟨2, ![2816, 1024]⟩
abbrev S65536x1024 : Shape := ⟨2, ![65536, 1024]⟩
abbrev S1024x1408 : Shape := ⟨2, ![1024, 1408]⟩
abbrev S1408x1024 : Shape := ⟨2, ![1408, 1024]⟩
abbrev S512x1 : Shape := ⟨2, ![512, 1]⟩
abbrev S512x1408 : Shape := ⟨2, ![512, 1408]⟩

abbrev nBuf : Space → Nat
  | .hbm => 80
  | .vmem => 29
  | .smem => 0
  | _ => 0

abbrev bufTy : (tb : Table) → Fin (tcTables nBuf tb) → BufTy
  | .hbm, ⟨0, _⟩ => ⟨S32x2048x1024, .f32⟩
  | .hbm, ⟨1, _⟩ => ⟨S65536x512, .f32⟩
  | .hbm, ⟨2, _⟩ => ⟨S65536x512, .f32⟩
  | .hbm, ⟨3, _⟩ => ⟨S65536x512, .bf16⟩
  | .hbm, ⟨4, _⟩ => ⟨S65536x512, .bf16⟩
  | .hbm, ⟨5, _⟩ => ⟨S65536x512, .bf16⟩
  | .hbm, ⟨6, _⟩ => ⟨S1x512, .f32⟩
  | .hbm, ⟨7, _⟩ => ⟨S1x512, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024, .f32⟩
  | .hbm, ⟨14, _⟩ => ⟨S512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S512x512, .i32⟩
  | .hbm, ⟨19, _⟩ => ⟨S_, .i32⟩
  | .hbm, ⟨20, _⟩ => ⟨S_, .i32⟩
  | .hbm, ⟨21, _⟩ => ⟨S512x512, .i32⟩
  | .hbm, ⟨22, _⟩ => ⟨S512x512, .i32⟩
  | .hbm, ⟨23, _⟩ => ⟨S512x512, .i32⟩
  | .hbm, ⟨24, _⟩ => ⟨S_, .i32⟩
  | .hbm, ⟨25, _⟩ => ⟨S512x512, .i32⟩
  | .hbm, ⟨26, _⟩ => ⟨S512x512, .i1⟩
  | .hbm, ⟨27, _⟩ => ⟨S512x512, .i32⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i1⟩
  | .hbm, ⟨32, _⟩ => ⟨S512x512, .i1⟩
  | .hbm, ⟨33, _⟩ => ⟨S_, .i32⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S512x512, .i32⟩
  | .hbm, ⟨38, _⟩ => ⟨S_, .i32⟩
  | .hbm, ⟨39, _⟩ => ⟨S_, .i32⟩
  | .hbm, ⟨40, _⟩ => ⟨S512x512, .i32⟩
  | .hbm, ⟨41, _⟩ => ⟨S512x512, .i32⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i1⟩
  | .hbm, ⟨46, _⟩ => ⟨S512x512, .i32⟩
  | .hbm, ⟨47, _⟩ => ⟨S512x512, .i32⟩
  | .hbm, ⟨48, _⟩ => ⟨S_, .i32⟩
  | .hbm, ⟨49, _⟩ => ⟨S512x512, .i32⟩
  | .hbm, ⟨50, _⟩ => ⟨S512x512, .i1⟩
  | .hbm, ⟨51, _⟩ => ⟨S512x512, .i1⟩
  | .hbm, ⟨52, _⟩ => ⟨S_, .i32⟩
  | .hbm, ⟨53, _⟩ => ⟨S512x512, .i32⟩
  | .hbm, ⟨54, _⟩ => ⟨S512x512, .i32⟩
  | .hbm, ⟨55, _⟩ => ⟨S512x512, .i32⟩
  | .hbm, ⟨56, _⟩ => ⟨S512x512, .i1⟩
  | .hbm, ⟨57, _⟩ => ⟨S_, .f32⟩
  | .hbm, ⟨58, _⟩ => ⟨S_, .f32⟩
  | .hbm, ⟨59, _⟩ => ⟨S512x512, .f32⟩
  | .hbm, ⟨60, _⟩ => ⟨S512x512, .f32⟩
  | .hbm, ⟨61, _⟩ => ⟨S512x512, .f32⟩
  | .hbm, ⟨62, _⟩ => ⟨S512x512, .bf16⟩
  | .hbm, ⟨63, _⟩ => ⟨S1024x1024, .f32⟩
  | .hbm, ⟨64, _⟩ => ⟨S512x1024, .f32⟩
  | .hbm, ⟨65, _⟩ => ⟨S512x1024, .bf16⟩
  | .hbm, ⟨66, _⟩ => ⟨S1024x1024, .f32⟩
  | .hbm, ⟨67, _⟩ => ⟨S512x1024, .f32⟩
  | .hbm, ⟨68, _⟩ => ⟨S512x1024, .bf16⟩
  | .hbm, ⟨69, _⟩ => ⟨S1024, .f32⟩
  | .hbm, ⟨70, _⟩ => ⟨S1x1024, .f32⟩
  | .hbm, ⟨71, _⟩ => ⟨S1024x2816, .f32⟩
  | .hbm, ⟨72, _⟩ => ⟨S1024x2816, .bf16⟩
  | .hbm, ⟨73, _⟩ => ⟨S1024x2816, .f32⟩
  | .hbm, ⟨74, _⟩ => ⟨S1024x2816, .bf16⟩
  | .hbm, ⟨75, _⟩ => ⟨S2816x1024, .f32⟩
  | .hbm, ⟨76, _⟩ => ⟨S2816x1024, .bf16⟩
  | .hbm, ⟨77, _⟩ => ⟨S1x1024, .f32⟩
  | .hbm, ⟨78, _⟩ => ⟨S65536x1024, .f32⟩
  | .hbm, ⟨79, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1024x1408, .bf16⟩
  | .local _ .vmem, ⟨19, _⟩ => ⟨S1024x1408, .bf16⟩
  | .local _ .vmem, ⟨20, _⟩ => ⟨S1024x1408, .bf16⟩
  | .local _ .vmem, ⟨21, _⟩ => ⟨S1024x1408, .bf16⟩
  | .local _ .vmem, ⟨22, _⟩ => ⟨S1408x1024, .bf16⟩
  | .local _ .vmem, ⟨23, _⟩ => ⟨S1408x1024, .bf16⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v5 : Ref sig .tc := ⟨.hbm, 36, rfl⟩
abbrev main_v6 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v7 : Ref sig .tc := ⟨.hbm, 55, rfl⟩
abbrev main_v8 : Ref sig .tc := ⟨.hbm, 56, rfl⟩
abbrev main_cst : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![128, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1408x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== MixFfnRefIdeal.lean ====
abbrev S32x2048x1024 : Shape := ⟨3, ![32, 2048, 1024]⟩
abbrev S65536x512 : Shape := ⟨2, ![65536, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32x2048x8x64 : Shape := ⟨4, ![32, 2048, 8, 64]⟩
abbrev S_ : Shape := ⟨0, ![]⟩
abbrev S32x2048x8 : Shape := ⟨3, ![32, 2048, 8]⟩
abbrev S32x2048x8x1 : Shape := ⟨4, ![32, 2048, 8, 1]⟩
abbrev S32x2048x512 : Shape := ⟨3, ![32, 2048, 512]⟩
abbrev S512 : Shape := ⟨1, ![512]⟩
abbrev S1x1x512 : Shape := ⟨3, ![1, 1, 512]⟩
abbrev S1024x1024 : Shape := ⟨2, ![1024, 1024]⟩
abbrev S32x2048 : Shape := ⟨2, ![32, 2048]⟩
abbrev S32x2048x1 : Shape := ⟨3, ![32, 2048, 1]⟩
abbrev S1x1x1024 : Shape := ⟨3, ![1, 1, 1024]⟩
abbrev S1024x2816 : Shape := ⟨2, ![1024, 2816]⟩
abbrev S32x2048x2816 : Shape := ⟨3, ![32, 2048, 2816]⟩
abbrev S2816x1024 : Shape := ⟨2, ![2816, 1024]⟩
abbrev S65536x1024 : Shape := ⟨2, ![65536, 1024]⟩

abbrev nBuf : Space → Nat
  | .hbm => 111
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S65536x512, .f32⟩
  | .hbm, ⟨2, _⟩ => ⟨S65536x512, .f32⟩
  | .hbm, ⟨3, _⟩ => ⟨S65536x512, .bf16⟩
  | .hbm, ⟨4, _⟩ => ⟨S65536x512, .bf16⟩
  | .hbm, ⟨5, _⟩ => ⟨S65536x512, .bf16⟩
  | .hbm, ⟨6, _⟩ => ⟨S1x512, .f32⟩
  | .hbm, ⟨7, _⟩ => ⟨S1x512, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024, .f32⟩
  | .hbm, ⟨14, _⟩ => ⟨S65536x512, .f32⟩
  | .hbm, ⟨15, _⟩ => ⟨S32x2048x8x64, .f32⟩
  | .hbm, ⟨16, _⟩ => ⟨S_, .f32⟩
  | .hbm, ⟨17, _⟩ => ⟨S32x2048x8, .f32⟩
  | .hbm, ⟨18, _⟩ => ⟨S32x2048x8x1, .f32⟩
  | .hbm, ⟨19, _⟩ => ⟨S_, .f32⟩
  | .hbm, ⟨20, _⟩ => ⟨S32x2048x8x1, .f32⟩
  | .hbm, ⟨21, _⟩ => ⟨S32x2048x8x1, .f32⟩
  | .hbm, ⟨22, _⟩ => ⟨S32x2048x8x64, .f32⟩
  | .hbm, ⟨23, _⟩ => ⟨S32x2048x8x64, .f32⟩
  | .hbm, ⟨24, _⟩ => ⟨S32x2048x8x64, .f32⟩
  | .hbm, ⟨25, _⟩ => ⟨S_, .f32⟩
  | .hbm, ⟨26, _⟩ => ⟨S32x2048x8, .f32⟩
  | .hbm, ⟨27, _⟩ => ⟨S32x2048x8x1, .f32⟩
  | .hbm, ⟨28, _⟩ => ⟨S_, .f32⟩
  | .hbm, ⟨29, _⟩ => ⟨S32x2048x8x1, .f32⟩
  | .hbm, ⟨30, _⟩ => ⟨S32x2048x8x1, .f32⟩
  | .hbm, ⟨31, _⟩ => ⟨S32x2048x8x64, .f32⟩
  | .hbm, ⟨32, _⟩ => ⟨S32x2048x8x64, .f32⟩
  | .hbm, ⟨33, _⟩ => ⟨S_, .f32⟩
  | .hbm, ⟨34, _⟩ => ⟨S32x2048x8x1, .f32⟩
  | .hbm, ⟨35, _⟩ => ⟨S32x2048x8x1, .f32⟩
  | .hbm, ⟨36, _⟩ => ⟨S32x2048x8x1, .f32⟩
  | .hbm, ⟨37, _⟩ => ⟨S32x2048x8x64, .f32⟩
  | .hbm, ⟨38, _⟩ => ⟨S32x2048x8x64, .f32⟩
  | .hbm, ⟨39, _⟩ => ⟨S32x2048x512, .f32⟩
  | .hbm, ⟨40, _⟩ => ⟨S512, .f32⟩
  | .hbm, ⟨41, _⟩ => ⟨S1x1x512, .f32⟩
  | .hbm, ⟨42, _⟩ => ⟨S32x2048x512, .f32⟩
  | .hbm, ⟨43, _⟩ => ⟨S32x2048x512, .f32⟩
  | .hbm, ⟨44, _⟩ => ⟨S512, .f32⟩
  | .hbm, ⟨45, _⟩ => ⟨S1x1x512, .f32⟩
  | .hbm, ⟨46, _⟩ => ⟨S32x2048x512, .f32⟩
  | .hbm, ⟨47, _⟩ => ⟨S32x2048x512, .f32⟩
  | .hbm, ⟨48, _⟩ => ⟨S65536x512, .f32⟩
  | .hbm, ⟨49, _⟩ => ⟨S32x2048x512, .f32⟩
  | .hbm, ⟨50, _⟩ => ⟨S32x2048x512, .f32⟩
  | .hbm, ⟨51, _⟩ => ⟨S65536x512, .f32⟩
  | .hbm, ⟨52, _⟩ => ⟨S32x2048x512, .f32⟩
  | .hbm, ⟨53, _⟩ => ⟨S32x2048x512, .f32⟩
  | .hbm, ⟨54, _⟩ => ⟨S65536x512, .f32⟩
  | .hbm, ⟨55, _⟩ => ⟨S32x2048x512, .f32⟩
  | .hbm, ⟨56, _⟩ => ⟨S32x2048x1024, .f32⟩
  | .hbm, ⟨57, _⟩ => ⟨S1024x1024, .f32⟩
  | .hbm, ⟨58, _⟩ => ⟨S32x2048x1024, .f32⟩
  | .hbm, ⟨59, _⟩ => ⟨S32x2048x1024, .f32⟩
  | .hbm, ⟨60, _⟩ => ⟨S1024, .f32⟩
  | .hbm, ⟨61, _⟩ => ⟨S32x2048x1024, .f32⟩
  | .hbm, ⟨62, _⟩ => ⟨S_, .f32⟩
  | .hbm, ⟨63, _⟩ => ⟨S32x2048, .f32⟩
  | .hbm, ⟨64, _⟩ => ⟨S32x2048x1, .f32⟩
  | .hbm, ⟨65, _⟩ => ⟨S_, .f32⟩
  | .hbm, ⟨66, _⟩ => ⟨S32x2048x1, .f32⟩
  | .hbm, ⟨67, _⟩ => ⟨S32x2048x1, .f32⟩
  | .hbm, ⟨68, _⟩ => ⟨S_, .f32⟩
  | .hbm, ⟨69, _⟩ => ⟨S32x2048x1, .f32⟩
  | .hbm, ⟨70, _⟩ => ⟨S32x2048x1, .f32⟩
  | .hbm, ⟨71, _⟩ => ⟨S32x2048x1, .f32⟩
  | .hbm, ⟨72, _⟩ => ⟨S32x2048x1024, .f32⟩
  | .hbm, ⟨73, _⟩ => ⟨S32x2048x1024, .f32⟩
  | .hbm, ⟨74, _⟩ => ⟨S1x1x1024, .f32⟩
  | .hbm, ⟨75, _⟩ => ⟨S32x2048x1024, .f32⟩
  | .hbm, ⟨76, _⟩ => ⟨S32x2048x1024, .f32⟩
  | .hbm, ⟨77, _⟩ => ⟨S1024x2816, .f32⟩
  | .hbm, ⟨78, _⟩ => ⟨S32x2048x2816, .f32⟩
  | .hbm, ⟨79, _⟩ => ⟨S32x2048x2816, .f32⟩
  | .hbm, ⟨80, _⟩ => ⟨S32x2048x2816, .f32⟩
  | .hbm, ⟨81, _⟩ => ⟨S_, .f32⟩
  | .hbm, ⟨82, _⟩ => ⟨S32x2048x2816, .f32⟩
  | .hbm, ⟨83, _⟩ => ⟨S32x2048x2816, .f32⟩
  | .hbm, ⟨84, _⟩ => ⟨S_, .f32⟩
  | .hbm, ⟨85, _⟩ => ⟨S32x2048x2816, .f32⟩
  | .hbm, ⟨86, _⟩ => ⟨S32x2048x2816, .f32⟩
  | .hbm, ⟨87, _⟩ => ⟨S32x2048x2816, .f32⟩
  | .hbm, ⟨88, _⟩ => ⟨S1024x2816, .f32⟩
  | .hbm, ⟨89, _⟩ => ⟨S32x2048x2816, .f32⟩
  | .hbm, ⟨90, _⟩ => ⟨S32x2048x2816, .f32⟩
  | .hbm, ⟨91, _⟩ => ⟨S2816x1024, .f32⟩
  | .hbm, ⟨92, _⟩ => ⟨S32x2048x1024, .f32⟩
  | .hbm, ⟨93, _⟩ => ⟨S32x2048x1024, .f32⟩
  | .hbm, ⟨94, _⟩ => ⟨S32x2048x1024, .f32⟩
  | .hbm, ⟨95, _⟩ => ⟨S_, .f32⟩
  | .hbm, ⟨96, _⟩ => ⟨S32x2048, .f32⟩
  | .hbm, ⟨97, _⟩ => ⟨S32x2048x1, .f32⟩
  | .hbm, ⟨98, _⟩ => ⟨S_, .f32⟩
  | .hbm, ⟨99, _⟩ => ⟨S32x2048x1, .f32⟩
  | .hbm, ⟨100, _⟩ => ⟨S32x2048x1, .f32⟩
  | .hbm, ⟨101, _⟩ => ⟨S_, .f32⟩
  | .hbm, ⟨102, _⟩ => ⟨S32x2048x1, .f32⟩
  | .hbm, ⟨103, _⟩ => ⟨S32x2048x1, .f32⟩
  | .hbm, ⟨104, _⟩ => ⟨S32x2048x1, .f32⟩
  | .hbm, ⟨105, _⟩ => ⟨S32x2048x1024, .f32⟩
  | .hbm, ⟨106, _⟩ => ⟨S32x2048x1024, .f32⟩
  | .hbm, ⟨107, _⟩ => ⟨S1x1x1024, .f32⟩
  | .hbm, ⟨108, _⟩ => ⟨S32x2048x1024, .f32⟩
  | .hbm, ⟨109, _⟩ => ⟨S32x2048x1024, .f32⟩
  | .hbm, ⟨110, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_7 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_v68 : Ref sig .tc := ⟨.hbm, 100, rfl⟩
abbrev main_cst_9 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]
-- ==== InProj.lean ====
abbrev S32x2048x1024 : Shape := ⟨3, ![32, 2048, 1024]⟩
abbrev S1x1024 : Shape := ⟨2, ![1, 1024]⟩
abbrev S1x1024x2688 : Shape := ⟨3, ![1, 1024, 2688]⟩
abbrev S1x64 : Shape := ⟨2, ![1, 64]⟩
abbrev S1024 : Shape := ⟨1, ![1024]⟩
abbrev S1024x2688 : Shape := ⟨2, ![1024, 2688]⟩
abbrev S1024x1920 : Shape := ⟨2, ![1024, 1920]⟩
abbrev S1024x768 : Shape := ⟨2, ![1024, 768]⟩
abbrev S64 : Shape := ⟨1, ![64]⟩
abbrev S_ : Shape := ⟨0, ![]⟩
abbrev S8x64 : Shape := ⟨2, ![8, 64]⟩
abbrev S512 : Shape := ⟨1, ![512]⟩
abbrev S2x64 : Shape := ⟨2, ![2, 64]⟩
abbrev S128 : Shape := ⟨1, ![128]⟩
abbrev S640 : Shape := ⟨1, ![640]⟩
abbrev S1x640 : Shape := ⟨2, ![1, 640]⟩
abbrev S640x640 : Shape := ⟨2, ![640, 640]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S65536x1024 : Shape := ⟨2, ![65536, 1024]⟩
abbrev S65536x1920 : Shape := ⟨2, ![65536, 1920]⟩
abbrev S32x2x64x8192 : Shape := ⟨4, ![32, 2, 64, 8192]⟩
abbrev S32x2048x128 : Shape := ⟨3, ![32, 2048, 128]⟩
abbrev S32x2x80x2048 : Shape := ⟨4, ![32, 2, 80, 2048]⟩
abbrev S32x2x8x8192 : Shape := ⟨4, ![32, 2, 8, 8192]⟩
abbrev S32x8x128 : Shape := ⟨3, ![32, 8, 128]⟩
abbrev S1024x1024 : Shape := ⟨2, ![1024, 1024]⟩
abbrev S1024x128 : Shape := ⟨2, ![1024, 128]⟩
abbrev S1x2x64x4096 : Shape := ⟨4, ![1, 2, 64, 4096]⟩
abbrev S1x1024x128 : Shape := ⟨3, ![1, 1024, 128]⟩
abbrev S1x2x80x1024 : Shape := ⟨4, ![1, 2, 80, 1024]⟩
abbrev S1x2x8x4096 : Shape := ⟨4, ![1, 2, 8, 4096]⟩
abbrev S1x8x128 : Shape := ⟨3, ![1, 8, 128]⟩
abbrev S1024x1 : Shape := ⟨2, ![1024, 1]⟩
abbrev S1024x640 : Shape := ⟨2, ![1024, 640]⟩
abbrev S512x128 : Shape := ⟨2, ![512, 128]⟩
abbrev S128x512 : Shape := ⟨2, ![128, 512]⟩
abbrev S64x512 : Shape := ⟨2, ![64, 512]⟩
abbrev S1x1x64x512 : Shape := ⟨4, ![1, 1, 64, 512]⟩
abbrev S1x512 : Shape := ⟨2, ![1, 512]⟩
abbrev S8x512 : Shape := ⟨2, ![8, 512]⟩
abbrev S1x1x8x512 : Shape := ⟨4, ![1, 1, 8, 512]⟩
abbrev S128x128 : Shape := ⟨2, ![128, 128]⟩
abbrev S1x128 : Shape := ⟨2, ![1, 128]⟩
abbrev S8x128 : Shape := ⟨2, ![8, 128]⟩
abbrev S128x1024 : Shape := ⟨2, ![128, 1024]⟩
abbrev S16x1024 : Shape := ⟨2, ![16, 1024]⟩
abbrev S64x1024 : Shape := ⟨2, ![64, 1024]⟩
abbrev S1x1x64x1024 : Shape := ⟨4, ![1, 1, 64, 1024]⟩
abbrev S1x1x16x1024 : Shape := ⟨4, ![1, 1, 16, 1024]⟩

abbrev nBuf : Space → Nat
  | .hbm => 157
  | .vmem => 23
  | .smem => 0
  | _ => 0

abbrev hbmTy0_0 (i : Nat) : BufTy := match i % 128 with
  | 0 => ⟨S32x2048x1024, .f32⟩
  | 1 => ⟨S1x1024, .f32⟩
  | 2 => ⟨S1x1024x2688, .f32⟩
  | 3 => ⟨S1x64, .f32⟩
  | 4 => ⟨S1x64, .f32⟩
  | 5 => ⟨S1024, .f32⟩
  | 6 => ⟨S1x1024, .f32⟩
  | 7 => ⟨S1024x2688, .f32⟩
  | 8 => ⟨S1024x1920, .f32⟩
  | 9 => ⟨S1024x1920, .bf16⟩
  | 10 => ⟨S1024x2688, .f32⟩
  | 11 => ⟨S1024x768, .f32⟩
  | 12 => ⟨S1024x768, .bf16⟩
  | 13 => ⟨S64, .f32⟩
  | 14 => ⟨S_, .f32⟩
  | 15 => ⟨S64, .f32⟩
  | 16 => ⟨S64, .f32⟩
  | 17 => ⟨S1x64, .f32⟩
  | 18 => ⟨S8x64, .f32⟩
  | 19 => ⟨S512, .f32⟩
  | 20 => ⟨S64, .f32⟩
  | 21 => ⟨S1x64, .f32⟩
  | 22 => ⟨S2x64, .f32⟩
  | 23 => ⟨S128, .f32⟩
  | 24 => ⟨S640, .f32⟩
  | 25 => ⟨S1x640, .f32⟩
  | 26 => ⟨S640x640, .i32⟩
  | 27 => ⟨S_, .i32⟩
  | 28 => ⟨S_, .i32⟩
  | 29 => ⟨S640x640, .i32⟩
  | 30 => ⟨S640x640, .i32⟩
  | 31 => ⟨S640x640, .i32⟩
  | 32 => ⟨S_, .i32⟩
  | 33 => ⟨S640x640, .i32⟩
  | 34 => ⟨S640x640, .i1⟩
  | 35 => ⟨S640x640, .i32⟩
  | 36 => ⟨S640x640, .i32⟩
  | 37 => ⟨S_, .i32⟩
  | 38 => ⟨S640x640, .i32⟩
  | 39 => ⟨S640x640, .i1⟩
  | 40 => ⟨S640x640, .i1⟩
  | 41 => ⟨S_, .i32⟩
  | 42 => ⟨S640x640, .i32⟩
  | 43 => ⟨S640x640, .i32⟩
  | 44 => ⟨S640x640, .i32⟩
  | 45 => ⟨S640x640, .i32⟩
  | 46 => ⟨S_, .i32⟩
  | 47 => ⟨S_, .i32⟩
  | 48 => ⟨S640x640, .i32⟩
  | 49 => ⟨S640x640, .i32⟩
  | 50 => ⟨S640x640, .i32⟩
  | 51 => ⟨S_, .i32⟩
  | 52 => ⟨S640x640, .i32⟩
  | 53 => ⟨S640x640, .i1⟩
  | 54 => ⟨S640x640, .i32⟩
  | 55 => ⟨S640x640, .i32⟩
  | 56 => ⟨S_, .i32⟩
  | 57 => ⟨S640x640, .i32⟩
  | 58 => ⟨S640x640, .i1⟩
  | 59 => ⟨S640x640, .i1⟩
  | 60 => ⟨S_, .i32⟩
  | 61 => ⟨S640x640, .i32⟩
  | 62 => ⟨S640x640, .i32⟩
  | 63 => ⟨S640x640, .i32⟩
  | 64 => ⟨S640x640, .i1⟩
  | 65 => ⟨S_, .f32⟩
  | 66 => ⟨S_, .f32⟩
  | 67 => ⟨S640x640, .f32⟩
  | 68 => ⟨S640x640, .f32⟩
  | 69 => ⟨S640x640, .f32⟩
  | 70 => ⟨S640x640, .bf16⟩
  | 71 => ⟨S2048, .i32⟩
  | 72 => ⟨S_, .i32⟩
  | 73 => ⟨S_, .i32⟩
  | 74 => ⟨S2048, .i32⟩
  | 75 => ⟨S2048, .i32⟩
  | 76 => ⟨S2048, .i32⟩
  | 77 => ⟨S_, .i32⟩
  | 78 => ⟨S2048, .i32⟩
  | 79 => ⟨S2048, .i1⟩
  | 80 => ⟨S2048, .i32⟩
  | 81 => ⟨S2048, .i32⟩
  | 82 => ⟨S_, .i32⟩
  | 83 => ⟨S2048, .i32⟩
  | 84 => ⟨S2048, .i1⟩
  | 85 => ⟨S2048, .i1⟩
  | 86 => ⟨S_, .i32⟩
  | 87 => ⟨S2048, .i32⟩
  | 88 => ⟨S2048, .i32⟩
  | 89 => ⟨S2048, .i32⟩
  | 90 => ⟨S2048, .f32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S2048, .i32⟩
  | 98 => ⟨S2048, .i32⟩
  | 99 => ⟨S_, .i32⟩
  | 100 => ⟨S2048, .i32⟩
  | 101 => ⟨S2048, .i1⟩
  | 102 => ⟨S_, .i32⟩
  | 103 => ⟨S2048, .i32⟩
  | 104 => ⟨S2048, .i1⟩
  | 105 => ⟨S_, .i32⟩
  | 106 => ⟨S_, .i1⟩
  | 107 => ⟨S2048, .i1⟩
  | 108 => ⟨S2048, .i1⟩
  | 109 => ⟨S2048, .i1⟩
  | 110 => ⟨S2048, .i32⟩
  | 111 => ⟨S2048, .i32⟩
  | 112 => ⟨S2048, .i32⟩
  | 113 => ⟨S2048, .f32⟩
  | 114 => ⟨S16, .f32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S2048x1, .f32⟩
  | 123 => ⟨S1x16, .f32⟩
  | 124 => ⟨S2048x16, .f32⟩
  | 125 => ⟨S2048x16, .f32⟩
  | 126 => ⟨S2048x16, .f32⟩
  | 127 => ⟨S2048x1, .f32⟩
  | _ => ⟨S32x2048x1024, .f32⟩

abbrev hbmTy0_1 (i : Nat) : BufTy := match i % 128 with
  | 0 => ⟨S1x16, .f32⟩
  | 1 => ⟨S2048x16, .f32⟩
  | 2 => ⟨S2048x16, .f32⟩
  | 3 => ⟨S2048x16, .f32⟩
  | 4 => ⟨S2048x16, .f32⟩
  | 5 => ⟨S2048x16, .f32⟩
  | 6 => ⟨S2048x16, .f32⟩
  | 7 => ⟨S2048x16, .f32⟩
  | 8 => ⟨S2048x64, .f32⟩
  | 9 => ⟨S2048x16, .f32⟩
  | 10 => ⟨S2048x16, .f32⟩
  | 11 => ⟨S2048x16, .f32⟩
  | 12 => ⟨S2048x16, .f32⟩
  | 13 => ⟨S2048x16, .f32⟩
  | 14 => ⟨S2048x16, .f32⟩
  | 15 => ⟨S2048x64, .f32⟩
  | 16 => ⟨S1x2048x1x64, .f32⟩
  | 17 => ⟨S1x2048x2x64, .f32⟩
  | 18 => ⟨S2048x128, .f32⟩
  | 19 => ⟨S1x2048x1x64, .f32⟩
  | 20 => ⟨S1x2048x2x64, .f32⟩
  | 21 => ⟨S2048x128, .f32⟩
  | 22 => ⟨S65536x1024, .f32⟩
  | 23 => ⟨S65536x1920, .f32⟩
  | 24 => ⟨S32x2x64x8192, .bf16⟩
  | 25 => ⟨S32x2048x128, .bf16⟩
  | 26 => ⟨S32x2x80x2048, .bf16⟩
  | 27 => ⟨S32x2x8x8192, .f32⟩
  | 28 => ⟨S32x8x128, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1920, .bf16⟩
  | .local _ .vmem, ⟨4, _⟩ => ⟨S1024x768, .bf16⟩
  | .local _ .vmem, ⟨5, _⟩ => ⟨S1x640, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S640x640, .bf16⟩
  | .local _ .vmem, ⟨11, _⟩ => ⟨S1024x1920, .f32⟩
  | .local _ .vmem, ⟨12, _⟩ => ⟨S1024x1920, .f32⟩
  | .local _ .vmem, ⟨13, _⟩ => ⟨S1x2x64x4096, .bf16⟩
  | .local _ .vmem, ⟨14, _⟩ => ⟨S1x2x64x4096, .bf16⟩
  | .local _ .vmem, ⟨15, _⟩ => ⟨S1x1024x128, .bf16⟩
  | .local _ .vmem, ⟨16, _⟩ => ⟨S1x1024x128, .bf16⟩
  | .local _ .vmem, ⟨17, _⟩ => ⟨S1x2x80x1024, .bf16⟩
  | .local _ .vmem, ⟨18, _⟩ => ⟨S1x2x80x1024, .bf16⟩
  | .local _ .vmem, ⟨19, _⟩ => ⟨S1x2x8x4096, .f32⟩
  | .local _ .vmem, ⟨20, _⟩ => ⟨S1x2x8x4096, .f32⟩
  | .local _ .vmem, ⟨21, _⟩ => ⟨S1x8x128, .f32⟩
  | .local _ .vmem, ⟨22, _⟩ => ⟨S1x8x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v21 : Ref sig .tc := ⟨.hbm, 44, rfl⟩
abbrev main_v22 : Ref sig .tc := ⟨.hbm, 45, rfl⟩
abbrev main_c_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v23 : Ref sig .tc := ⟨.hbm, 63, rfl⟩
abbrev main_v24 : Ref sig .tc := ⟨.hbm, 64, rfl⟩
abbrev main_cst_1 : Ref sig .tc := ⟨.hbm, 65, rfl⟩
abbrev main_cst_2 : Ref sig .tc := ⟨.hbm, 66, rfl⟩
abbrev main_call2_v0 : Ref sig .tc := ⟨.hbm, 67, rfl⟩
abbrev main_call2_v1 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_c_3 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_c : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_0 : Ref sig .tc := ⟨.hbm, 86, rfl⟩
abbrev main_call3_v12 : Ref sig .tc := ⟨.hbm, 87, rfl⟩
abbrev main_call3_v13 : Ref sig .tc := ⟨.hbm, 88, rfl⟩
abbrev main_v28 : Ref sig .tc := ⟨.hbm, 89, rfl⟩
abbrev main_v29 : Ref sig .tc := ⟨.hbm, 90, rfl⟩
abbrev main_c_4 : Ref sig .tc := ⟨.hbm, 91, rfl⟩
abbrev main_call4_v0 : Ref sig .tc := ⟨.hbm, 92, rfl⟩
abbrev main_call4_c : Ref sig .tc := ⟨.hbm, 93, rfl⟩
abbrev main_call4_v1 : Ref sig .tc := ⟨.hbm, 94, rfl⟩
abbrev main_call4_c_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_c_1 : Ref sig .tc := ⟨.hbm, 99, rfl⟩
abbrev main_call4_v5 : Ref sig .tc := ⟨.hbm, 100, rfl⟩
abbrev main_call4_v6 : Ref sig .tc := ⟨.hbm, 101, rfl⟩
abbrev main_call4_c_2 : Ref sig .tc := ⟨.hbm, 102, rfl⟩
abbrev main_call4_v7 : Ref sig .tc := ⟨.hbm, 103, rfl⟩
abbrev main_call4_v8 : Ref sig .tc := ⟨.hbm, 104, rfl⟩
abbrev main_call4_c_3 : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_v12 : Ref sig .tc := ⟨.hbm, 109, rfl⟩
abbrev main_call4_v13 : Ref sig .tc := ⟨.hbm, 110, rfl⟩
abbrev main_call4_v14 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_cst_5 : Ref sig .tc := ⟨.hbm, 116, rfl⟩
abbrev main_v34 : Ref sig .tc := ⟨.hbm, 117, rfl⟩
abbrev main_v35 : Ref sig .tc := ⟨.hbm, 118, rfl⟩
abbrev main_cst_6 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67_0 : Ref sig .tc := ⟨.hbm, 151, rfl⟩
abbrev main_v67_1 : Ref sig .tc := ⟨.hbm, 152, rfl⟩
abbrev main_v67_2 : Ref sig .tc := ⟨.hbm, 153, rfl⟩
abbrev main_v67_3 : Ref sig .tc := ⟨.hbm, 154, rfl⟩
abbrev main_v67_4 : Ref sig .tc := ⟨.hbm, 155, rfl⟩
abbrev main_v67_5 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c2_i32 : BitVec 32 := 2#32
  let c0_i32 : BitVec 32 := 0#32
  let v31 : BitVec 1 := Scalar.cmpi .eq c2_i32 c0_i32
  let c1_i32 : BitVec 32 := 1#32
  let v32 : BitVec 32 := Scalar.select v31 c1_i32 c2_i32
  let v33 : BitVec 32 := Scalar.remsi arg0 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c0_i32_19 : BitVec 32 := 0#32
  let v41 : BitVec 1 := Scalar.cmpi .eq v40 c0_i32_19
  let v333 : BitVec 32 := Scalar.extui v41
  let c0_i32_177 : BitVec 32 := 0#32
  let v334 : BitVec 1 := Scalar.cmpi .ne v333 c0_i32_177
  v334

def k0_cond2 (i : grid0.Coords) : BitVec 1 :=
  let arg0 : BitVec 32 := BitVec.ofNat 32 (i 0).val
  let c2_i32 : BitVec 32 := 2#32
  let c0_i32 : BitVec 32 := 0#32
  let v31 : BitVec 1 := Scalar.cmpi .eq c2_i32 c0_i32
  let c1_i32 : BitVec 32 := 1#32
  let v32 : BitVec 32 := Scalar.select v31 c1_i32 c2_i32
  let v33 : BitVec 32 := Scalar.remsi arg0 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c0_i32_19 : BitVec 32 := 0#32
  let v41 : BitVec 1 := Scalar.cmpi .eq v40 c0_i32_19
  let v_true : BitVec 1 := 1#1
  let v335 : BitVec 1 := Scalar.xori v41 v_true
  let v336 : BitVec 32 := Scalar.extui v335
  let c0_i32_178 : BitVec 32 := 0#32
  let v337 : BitVec 1 := Scalar.cmpi .ne v336 c0_i32_178
  v337

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_11 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_12 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_13 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S640x640 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1920 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x64x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x80x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x8x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InProjRefIdeal.lean ====
abbrev S32x2048x1024 : Shape := ⟨3, ![32, 2048, 1024]⟩
abbrev S1x1024 : Shape := ⟨2, ![1, 1024]⟩
abbrev S1x1024x2688 : Shape := ⟨3, ![1, 1024, 2688]⟩
abbrev S1x64 : Shape := ⟨2, ![1, 64]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x2688 : Shape := ⟨2, ![1024, 2688]⟩
abbrev S32x2048x2688 : Shape := ⟨3, ![32, 2048, 2688]⟩
abbrev S32x2048x1920 : Shape := ⟨3, ![32, 2048, 1920]⟩
abbrev S65536x1920 : Shape := ⟨2, ![65536, 1920]⟩
abbrev S32x2048x768 : Shape := ⟨3, ![32, 2048, 768]⟩
abbrev S32x2048x512 : Shape := ⟨3, ![32, 2048, 512]⟩
abbrev S32x2048x128 : Shape := ⟨3, ![32, 2048, 128]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S32x2048x8x64 : Shape := ⟨4, ![32, 2048, 8, 64]⟩
abbrev S32x2048x8 : Shape := ⟨3, ![32, 2048, 8]⟩
abbrev S32x2048x8x1 : Shape := ⟨4, ![32, 2048, 8, 1]⟩
abbrev S1x1x1x64 : Shape := ⟨4, ![1, 1, 1, 64]⟩
abbrev S32x2048x8x32 : Shape := ⟨4, ![32, 2048, 8, 32]⟩
abbrev S1x2048x1x16 : Shape := ⟨4, ![1, 2048, 1, 16]⟩
abbrev S32x2048x8x16 : Shape := ⟨4, ![32, 2048, 8, 16]⟩
abbrev S32x2048x2x64 : Shape := ⟨4, ![32, 2048, 2, 64]⟩
abbrev S32x2048x2 : Shape := ⟨3, ![32, 2048, 2]⟩
abbrev S32x2048x2x1 : Shape := ⟨4, ![32, 2048, 2, 1]⟩
abbrev S32x2048x2x32 : Shape := ⟨4, ![32, 2048, 2, 32]⟩
abbrev S32x2048x2x16 : Shape := ⟨4, ![32, 2048, 2, 16]⟩
abbrev S32x4x512x2x4x64 : Shape := ⟨6, ![32, 4, 512, 2, 4, 64]⟩
abbrev S32x2x64x4x4x512 : Shape := ⟨6, ![32, 2, 64, 4, 4, 512]⟩
abbrev S32x2x64x8192 : Shape := ⟨4, ![32, 2, 64, 8192]⟩
abbrev S32x2x8192 : Shape := ⟨3, ![32, 2, 8192]⟩
abbrev S32x2x1x8192 : Shape := ⟨4, ![32, 2, 1, 8192]⟩
abbrev S32x2x8x8192 : Shape := ⟨4, ![32, 2, 8, 8192]⟩
abbrev S32x2 : Shape := ⟨2, ![32, 2]⟩
abbrev S32x1x2x1 : Shape := ⟨4, ![32, 1, 2, 1]⟩
abbrev S32x8x2x64 : Shape := ⟨4, ![32, 8, 2, 64]⟩
abbrev S32x8x128 : Shape := ⟨3, ![32, 8, 128]⟩
abbrev S32x2x64x2048 : Shape := ⟨4, ![32, 2, 64, 2048]⟩
abbrev S32x2x16x2048 : Shape := ⟨4, ![32, 2, 16, 2048]⟩
abbrev S32x2x80x2048 : Shape := ⟨4, ![32, 2, 80, 2048]⟩

abbrev nBuf : Space → Nat
  | .hbm => 194
  | .vmem => 0
  | .smem => 0
  | _ => 0

abbrev hbmTy0_0 (i : Nat) : BufTy := match i % 128 with
  | 0 => ⟨S32x2048x1024, .f32⟩
  | 1 => ⟨S1x1024, .f32⟩
  | 2 => ⟨S1x1024x2688, .f32⟩
  | 3 => ⟨S1x64, .f32⟩
  | 4 => ⟨S1x64, .f32⟩
  | 5 => ⟨S1024, .f32⟩
  | 6 => ⟨S32x2048x1024, .f32⟩
  | 7 => ⟨S_, .f32⟩
  | 8 => ⟨S32x2048, .f32⟩
  | 9 => ⟨S32x2048x1, .f32⟩
  | 10 => ⟨S_, .f32⟩
  | 11 => ⟨S32x2048x1, .f32⟩
  | 12 => ⟨S32x2048x1, .f32⟩
  | 13 => ⟨S_, .f32⟩
  | 14 => ⟨S32x2048x1, .f32⟩
  | 15 => ⟨S32x2048x1, .f32⟩
  | 16 => ⟨S32x2048x1, .f32⟩
  | 17 => ⟨S32x2048x1024, .f32⟩
  | 18 => ⟨S32x2048x1024, .f32⟩
  | 19 => ⟨S1x1x1024, .f32⟩
  | 20 => ⟨S32x2048x1024, .f32⟩
  | 21 => ⟨S32x2048x1024, .f32⟩
  | 22 => ⟨S1024x2688, .f32⟩
  | 23 => ⟨S32x2048x2688, .f32⟩
  | 24 => ⟨S32x2048x1920, .f32⟩
  | 25 => ⟨S65536x1920, .f32⟩
  | 26 => ⟨S32x2048x768, .f32⟩
  | 27 => ⟨S32x2048x512, .f32⟩
  | 28 => ⟨S32x2048x128, .f32⟩
  | 29 => ⟨S32x2048x128, .f32⟩
  | 30 => ⟨S32, .f32⟩
  | 31 => ⟨S32x1, .f32⟩
  | 32 => ⟨S32x64, .f32⟩
  | 33 => ⟨S2048, .f32⟩
  | 34 => ⟨S64, .f32⟩
  | 35 => ⟨S1x64, .f32⟩
  | 36 => ⟨S32x64, .f32⟩
  | 37 => ⟨S2048, .f32⟩
  | 38 => ⟨S16, .f32⟩
  | 39 => ⟨S16, .f32⟩
  | 40 => ⟨S_, .f32⟩
  | 41 => ⟨S16, .f32⟩
  | 42 => ⟨S16, .f32⟩
  | 43 => ⟨S_, .f32⟩
  | 44 => ⟨S16, .f32⟩
  | 45 => ⟨S16, .f32⟩
  | 46 => ⟨S2048x1, .f32⟩
  | 47 => ⟨S1x16, .f32⟩
  | 48 => ⟨S2048x16, .f32⟩
  | 49 => ⟨S2048x16, .f32⟩
  | 50 => ⟨S2048x16, .f32⟩
  | 51 => ⟨S2048x1, .f32⟩
  | 52 => ⟨S1x16, .f32⟩
  | 53 => ⟨S2048x16, .f32⟩
  | 54 => ⟨S2048x16, .f32⟩
  | 55 => ⟨S2048x16, .f32⟩
  | 56 => ⟨S32x2048x8x64, .f32⟩
  | 57 => ⟨S64, .f32⟩
  | 58 => ⟨S32x2048x8x64, .f32⟩
  | 59 => ⟨S_, .f32⟩
  | 60 => ⟨S32x2048x8, .f32⟩
  | 61 => ⟨S32x2048x8x1, .f32⟩
  | 62 => ⟨S_, .f32⟩
  | 63 => ⟨S32x2048x8x1, .f32⟩
  | 64 => ⟨S32x2048x8x1, .f32⟩
  | 65 => ⟨S_, .f32⟩
  | 66 => ⟨S32x2048x8x1, .f32⟩
  | 67 => ⟨S32x2048x8x1, .f32⟩
  | 68 => ⟨S32x2048x8x1, .f32⟩
  | 69 => ⟨S32x2048x8x64, .f32⟩
  | 70 => ⟨S32x2048x8x64, .f32⟩
  | 71 => ⟨S1x1x1x64, .f32⟩
  | 72 => ⟨S32x2048x8x64, .f32⟩
  | 73 => ⟨S32x2048x8x64, .f32⟩
  | 74 => ⟨S32x2048x8x32, .f32⟩
  | 75 => ⟨S2048x16, .f32⟩
  | 76 => ⟨S1x2048x1x16, .f32⟩
  | 77 => ⟨S2048x16, .f32⟩
  | 78 => ⟨S1x2048x1x16, .f32⟩
  | 79 => ⟨S32x2048x8x16, .f32⟩
  | 80 => ⟨S32x2048x8x16, .f32⟩
  | 81 => ⟨S32x2048x8x16, .f32⟩
  | 82 => ⟨S32x2048x8x16, .f32⟩
  | 83 => ⟨S32x2048x8x16, .f32⟩
  | 84 => ⟨S32x2048x8x16, .f32⟩
  | 85 => ⟨S32x2048x8x16, .f32⟩
  | 86 => ⟨S32x2048x8x16, .f32⟩
  | 87 => ⟨S32x2048x8x16, .f32⟩
  | 88 => ⟨S32x2048x8x16, .f32⟩
  | 89 => ⟨S32x2048x8x16, .f32⟩
  | 90 => ⟨S32x2048x8x16, .f32⟩
  | 91 => ⟨S32x2048x8x32, .f32⟩
  | 92 => ⟨S32x2048x8x32, .f32⟩
  | 93 => ⟨S2048x16, .f32⟩
  | 94 => ⟨S1x2048x1x16, .f32⟩
  | 95 => ⟨S2048x16, .f32⟩
  | 96 => ⟨S1x2048x1x16, .f32⟩
  | 97 => ⟨S32x2048x8x16, .f32⟩
  | 98 => ⟨S32x2048x8x16, .f32⟩
  | 99 => ⟨S32x2048x8x16, .f32⟩
  | 100 => ⟨S32x2048x8x16, .f32⟩
  | 101 => ⟨S32x2048x8x16, .f32⟩
  | 102 => ⟨S32x2048x8x16, .f32⟩
  | 103 => ⟨S32x2048x8x16, .f32⟩
  | 104 => ⟨S32x2048x8x16, .f32⟩
  | 105 => ⟨S32x2048x8x16, .f32⟩
  | 106 => ⟨S32x2048x8x16, .f32⟩
  | 107 => ⟨S32x2048x8x16, .f32⟩
  | 108 => ⟨S32x2048x8x16, .f32⟩
  | 109 => ⟨S32x2048x8x32, .f32⟩
  | 110 => ⟨S32x2048x8x64, .f32⟩
  | 111 => ⟨S32x2048x2x64, .f32⟩
  | 112 => ⟨S64, .f32⟩
  | 113 => ⟨S32x2048x2x64, .f32⟩
  | 114 => ⟨S_, .f32⟩
  | 115 => ⟨S32x2048x2, .f32⟩
  | 116 => ⟨S32x2048x2x1, .f32⟩
  | 117 => ⟨S_, .f32⟩
  | 118 => ⟨S32x2048x2x1, .f32⟩
  | 119 => ⟨S32x2048x2x1, .f32⟩
  | 120 => ⟨S_, .f32⟩
  | 121 => ⟨S32x2048x2x1, .f32⟩
  | 122 => ⟨S32x2048x2x1, .f32⟩
  | 123 => ⟨S32x2048x2x1, .f32⟩
  | 124 => ⟨S32x2048x2x64, .f32⟩
  | 125 => ⟨S32x2048x2x64, .f32⟩
  | 126 => ⟨S1x1x1x64, .f32⟩
  | 127 => ⟨S32x2048x2x64, .f32⟩
  | _ => ⟨S32x2048x1024, .f32⟩

abbrev hbmTy0_1 (i : Nat) : BufTy := match i % 128 with
  | 0 => ⟨S32x2048x2x64, .f32⟩
  | 1 => ⟨S32x2048x2x32, .f32⟩
  | 2 => ⟨S2048x16, .f32⟩
  | 3 => ⟨S1x2048x1x16, .f32⟩
  | 4 => ⟨S2048x16, .f32⟩
  | 5 => ⟨S1x2048x1x16, .f32⟩
  | 6 => ⟨S32x2048x2x16, .f32⟩
  | 7 => ⟨S32x2048x2x16, .f32⟩
  | 8 => ⟨S32x2048x2x16, .f32⟩
  | 9 => ⟨S32x2048x2x16, .f32⟩
  | 10 => ⟨S32x2048x2x16, .f32⟩
  | 11 => ⟨S32x2048x2x16, .f32⟩
  | 12 => ⟨S32x2048x2x16, .f32⟩
  | 13 => ⟨S32x2048x2x16, .f32⟩
  | 14 => ⟨S32x2048x2x16, .f32⟩
  | 15 => ⟨S32x2048x2x16, .f32⟩
  | 16 => ⟨S32x2048x2x16, .f32⟩
  | 17 => ⟨S32x2048x2x16, .f32⟩
  | 18 => ⟨S32x2048x2x32, .f32⟩
  | 19 => ⟨S32x2048x2x32, .f32⟩
  | 20 => ⟨S2048x16, .f32⟩
  | 21 => ⟨S1x2048x1x16, .f32⟩
  | 22 => ⟨S2048x16, .f32⟩
  | 23 => ⟨S1x2048x1x16, .f32⟩
  | 24 => ⟨S32x2048x2x16, .f32⟩
  | 25 => ⟨S32x2048x2x16, .f32⟩
  | 26 => ⟨S32x2048x2x16, .f32⟩
  | 27 => ⟨S32x2048x2x16, .f32⟩
  | 28 => ⟨S32x2048x2x16, .f32⟩
  | 29 => ⟨S32x2048x2x16, .f32⟩
  | 30 => ⟨S32x2048x2x16, .f32⟩
  | 31 => ⟨S32x2048x2x16, .f32⟩
  | 32 => ⟨S32x2048x2x16, .f32⟩
  | 33 => ⟨S32x2048x2x16, .f32⟩
  | 34 => ⟨S32x2048x2x16, .f32⟩
  | 35 => ⟨S32x2048x2x16, .f32⟩
  | 36 => ⟨S32x2048x2x32, .f32⟩
  | 37 => ⟨S32x2048x2x64, .f32⟩
  | 38 => ⟨S_, .f32⟩
  | 39 => ⟨S32x2048x8x64, .f32⟩
  | 40 => ⟨S32x2048x8x64, .f32⟩
  | 41 => ⟨S32x4x512x2x4x64, .f32⟩
  | 42 => ⟨S32x2x64x4x4x512, .f32⟩
  | 43 => ⟨S32x2x64x8192, .f32⟩
  | 44 => ⟨S32x2x64x8192, .f32⟩
  | 45 => ⟨S_, .f32⟩
  | 46 => ⟨S32x2x8192, .f32⟩
  | 47 => ⟨S32x2x1x8192, .f32⟩
  | 48 => ⟨S32x2x8x8192, .f32⟩
  | 49 => ⟨S32x2048x2x64, .f32⟩
  | 50 => ⟨S_, .f32⟩
  | 51 => ⟨S32x2048x2, .f32⟩
  | 52 => ⟨S_, .f32⟩
  | 53 => ⟨S32x2, .f32⟩
  | 54 => ⟨S32x1x2x1, .f32⟩
  | 55 => ⟨S32x8x2x64, .f32⟩
  | 56 => ⟨S32x8x128, .f32⟩
  | 57 => ⟨S32x2048x2x64, .f32⟩
  | 58 => ⟨S32x2x64x2048, .f32⟩
  | 59 => ⟨S_, .f32⟩
  | 60 => ⟨S32x2x16x2048, .f32⟩
  | 61 => ⟨S32x2x80x2048, .f32⟩
  | 62 => ⟨S32x2x64x8192, .bf16⟩
  | 63 => ⟨S32x2048x128, .f32⟩
  | 64 => ⟨S32x2048x128, .bf16⟩
  | 65 => ⟨S32x2x80x2048, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_4 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_cst_7 : Ref sig .tc := ⟨.hbm, 114, rfl⟩
abbrev main_v101 : Ref sig .tc := ⟨.hbm, 115, rfl⟩
abbrev main_v102 : Ref sig .tc := ⟨.hbm, 116, rfl⟩
abbrev main_cst_8 : Ref sig .tc := ⟨.hbm, 117, rfl⟩
abbrev main_v103 : Ref sig .tc := ⟨.hbm, 118, rfl⟩
abbrev main_v104 : Ref sig .tc := ⟨.hbm, 119, rfl⟩
abbrev main_cst_9 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_cst_10 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_cst_11 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_cst_12 : Ref sig .tc := ⟨.hbm, 178, rfl⟩
abbrev main_v160 : Ref sig .tc := ⟨.hbm, 179, rfl⟩
abbrev main_cst_13 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_cst_14 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩

abbrev nD : Nat := 1
abbrev τ : Topo := Topo.v7x

variable {F : FTy → Type} [FloatOps F]
-- ==== Proof.AttnIdealBody.lean ====
module

public import proofs.«01_k».proof.Proof.Gen.AttentionIdeal.Frame
public import proofs.«01_k».proof.Proof.Gen.AttentionIdeal.Loops
public import Idealize.ShloMosaic.Lib.Claim

@[expose] public section

set_option maxRecDepth 16384

noncomputable section

namespace Cert.AttentionIdeal.Body

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks the body reads -/

abbrev rQ : Rect S1x1x64x1024 := Rect.unit (s := S1x1x64x1024) ![0, 0, 0, 0] S1x1x64x1024.size inb_S1x1x64x1024_S1x1x64x1024_0_0_0_0
abbrev rN : Rect S1x1x8x1024 := Rect.unit (s := S1x1x8x1024) ![0, 0, 0, 0] S1x1x1x1024.size inb_S1x1x8x1024_S1x1x1x1024_0_0_0_0
abbrev rM : Rect S1x8x128 := Rect.unit (s := S1x8x128) ![0, 0, 0] S1x1x128.size inb_S1x8x128_S1x1x128_0_0_0
abbrev rK0 : Rect S1x16384x128 := Rect.unit (s := S1x16384x128) ![0, 0, 0] S1x2048x128.size inb_S1x16384x128_S1x2048x128_0_0_0
abbrev rV0 : Rect S1x1x80x16384 := Rect.unit (s := S1x1x80x16384) ![0, 0, 0, 0] S1x1x80x2048.size inb_S1x1x80x16384_S1x1x80x2048_0_0_0_0
abbrev rK1 : Rect S1x16384x128 := Rect.unit (s := S1x16384x128) ![0, 2048, 0] S1x2048x128.size inb_S1x16384x128_S1x2048x128_0_2048_0
abbrev rV1 : Rect S1x1x80x16384 := Rect.unit (s := S1x1x80x16384) ![0, 0, 0, 2048] S1x1x80x2048.size inb_S1x1x80x16384_S1x1x80x2048_0_0_0_2048
abbrev rK2 : Rect S1x16384x128 := Rect.unit (s := S1x16384x128) ![0, 4096, 0] S1x2048x128.size inb_S1x16384x128_S1x2048x128_0_4096_0
abbrev rV2 : Rect S1x1x80x16384 := Rect.unit (s := S1x1x80x16384) ![0, 0, 0, 4096] S1x1x80x2048.size inb_S1x1x80x16384_S1x1x80x2048_0_0_0_4096
abbrev rK3 : Rect S1x16384x128 := Rect.unit (s := S1x16384x128) ![0, 6144, 0] S1x2048x128.size inb_S1x16384x128_S1x2048x128_0_6144_0
abbrev rV3 : Rect S1x1x80x16384 := Rect.unit (s := S1x1x80x16384) ![0, 0, 0, 6144] S1x1x80x2048.size inb_S1x1x80x16384_S1x1x80x2048_0_0_0_6144
abbrev rK4 : Rect S1x16384x128 := Rect.unit (s := S1x16384x128) ![0, 8192, 0] S1x2048x128.size inb_S1x16384x128_S1x2048x128_0_8192_0
abbrev rV4 : Rect S1x1x80x16384 := Rect.unit (s := S1x1x80x16384) ![0, 0, 0, 8192] S1x1x80x2048.size inb_S1x1x80x16384_S1x1x80x2048_0_0_0_8192
abbrev rK5 : Rect S1x16384x128 := Rect.unit (s := S1x16384x128) ![0, 10240, 0] S1x2048x128.size inb_S1x16384x128_S1x2048x128_0_10240_0
abbrev rV5 : Rect S1x1x80x16384 := Rect.unit (s := S1x1x80x16384) ![0, 0, 0, 10240] S1x1x80x2048.size inb_S1x1x80x16384_S1x1x80x2048_0_0_0_10240
abbrev rK6 : Rect S1x16384x128 := Rect.unit (s := S1x16384x128) ![0, 12288, 0] S1x2048x128.size inb_S1x16384x128_S1x2048x128_0_12288_0
abbrev rV6 : Rect S1x1x80x16384 := Rect.unit (s := S1x1x80x16384) ![0, 0, 0, 12288] S1x1x80x2048.size inb_S1x1x80x16384_S1x1x80x2048_0_0_0_12288
abbrev rK7 : Rect S1x16384x128 := Rect.unit (s := S1x16384x128) ![0, 14336, 0] S1x2048x128.size inb_S1x16384x128_S1x2048x128_0_14336_0
abbrev rV7 : Rect S1x1x80x16384 := Rect.unit (s := S1x1x80x16384) ![0, 0, 0, 14336] S1x1x80x2048.size inb_S1x1x80x16384_S1x1x80x2048_0_0_0_14336
abbrev rO0 : Rect S1x256x256 := Rect.unit (s := S1x256x256) ![0, 0, 0] S1x256x64.size inb_S1x256x256_S1x256x64_0_0_0
abbrev rO1 : Rect S1x256x256 := Rect.unit (s := S1x256x256) ![0, 0, 64] S1x256x64.size inb_S1x256x256_S1x256x64_0_0_64
abbrev rO2 : Rect S1x256x256 := Rect.unit (s := S1x256x256) ![0, 0, 128] S1x256x64.size inb_S1x256x256_S1x256x64_0_0_128
abbrev rO3 : Rect S1x256x256 := Rect.unit (s := S1x256x256) ![0, 0, 192] S1x256x64.size inb_S1x256x256_S1x256x64_0_0_192

/-! ## What the body computes -/

/-- The query block of one key/value head, zero in the other head's lanes. -/
def qv (i : grid0.Coords) (x0 : Vec F S1x1x64x1024 .bf16) : FVec F S128x1024 .bf16 := k0_pay14 i (View.ld x0 rQ)

/-- The shift of each query column. -/
def shv (i : grid0.Coords) (x1 : Vec F S1x1x8x1024 .f32) (x2 : Vec F S1x8x128 .f32) : FVec F S1x1024 .f32 :=
  k0_pay18 (BitVec.ofNat 32 (i 1).val) (iota .tc S1x128 32 [1] iota_S1x128_d1_w32) 64#32 k0_pay15 k0_pay16 k0_pay17 (View.ld x2 rM) (View.ld x1 rN)

/-- The weights of the first key chunk. -/
def p0 (i : grid0.Coords) (x0 : Vec F S1x1x64x1024 .bf16) (x1 : Vec F S1x1x8x1024 .f32) (x2 : Vec F S1x8x128 .f32) (x3 : Vec F S1x16384x128 .bf16) : FVec F S2048x1024 .bf16 :=
  k0_pay20 (BitVec.ofNat 32 (i 1).val) (qv i x0) (iota .tc S1x128 32 [1] iota_S1x128_d1_w32) 64#32 k0_pay15 k0_pay16 k0_pay17 (View.ld x2 rM) (View.ld x1 rN) (View.ld x3 rK0)

/-- The accumulator after three chunks. -/
def acc3 (i : grid0.Coords) (x0 : Vec F S1x1x64x1024 .bf16) (x1 : Vec F S1x1x8x1024 .f32) (x2 : Vec F S1x8x128 .f32) (x3 : Vec F S1x16384x128 .bf16) (x4 : Vec F S1x1x80x16384 .bf16) : FVec F S80x1024 .f32 :=
  k0_pay21 (qv i x0) (shv i x1 x2) k0_pay19 (p0 i x0 x1 x2 x3) (View.ld x4 rV0) (View.ld x3 rK1) (View.ld x4 rV1) (View.ld x3 rK2) (View.ld x4 rV2)

/-- The accumulator after six chunks. -/
def acc6 (i : grid0.Coords) (x0 : Vec F S1x1x64x1024 .bf16) (x1 : Vec F S1x1x8x1024 .f32) (x2 : Vec F S1x8x128 .f32) (x3 : Vec F S1x16384x128 .bf16) (x4 : Vec F S1x1x80x16384 .bf16) : FVec F S80x1024 .f32 :=
  k0_pay23 (qv i x0) (shv i x1 x2) (acc3 i x0 x1 x2 x3 x4) (k0_pay22 (qv i x0) (shv i x1 x2) (View.ld x3 rK3)) (View.ld x4 rV3) (View.ld x3 rK4) (View.ld x4 rV4) (View.ld x3 rK5) (View.ld x4 rV5)

/-- The accumulator after all eight chunks. -/
def acc8 (i : grid0.Coords) (x0 : Vec F S1x1x64x1024 .bf16) (x1 : Vec F S1x1x8x1024 .f32) (x2 : Vec F S1x8x128 .f32) (x3 : Vec F S1x16384x128 .bf16) (x4 : Vec F S1x1x80x16384 .bf16) : FVec F S80x1024 .f32 :=
  k0_pay25 (qv i x0) (shv i x1 x2) (acc6 i x0 x1 x2 x3 x4) (k0_pay24 (qv i x0) (shv i x1 x2) (View.ld x3 rK6)) (View.ld x4 rV6) (View.ld x3 rK7) (View.ld x4 rV7)

/-- The body's branch: taken when a denominator is too small. -/
def Slow (i : grid0.Coords) (x0 : Vec F S1x1x64x1024 .bf16) (x1 : Vec F S1x1x8x1024 .f32) (x2 : Vec F S1x8x128 .f32) (x3 : Vec F S1x16384x128 .bf16) (x4 : Vec F S1x1x80x16384 .bf16) : Prop :=
  Scalar.cmpi .ne (Scalar.extui (Scalar.xori (Scalar.cmpf .oge (k0_pay2 (acc8 i x0 x1 x2 x3 x4)) (Scalar.ofBits .f32 0x0D800000#32 : F .f32)) 1#1) : BitVec 32) 0#32 = 1#1

/-- The stores of the main path, the last first. -/
def fastPieces (i : grid0.Coords) (x0 : Vec F S1x1x64x1024 .bf16) (x1 : Vec F S1x1x8x1024 .f32) (x2 : Vec F S1x8x128 .f32) (x3 : Vec F S1x16384x128 .bf16) (x4 : Vec F S1x1x80x16384 .bf16) : List (View.Piece (Elt F) S1x256x256 .bf16) :=
  [⟨rO3, k0_pay1 (k0_pay26 (qv i x0) (shv i x1 x2) (acc6 i x0 x1 x2 x3 x4) (k0_pay24 (qv i x0) (shv i x1 x2) (View.ld x3 rK6)) (View.ld x4 rV6) (View.ld x3 rK7) (View.ld x4 rV7))⟩,
    ⟨rO2, k0_pay29 (qv i x0) (shv i x1 x2) (acc6 i x0 x1 x2 x3 x4) (k0_pay24 (qv i x0) (shv i x1 x2) (View.ld x3 rK6)) (View.ld x4 rV6) (View.ld x3 rK7) (View.ld x4 rV7)⟩,
    ⟨rO1, k0_pay28 (qv i x0) (shv i x1 x2) (acc6 i x0 x1 x2 x3 x4) (k0_pay24 (qv i x0) (shv i x1 x2) (View.ld x3 rK6)) (View.ld x4 rV6) (View.ld x3 rK7) (View.ld x4 rV7)⟩,
    ⟨rO0, k0_pay27 (qv i x0) (shv i x1 x2) (acc6 i x0 x1 x2 x3 x4) (k0_pay24 (qv i x0) (shv i x1 x2) (View.ld x3 rK6)) (View.ld x4 rV6) (View.ld x3 rK7) (View.ld x4 rV7)⟩]

/-- The streaming path before chunk `k`'s update: the running maximum, the running accumulator and the scores of
    the current chunk. -/
def slowSt (i : grid0.Coords) (x0 : Vec F S1x1x64x1024 .bf16) (x3 : Vec F S1x16384x128 .bf16) (x4 : Vec F S1x1x80x16384 .bf16) :
    ℕ → FVec F S1x1024 .f32 × FVec F S80x1024 .f32 × FVec F S2048x1024 .f32
  | 0 => (k0_pay6 (F := F), k0_pay19 (F := F), k0_pay7 (qv i x0) (View.ld x3 rK0))
  | k + 1 =>
    if h : k < k0_t1_loop.trips then
      (k0_pay9 (slowSt i x0 x3 x4 k).1 (slowSt i x0 x3 x4 k).2.2,
        k0_pay10 (slowSt i x0 x3 x4 k).1 (slowSt i x0 x3 x4 k).2.1 (slowSt i x0 x3 x4 k).2.2
          (View.ld x4 (Rect.unit (s := S1x1x80x16384) (k0_off2 ⟨k, h⟩) S1x1x80x2048.size (k0_off2_inb ⟨k, h⟩))),
        k0_pay8 (qv i x0) (View.ld x3 (Rect.unit (s := S1x16384x128) (k0_off1 ⟨k, h⟩) S1x2048x128.size (k0_off1_inb ⟨k, h⟩))))
    else slowSt i x0 x3 x4 k

/-- The stores of a body that takes the branch, the last first: the streaming path's over the main path's. -/
def slowPieces (i : grid0.Coords) (x0 : Vec F S1x1x64x1024 .bf16) (x1 : Vec F S1x1x8x1024 .f32) (x2 : Vec F S1x8x128 .f32) (x3 : Vec F S1x16384x128 .bf16) (x4 : Vec F S1x1x80x16384 .bf16) : List (View.Piece (Elt F) S1x256x256 .bf16) :=
  ⟨rO3, k0_pay5 (k0_pay11 (slowSt i x0 x3 x4 7).1 (slowSt i x0 x3 x4 7).2.1 (slowSt i x0 x3 x4 7).2.2 (View.ld x4 rV7))⟩ ::
    ⟨rO2, k0_pay4 (k0_pay11 (slowSt i x0 x3 x4 7).1 (slowSt i x0 x3 x4 7).2.1 (slowSt i x0 x3 x4 7).2.2 (View.ld x4 rV7))⟩ ::
    ⟨rO1, k0_pay3 (k0_pay13 (slowSt i x0 x3 x4 7).1 (slowSt i x0 x3 x4 7).2.1 (slowSt i x0 x3 x4 7).2.2 (View.ld x4 rV7))⟩ ::
    ⟨rO0, k0_pay12 (slowSt i x0 x3 x4 7).1 (slowSt i x0 x3 x4 7).2.1 (slowSt i x0 x3 x4 7).2.2 (View.ld x4 rV7)⟩ :: fastPieces i x0 x1 x2 x3 x4

open Classical in
/-- The block the body leaves. -/
def outv (i : grid0.Coords) (x0 : Vec F S1x1x64x1024 .bf16) (x1 : Vec F S1x1x8x1024 .f32) (x2 : Vec F S1x8x128 .f32) (x3 : Vec F S1x16384x128 .bf16) (x4 : Vec F S1x1x80x16384 .bf16) : Vec F S1x256x256 .bf16 :=
  View.canon (if Slow i x0 x1 x2 x3 x4 then slowPieces i x0 x1 x2 x3 x4 else fastPieces i x0 x1 x2 x3 x4)

theorem cover4 (p0 p1 p2 p3 : Vec F S1x256x64 .bf16) (L : List (View.Piece (Elt F) S1x256x256 .bf16)) (y : S1x256x256.Idx) :
    ∃ pc ∈ (⟨rO3, p0⟩ :: ⟨rO2, p1⟩ :: ⟨rO1, p2⟩ :: ⟨rO0, p3⟩ :: L : List (View.Piece (Elt F) S1x256x256 .bf16)), y ∈ pc.1.set := by
  obtain ⟨pc, h, hy⟩ := View.cover_of_tiled [⟨rO3, p0⟩, ⟨rO2, p1⟩, ⟨rO1, p2⟩, ⟨rO0, p3⟩] S1x256x64.size (by rfl) y
  refine ⟨pc, ?_, hy⟩
  simp only [List.mem_cons, List.not_mem_nil, or_false] at h ⊢
  rcases h with h | h | h | h <;> simp [h]

/-! ## The body's run -/

section run
variable (c : Dev nD) (i : grid0.Coords) (arg3 : Memref sig .tc .vmem S1x1x64x1024 .bf16) (harg3 : arg3.IsWhole) (arg4 : Memref sig .tc .vmem S1x1x8x1024 .f32) (harg4 : arg4.IsWhole) (arg5 : Memref sig .tc .vmem S1x8x128 .f32) (harg5 : arg5.IsWhole) (arg6 : Memref sig .tc .vmem S1x16384x128 .bf16) (harg6 : arg6.IsWhole) (arg7 : Memref sig .tc .vmem S1x1x80x16384 .bf16) (harg7 : arg7.IsWhole) (arg8 : Memref sig .tc .vmem S1x256x256 .bf16) (harg8 : arg8.IsWhole)

theorem st_eq (f0 : BufTy.Contents (Elt F) arg3.view.ty) (f3 : BufTy.Contents (Elt F) arg6.view.ty) (f4 : BufTy.Contents (Elt F) arg7.view.ty) (k : ℕ) (hk : k ≤ 7) :
    st_k0_t1 (F := F) Variants.none c none i arg3 harg3 arg4 harg4 arg5 harg5 arg6 harg6 arg7 harg7 arg8 harg8 (qv i (arg3.view.read (Elt F) f0)) k0_pay19 f3 f4
        (k0_pay6 (F := F), k0_pay19 (F := F), k0_pay7 (qv i (arg3.view.read (Elt F) f0)) (View.ld (arg6.view.read (Elt F) f3) rK0)) k
      = slowSt i (arg3.view.read (Elt F) f0) (arg6.view.read (Elt F) f3) (arg7.view.read (Elt F) f4) k := by
  induction k with
  | zero => rfl
  | succ k ih =>
    have hlt : k < k0_t1_loop.trips := hk
    rw [st_k0_t1_succ (F := F) Variants.none c none i arg3 harg3 arg4 harg4 arg5 harg5 arg6 harg6 arg7 harg7 arg8 harg8 _ _ f3 f4 _ ⟨k, hlt⟩, ih (Nat.le_of_succ_le hk)]
    rw [slowSt, dif_pos hlt]
    unfold tripR_k0_t1 trip_k0_t1
    rfl

end run

set_option maxHeartbeats 1000000 in
theorem sound_kernel (c : Dev nD) (E : Set ℕ) (i : grid0.Coords) (arg3 : Memref sig .tc .vmem S1x1x64x1024 .bf16) (harg3 : arg3.IsWhole) (arg4 : Memref sig .tc .vmem S1x1x8x1024 .f32) (harg4 : arg4.IsWhole) (arg5 : Memref sig .tc .vmem S1x8x128 .f32) (harg5 : arg5.IsWhole) (arg6 : Memref sig .tc .vmem S1x16384x128 .bf16) (harg6 : arg6.IsWhole) (arg7 : Memref sig .tc .vmem S1x1x80x16384 .bf16) (harg7 : arg7.IsWhole) (arg8 : Memref sig .tc .vmem S1x256x256 .bf16) (harg8 : arg8.IsWhole)
    (x0 : Vec F S1x1x64x1024 .bf16) (x1 : Vec F S1x1x8x1024 .f32) (x2 : Vec F S1x8x128 .f32) (x3 : Vec F S1x16384x128 .bf16) (x4 : Vec F S1x1x80x16384 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outv i x0 x1 x2 x3 x4)) -∗ K ⟨⟩))
      ⊢ wp frame (wpE (defs₀ (F := F)) Variants.none c none) E (cc0_attention i arg3 harg3 arg4 harg4 arg5 harg5 arg6 harg6 arg7 harg7 arg8 harg8) K := by
  simp only [cc0_attention_eq_skeleton]; unfold cc0_attention_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  by_cases hc : Slow i (arg3.view.read (Elt F) f0) (arg4.view.read (Elt F) f1) (arg5.view.read (Elt F) f2) (arg6.view.read (Elt F) f3) (arg7.view.read (Elt F) f4)
  · rw [if_pos]
    rotate_left
    · exact hc
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    unfold outv
    rw [if_pos hc]
    refine Eq.trans (congrArg (fun L => arg8.view.read (Elt F) (arg8.view.writes (Elt F) arg8.view.junk L)) (?_ : _ = slowPieces i (arg3.view.read (Elt F) f0) (arg4.view.read (Elt F) f1) (arg5.view.read (Elt F) f2) (arg6.view.read (Elt F) f3) (arg7.view.read (Elt F) f4))) (View.read_writes_eq_canon _ _ _ (cover4 _ _ _ _ _))
    unfold slowPieces fastPieces
    rw [← st_eq c i arg3 harg3 arg4 harg4 arg5 harg5 arg6 harg6 arg7 harg7 arg8 harg8 f0 f3 f4 7 le_rfl]
    rfl
  · rw [if_neg]
    rotate_left
    · exact hc
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    unfold outv
    rw [if_neg hc]
    refine Eq.trans (congrArg (fun L => arg8.view.read (Elt F) (arg8.view.writes (Elt F) f5 L)) (?_ : _ = fastPieces i (arg3.view.read (Elt F) f0) (arg4.view.read (Elt F) f1) (arg5.view.read (Elt F) f2) (arg6.view.read (Elt F) f3) (arg7.view.read (Elt F) f4))) (View.read_writes_eq_canon _ _ _ (cover4 _ _ _ _ _))
    unfold fastPieces
    rfl

/-! ## The region's proof data, and the run -/

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv (grid0.coords t) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outv (grid0.coords t) (iblk m c 0 t) (iblk m c 1 t) (iblk m c 2 t) (iblk m c 3 t) (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- THE RUN: `main` terminates with every window's array at its final contents, and every semaphore at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The run leaves every argument array as it found it. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_quiescent m ρ))

/-- The arguments end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiescent m ρ))

end Cert.AttentionIdeal.Body

end
-- ==== Proof.AttnHead.lean ====
/- The query block of one key/value head, read at an index. -/
module

public import proofs.«01_k».proof.Proof.Gen.AttentionIdeal.Skeleton
public import proofs.«01_k».proof.Proof.Gen.AttentionIdeal
public import Idealize.ShloMosaic.Lib.Pointwise
public import Idealize.ShloMosaic.PureOps.Ideal

@[expose] public section

set_option maxRecDepth 16384

noncomputable section

namespace Cert.AttentionIdeal.Val

open Cert.AttentionIdeal Cert.AttentionIdeal.Gen
open Idealize.ShloMosaic Idealize.ShloMosaic.TcCoe Idealize.SL.Sem

/-- The lane mask of one key/value head. -/
theorem head_mask (r : Fin 128) (h : Fin 2) :
    IntOp.cmpi CmpIPredicate.eq
        (Scalar.select
          (IntOp.andi
            (IntOp.cmpi CmpIPredicate.ne
              (IntOp.subi (BitVec.setWidth 32 (IntOp.cmpi CmpIPredicate.sgt (BitVec.ofNat 32 ↑r) 0#32))
                (BitVec.setWidth 32 (IntOp.cmpi CmpIPredicate.slt (BitVec.ofNat 32 ↑r) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 ↑r) 64#32) 0#32))
          (IntOp.subi (IntOp.divsi ArithUnit.vector (BitVec.ofNat 32 ↑r) 64#32) 1#32)
          (IntOp.divsi ArithUnit.vector (BitVec.ofNat 32 ↑r) 64#32))
        (BitVec.ofNat 32 ↑h) = if r.val / 64 = h.val then 1#1 else 0#1 := by
  revert r h; decide +kernel

theorem pay14_at (i : grid0.Coords) (X : Vec Ideal S1x1x64x1024 .bf16) (r : Fin 128) (j : Fin 1024) :
    k0_pay14 (F := Ideal) i X (ix2 r j) = if r.val / 64 = (i 1).val then X (ix4 0 0 ⟨r.val % 64, Nat.mod_lt _ (by decide)⟩ j) else 0 := by
  pointwise [k0_pay14]
  have hm := head_mask r (i 1)
  simp only [hm]
  by_cases h : r.val / 64 = (i 1).val
  · rw [if_pos h, if_pos h]
    refine Eq.trans (if_pos rfl) ?_
    split
    · rename_i hr
      exact congrArg X (by rw [ix4_inj]; exact ⟨rfl, rfl, Fin.ext (Nat.mod_eq_of_lt hr).symm, rfl⟩)
    · rename_i hr
      have hs : r.val - 64 = r.val % 64 := by have := r.isLt; omega
      exact congrArg X (by rw [ix4_inj]; exact ⟨rfl, rfl, Fin.ext hs, rfl⟩)
  · rw [if_neg h, if_neg h]
    rfl

end Cert.AttentionIdeal.Val

end
-- ==== Proof.AttnPay.lean ====
/- The attention body's payloads read at an index, over the extended reals. -/
module

public import proofs.«01_k».proof.Proof.Gen.AttentionIdeal.Skeleton
public import proofs.«01_k».proof.Proof.Gen.AttentionIdeal
public import Idealize.ShloMosaic.Lib.Pointwise
public import Idealize.ShloMosaic.PureOps.Ideal

@[expose] public section

set_option maxRecDepth 16384

noncomputable section

namespace Cert.AttentionIdeal.Val

open Cert.AttentionIdeal Cert.AttentionIdeal.Gen
open Idealize.ShloMosaic Idealize.ShloMosaic.TcCoe Idealize.SL.Sem

theorem neg_inf : Ideal.ofBits FTy.f32 4286578688#32 = (⊥ : EReal) := by simp [Ideal.ofBits, Ideal.ieee]

theorem pay7_at (q : FVec Ideal S128x1024 .bf16) (K : Vec Ideal S1x2048x128 .bf16) (t : Fin 2048) (j : Fin 1024) :
    k0_pay7 (F := Ideal) q K (ix2 t j) = ∑ r : Fin 128, K (ix3 0 t r) * q (ix2 r j) := by
  pointwise! [k0_pay7]

theorem pay18_at (a1 : BitVec 32) (iv : IVec S1x128 32) (c : BitVec 32) (v36 v39 : IVec S1x128 32) (v41 : IVec S1x128 1) (M : Vec Ideal S1x1x128 .f32) (N : Vec Ideal S1x1x1x1024 .f32) (j : Fin 1024) :
    ∃ g : Fin 128 → BitVec 1, k0_pay18 (F := Ideal) a1 iv c v36 v39 v41 M N (ix2 0 j) =
      Ideal.sqrt (N (ix4 0 0 0 j) * Finset.univ.fold max ⊥ fun l : Fin 128 => Scalar.select (g l) (M (ix3 0 0 l)) (0 : EReal)) := by
  pointwise [k0_pay18]
  rw [neg_inf]
  exact ⟨_, rfl⟩

theorem pay20_at (a1 : BitVec 32) (q : FVec Ideal S128x1024 .bf16) (iv : IVec S1x128 32) (c : BitVec 32) (v36 v39 : IVec S1x128 32) (v41 : IVec S1x128 1) (M : Vec Ideal S1x1x128 .f32) (N : Vec Ideal S1x1x1x1024 .f32) (K : Vec Ideal S1x2048x128 .bf16) (t : Fin 2048) (j : Fin 1024) :
    k0_pay20 (F := Ideal) a1 q iv c v36 v39 v41 M N K (ix2 t j) = Ideal.exp2 ((∑ r : Fin 128, K (ix3 0 t r) * q (ix2 r j)) - k0_pay18 (F := Ideal) a1 iv c v36 v39 v41 M N (ix2 0 j)) := by
  pointwise [k0_pay20]
  rfl

theorem pay22_at (q : FVec Ideal S128x1024 .bf16) (sh : FVec Ideal S1x1024 .f32) (K : Vec Ideal S1x2048x128 .bf16) (t : Fin 2048) (j : Fin 1024) :
    k0_pay22 (F := Ideal) q sh K (ix2 t j) = Ideal.exp2 ((∑ r : Fin 128, K (ix3 0 t r) * q (ix2 r j)) - sh (ix2 0 j)) := by
  pointwise [k0_pay22]
  rfl

theorem pay21_at (q : FVec Ideal S128x1024 .bf16) (sh : FVec Ideal S1x1024 .f32) (a : FVec Ideal S80x1024 .f32) (p : FVec Ideal S2048x1024 .bf16)
    (V0 : Vec Ideal S1x1x80x2048 .bf16) (K1 : Vec Ideal S1x2048x128 .bf16) (V1 : Vec Ideal S1x1x80x2048 .bf16) (K2 : Vec Ideal S1x2048x128 .bf16) (V2 : Vec Ideal S1x1x80x2048 .bf16) (d : Fin 80) (j : Fin 1024) :
    k0_pay21 (F := Ideal) q sh a p V0 K1 V1 K2 V2 (ix2 d j) =
      a (ix2 d j) + (∑ t : Fin 2048, V0 (ix4 0 0 d t) * p (ix2 t j)) + (∑ t : Fin 2048, V1 (ix4 0 0 d t) * k0_pay22 (F := Ideal) q sh K1 (ix2 t j)) + (∑ t : Fin 2048, V2 (ix4 0 0 d t) * k0_pay22 (F := Ideal) q sh K2 (ix2 t j)) := by
  pointwise [k0_pay21, k0_pay22]

theorem pay23_eq : @k0_pay23 Ideal _ = @k0_pay21 Ideal _ := rfl
theorem pay24_eq : @k0_pay24 Ideal _ = @k0_pay22 Ideal _ := rfl
theorem pay8_eq : @k0_pay8 Ideal _ = @k0_pay7 Ideal _ := rfl

theorem pay25_at (q : FVec Ideal S128x1024 .bf16) (sh : FVec Ideal S1x1024 .f32) (a : FVec Ideal S80x1024 .f32) (p : FVec Ideal S2048x1024 .bf16)
    (V0 : Vec Ideal S1x1x80x2048 .bf16) (K1 : Vec Ideal S1x2048x128 .bf16) (V1 : Vec Ideal S1x1x80x2048 .bf16) (d : Fin 80) (j : Fin 1024) :
    k0_pay25 (F := Ideal) q sh a p V0 K1 V1 (ix2 d j) =
      a (ix2 d j) + (∑ t : Fin 2048, V0 (ix4 0 0 d t) * p (ix2 t j)) + (∑ t : Fin 2048, V1 (ix4 0 0 d t) * k0_pay22 (F := Ideal) q sh K1 (ix2 t j)) := by
  pointwise [k0_pay25, k0_pay22]

theorem pay26_at (q : FVec Ideal S128x1024 .bf16) (sh : FVec Ideal S1x1024 .f32) (a : FVec Ideal S80x1024 .f32) (p : FVec Ideal S2048x1024 .bf16)
    (V0 : Vec Ideal S1x1x80x2048 .bf16) (K1 : Vec Ideal S1x2048x128 .bf16) (V1 : Vec Ideal S1x1x80x2048 .bf16) (d : Fin 64) (j : Fin 1024) :
    k0_pay26 (F := Ideal) q sh a p V0 K1 V1 (ix2 j ⟨d.val, by omega⟩) =
      Ideal.div (k0_pay25 (F := Ideal) q sh a p V0 K1 V1 (ix2 ⟨d.val, by omega⟩ j)) (k0_pay25 (F := Ideal) q sh a p V0 K1 V1 (ix2 64 j)) := by
  pointwise [k0_pay26]

theorem pay1_at (a : FVec Ideal S1024x128 .f32) (p : Fin 256) (d : Fin 64) :
    k0_pay1 (F := Ideal) a (ix3 0 p d) = a (ix2 ⟨768 + p.val, by omega⟩ ⟨d.val, by omega⟩) := by
  pointwise [k0_pay1]

theorem fold_min_le {ι : Type} [Fintype ι] (f : ι → EReal) (b : EReal) (i : ι) : Finset.univ.fold min b f ≤ f i :=
  ((Finset.le_fold_min _).1 le_rfl).2 i (Finset.mem_univ _)

theorem pay2_at (a : FVec Ideal S80x1024 .f32) (j : Fin 1024) :
    k0_pay2 (F := Ideal) a ≤ a (ix2 64 j) := by
  unfold k0_pay2
  pointwise
  exact (fold_min_le _ _ (0, j)).trans_eq rfl

theorem pay6_at (j : Fin 1024) : k0_pay6 (F := Ideal) (ix2 0 j) = ⊥ := by
  pointwise [k0_pay6]
  exact neg_inf

theorem pay19_at (d : Fin 80) (j : Fin 1024) : k0_pay19 (F := Ideal) (ix2 d j) = 0 := by
  pointwise [k0_pay19]

/-- The maximum of a column, from the reduction's starting value. -/
theorem col_max {n0 n1 : ℕ} {t : Shape} (s : FVec Ideal (⟨2, ![n0, n1]⟩ : Shape) .f32) (acc : BitVec (FTy.f32).bits)
    (h : (⟨2, ![n0, n1]⟩ : Shape).Reduces [0] t) (hφ : FKind.Formats .f32) (hacc : acc = FKind.maximumf.neutral .f32 hφ) (j : t.Idx) :
    multiReduction .maximumf [0] t s acc h hφ hacc j = Finset.univ.fold max (Ideal.ofBits .f32 acc)
      (fun k : Fin n0 => s (ix2 k ⟨(j ⟨0, h.lt_r2_a0_0⟩).val, Shape.coordLt (j ⟨0, h.lt_r2_a0_0⟩) h.size_r2_a0_0⟩)) := by
  pointwise

theorem pay9_at (mx : FVec Ideal S1x1024 .f32) (s : FVec Ideal S2048x1024 .f32) (j : Fin 1024) :
    k0_pay9 (F := Ideal) mx s (ix2 0 j) = max (mx (ix2 0 j)) (Finset.univ.fold max ⊥ fun t : Fin 2048 => s (ix2 t j)) := by
  have e : k0_pay9 (F := Ideal) mx s = maximumf mx (shapeCast S1x1024 (fun i : S1024.Idx => Finset.univ.fold max (Ideal.ofBits .f32 0xFF800000#32)
      (fun k : Fin 2048 => s (ix2 k (i 0)))) shapeCasts_S1024_S1x1024) := by
    unfold k0_pay9
    exact congrArg (fun v => maximumf mx (shapeCast S1x1024 v shapeCasts_S1024_S1x1024))
      (funext fun i => col_max s 0xFF800000#32 reduces_S2048x1024_S1024 (.inl rfl) rfl i)
  rw [e]
  pointwise
  rw [neg_inf]

theorem pay10_at (mx : FVec Ideal S1x1024 .f32) (a : FVec Ideal S80x1024 .f32) (s : FVec Ideal S2048x1024 .f32) (V : Vec Ideal S1x1x80x2048 .bf16) (d : Fin 80) (j : Fin 1024) :
    k0_pay10 (F := Ideal) mx a s V (ix2 d j) = a (ix2 d j) * Ideal.exp2 (mx (ix2 0 j) - k0_pay9 (F := Ideal) mx s (ix2 0 j))
      + ∑ t : Fin 2048, V (ix4 0 0 d t) * Ideal.exp2 (s (ix2 t j) - k0_pay9 (F := Ideal) mx s (ix2 0 j)) := by
  pointwise [k0_pay10]
  rfl

theorem pay11_at (mx : FVec Ideal S1x1024 .f32) (a : FVec Ideal S80x1024 .f32) (s : FVec Ideal S2048x1024 .f32) (V : Vec Ideal S1x1x80x2048 .bf16) (d : Fin 64) (j : Fin 1024) :
    k0_pay11 (F := Ideal) mx a s V (ix2 j ⟨d.val, by omega⟩) = Ideal.div (k0_pay10 (F := Ideal) mx a s V (ix2 ⟨d.val, by omega⟩ j)) (k0_pay10 (F := Ideal) mx a s V (ix2 64 j)) := by
  pointwise [k0_pay11, k0_pay10, k0_pay9]

theorem pay27_at (q : FVec Ideal S128x1024 .bf16) (sh : FVec Ideal S1x1024 .f32) (a : FVec Ideal S80x1024 .f32) (p : FVec Ideal S2048x1024 .bf16)
    (V0 : Vec Ideal S1x1x80x2048 .bf16) (K1 : Vec Ideal S1x2048x128 .bf16) (V1 : Vec Ideal S1x1x80x2048 .bf16) (y : Fin 256) (d : Fin 64) :
    k0_pay27 (F := Ideal) q sh a p V0 K1 V1 (ix3 0 y d) = k0_pay26 (F := Ideal) q sh a p V0 K1 V1 (ix2 ⟨y.val, by omega⟩ ⟨d.val, by omega⟩) := by
  pointwise [k0_pay27]

theorem pay28_at (q : FVec Ideal S128x1024 .bf16) (sh : FVec Ideal S1x1024 .f32) (a : FVec Ideal S80x1024 .f32) (p : FVec Ideal S2048x1024 .bf16)
    (V0 : Vec Ideal S1x1x80x2048 .bf16) (K1 : Vec Ideal S1x2048x128 .bf16) (V1 : Vec Ideal S1x1x80x2048 .bf16) (y : Fin 256) (d : Fin 64) :
    k0_pay28 (F := Ideal) q sh a p V0 K1 V1 (ix3 0 y d) = k0_pay26 (F := Ideal) q sh a p V0 K1 V1 (ix2 ⟨256 + y.val, by omega⟩ ⟨d.val, by omega⟩) := by
  pointwise [k0_pay28]

theorem pay29_at (q : FVec Ideal S128x1024 .bf16) (sh : FVec Ideal S1x1024 .f32) (a : FVec Ideal S80x1024 .f32) (p : FVec Ideal S2048x1024 .bf16)
    (V0 : Vec Ideal S1x1x80x2048 .bf16) (K1 : Vec Ideal S1x2048x128 .bf16) (V1 : Vec Ideal S1x1x80x2048 .bf16) (y : Fin 256) (d : Fin 64) :
    k0_pay29 (F := Ideal) q sh a p V0 K1 V1 (ix3 0 y d) = k0_pay26 (F := Ideal) q sh a p V0 K1 V1 (ix2 ⟨512 + y.val, by omega⟩ ⟨d.val, by omega⟩) := by
  pointwise [k0_pay29]

theorem pay12_at (mx : FVec Ideal S1x1024 .f32) (a : FVec Ideal S80x1024 .f32) (s : FVec Ideal S2048x1024 .f32) (V : Vec Ideal S1x1x80x2048 .bf16) (y : Fin 256) (d : Fin 64) :
    k0_pay12 (F := Ideal) mx a s V (ix3 0 y d) = k0_pay11 (F := Ideal) mx a s V (ix2 ⟨y.val, by omega⟩ ⟨d.val, by omega⟩) := by
  pointwise [k0_pay12]

theorem pay3_at (mx : FVec Ideal S1x1024 .f32) (a : FVec Ideal S80x1024 .f32) (s : FVec Ideal S2048x1024 .f32) (V : Vec Ideal S1x1x80x2048 .bf16) (y : Fin 256) (d : Fin 64) :
    k0_pay3 (F := Ideal) (k0_pay13 (F := Ideal) mx a s V) (ix3 0 y d) = k0_pay11 (F := Ideal) mx a s V (ix2 ⟨256 + y.val, by omega⟩ ⟨d.val, by omega⟩) := by
  pointwise [k0_pay3, k0_pay13]

theorem pay4_at (a : FVec Ideal S1024x128 .f32) (p : Fin 256) (d : Fin 64) :
    k0_pay4 (F := Ideal) a (ix3 0 p d) = a (ix2 ⟨512 + p.val, by omega⟩ ⟨d.val, by omega⟩) := by
  pointwise [k0_pay4]

theorem pay5_at (a : FVec Ideal S1024x128 .f32) (p : Fin 256) (d : Fin 64) :
    k0_pay5 (F := Ideal) a (ix3 0 p d) = a (ix2 ⟨768 + p.val, by omega⟩ ⟨d.val, by omega⟩) := by
  pointwise [k0_pay5]

end Cert.AttentionIdeal.Val

end
-- ==== Proof.Soft.lean ====
/- Softmax over the extended reals: a weighted sum whose weights are powers of two, divided by the sum of the weights,
   does not depend on the shift the weights were taken at. -/
module

public import Idealize.ShloMosaic.PureOps.Ideal
public import Idealize.ShloMosaic.PureOps.Ideal.Laws

@[expose] public section

noncomputable section

namespace Cert.Soft

open Idealize.ShloMosaic

/-- A real sum, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over a sum of any extended reals. -/
theorem sum_mul {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The weighted mean: dividing by the sum of the weights drops a common positive factor. -/
theorem mean_eq {ι : Type} (s : Finset ι) (v : ι → EReal) (w : ι → ℝ) (c : ℝ) (hc : 0 < c) (hW : 0 < ∑ i ∈ s, w i) :
    Ideal.div (∑ i ∈ s, v i * ((c * w i : ℝ) : EReal)) ((c * ∑ i ∈ s, w i : ℝ) : EReal)
      = ∑ i ∈ s, v i * ((w i / ∑ i ∈ s, w i : ℝ) : EReal) := by
  have hcW : 0 < c * ∑ i ∈ s, w i := mul_pos hc hW
  rw [Ideal.div_coe hcW.ne', sum_mul s _ _ (by positivity)]
  refine Finset.sum_congr rfl fun i _ => ?_
  rw [mul_assoc, ← EReal.coe_mul]
  congr 2
  field_simp

/-- One weight of the mean. -/
theorem weight_eq (w W c : ℝ) (hc : 0 < c) (hW : 0 < W) :
    Ideal.div ((c * w : ℝ) : EReal) ((c * W : ℝ) : EReal) = ((w / W : ℝ) : EReal) := by
  have hcW : 0 < c * W := mul_pos hc hW
  rw [Ideal.div_coe hcW.ne', ← EReal.coe_mul]
  congr 1
  field_simp

/-- Two to a real power. -/
def p2 (x : ℝ) : ℝ := Real.rpow 2 x

theorem p2_pos (x : ℝ) : 0 < p2 x := Real.rpow_pos_of_pos (by norm_num) x

theorem p2_sub (x y : ℝ) : p2 (x - y) = p2 (-y) * p2 x := by
  unfold p2
  show (2:ℝ) ^ (x - y) = (2:ℝ) ^ (-y) * (2:ℝ) ^ x
  rw [← Real.rpow_add (by norm_num)]
  congr 1; ring

theorem p2_add (x y : ℝ) : p2 (x + y) = p2 x * p2 y := Real.rpow_add (by norm_num) x y

theorem exp2_sub (x y : ℝ) : Ideal.exp2 ((x : EReal) - (y : EReal)) = ((p2 (x - y) : ℝ) : EReal) := by
  rw [← EReal.coe_sub, Ideal.exp2_coe]; rfl

/-- The natural exponential of `ln 2` times a number is two to that power. -/
theorem exp_ln2 (x M : ℝ) : Real.exp (x * Real.log 2 - M) = Real.exp (-M) * p2 x := by
  unfold p2
  show _ = _ * (2:ℝ) ^ x
  rw [Real.rpow_def_of_pos (by norm_num), ← Real.exp_add]
  congr 1; ring

/-- The softmax mean of the values `v` at the scores `s`, to base two. -/
def mean {ι : Type} (I : Finset ι) (v : ι → EReal) (s : ι → ℝ) : EReal :=
  ∑ i ∈ I, v i * ((p2 (s i) / ∑ i ∈ I, p2 (s i) : ℝ) : EReal)

theorem sum_p2_pos {ι : Type} (I : Finset ι) (hI : I.Nonempty) (s : ι → ℝ) : 0 < ∑ i ∈ I, p2 (s i) :=
  Finset.sum_pos (fun i _ => p2_pos _) hI

/-- The weights at a real shift. -/
theorem mean_of_shift {ι : Type} (I : Finset ι) (hI : I.Nonempty) (v : ι → EReal) (s : ι → ℝ) (μ : ℝ) :
    Ideal.div (∑ i ∈ I, v i * ((p2 (s i - μ) : ℝ) : EReal)) (∑ i ∈ I, 1 * ((p2 (s i - μ) : ℝ) : EReal)) = mean I v s := by
  have h1 : (∑ i ∈ I, 1 * ((p2 (s i - μ) : ℝ) : EReal)) = ((p2 (-μ) * ∑ i ∈ I, p2 (s i) : ℝ) : EReal) := by
    rw [Finset.mul_sum, coe_sum]
    exact Finset.sum_congr rfl fun i _ => by rw [one_mul, p2_sub]
  rw [h1]
  simp only [p2_sub]
  exact mean_eq I v _ _ (p2_pos _) (sum_p2_pos I hI s)

/-- The main path: a shift that is not `⊥` and leaves a positive denominator gives the softmax mean. -/
theorem fast {ι : Type} (I : Finset ι) (hI : I.Nonempty) (v : ι → EReal) (s : ι → ℝ) (σ : EReal) (hσ : σ ≠ ⊥)
    (hd : 0 < ∑ i ∈ I, 1 * Ideal.exp2 ((s i : EReal) - σ)) :
    Ideal.div (∑ i ∈ I, v i * Ideal.exp2 ((s i : EReal) - σ)) (∑ i ∈ I, 1 * Ideal.exp2 ((s i : EReal) - σ)) = mean I v s := by
  induction σ using EReal.rec with
  | bot => exact absurd rfl hσ
  | top => simp [sub_eq_add_neg] at hd
  | coe μ => simp only [exp2_sub]; exact mean_of_shift I hI v s μ

/-- The reference's softmax: natural exponentials of `ln 2` times the scores, at any real shift. -/
theorem natural {ι : Type} (I : Finset ι) (hI : I.Nonempty) (v : ι → EReal) (s : ι → ℝ) (M : ℝ) :
    (∑ i ∈ I, v i * Ideal.div (Ideal.exp (((s i * Real.log 2 : ℝ) : EReal) - (M : EReal)))
      (∑ i ∈ I, Ideal.exp (((s i * Real.log 2 : ℝ) : EReal) - (M : EReal)))) = mean I v s := by
  have h : ∀ i, Ideal.exp (((s i * Real.log 2 : ℝ) : EReal) - (M : EReal)) = ((Real.exp (-M) * p2 (s i) : ℝ) : EReal) := by
    intro i
    rw [← EReal.coe_sub, Ideal.exp_coe, exp_ln2]
  simp only [h, ← coe_sum, ← Finset.mul_sum]
  refine Finset.sum_congr rfl fun i _ => ?_
  rw [weight_eq _ _ _ (Real.exp_pos _) (sum_p2_pos I hI s)]

/-- The greatest of a nonempty family of reals, as a fold from `⊥`, is real. -/
theorem fold_max_real {ι : Type} (I : Finset ι) (hI : I.Nonempty) (s : ι → ℝ) :
    ∃ M : ℝ, I.fold max ⊥ (fun i => (s i : EReal)) = (M : EReal) := by
  classical
  induction hI using Finset.Nonempty.cons_induction with
  | singleton a => exact ⟨s a, by rw [Finset.fold_singleton]; simp⟩
  | cons a t ha ht ih =>
    obtain ⟨M, hM⟩ := ih
    refine ⟨max (s a) M, ?_⟩
    rw [Finset.fold_cons, hM]
    exact (EReal.coe_strictMono.monotone.map_max).symm

/-- The streaming update of one chunk. -/
theorem stream {n : ℕ} (S : ℕ → Fin n → ℝ) (V : ℕ → Fin n → EReal) (k : ℕ) (μ μ' : ℝ) :
    (∑ j ∈ Finset.range k, ∑ t : Fin n, V j t * ((p2 (S j t - μ) : ℝ) : EReal)) * Ideal.exp2 ((μ : EReal) - (μ' : EReal))
        + ∑ t : Fin n, V k t * Ideal.exp2 ((S k t : EReal) - (μ' : EReal))
      = ∑ j ∈ Finset.range (k + 1), ∑ t : Fin n, V j t * ((p2 (S j t - μ') : ℝ) : EReal) := by
  rw [Finset.sum_range_succ, exp2_sub, sum_mul _ _ _ (p2_pos _).le]
  refine congrArg₂ (· + ·) (Finset.sum_congr rfl fun j _ => ?_) (Finset.sum_congr rfl fun t _ => by rw [exp2_sub])
  rw [sum_mul _ _ _ (p2_pos _).le]
  refine Finset.sum_congr rfl fun t _ => ?_
  rw [mul_assoc, ← EReal.coe_mul, ← p2_add]
  congr 3; ring

end Cert.Soft

end
-- ==== Proof.AttnShift.lean ====
/- What the attention body's shift, branch and accumulators are, as sums over the keys. -/
module

public import proofs.«01_k».proof.Proof.AttnIdealBody
public import proofs.«01_k».proof.Proof.AttnHead
public import proofs.«01_k».proof.Proof.AttnPay
public import proofs.«01_k».proof.Proof.Soft
public import Idealize.ShloMosaic.Lib.Pipeline.ValueKit
public import Idealize.ShloMosaic.Lib.Pipeline.ReadBack

@[expose] public section

set_option maxRecDepth 16384

noncomputable section

namespace Cert.AttentionIdeal.Val

open Cert.AttentionIdeal Cert.AttentionIdeal.Gen Cert.AttentionIdeal.Body
open Idealize.ShloMosaic Idealize.ShloMosaic.TcCoe Idealize.SL.Sem

/-- The square root of a nonnegative number is not `⊥`. -/
theorem sqrt_ne_bot (x : EReal) (hx : 0 ≤ x) : Ideal.sqrt x ≠ ⊥ := by
  induction x using EReal.rec with
  | bot => simp at hx
  | top => exact (top_ne_bot : (⊤ : EReal) ≠ ⊥)
  | coe r =>
    have h : ¬ r < 0 := not_lt.2 (by exact_mod_cast hx)
    show (if r < 0 then (⊥ : EReal) else ((Real.sqrt r : ℝ) : EReal)) ≠ ⊥
    rw [if_neg h]; exact EReal.coe_ne_bot _

variable (i : grid0.Coords) (x0 : Vec Ideal S1x1x64x1024 .bf16) (x1 : Vec Ideal S1x1x8x1024 .f32) (x2 : Vec Ideal S1x8x128 .f32)
  (x3 : Vec Ideal S1x16384x128 .bf16) (x4 : Vec Ideal S1x1x80x16384 .bf16)

theorem shv_at (j : Fin 1024) : shv i x1 x2 (ix2 0 j) = Ideal.sqrt (x1 (ix4 0 0 0 j) * Finset.univ.fold max ⊥ fun l : Fin 128 =>
    if l.val / 64 = (i 1).val then x2 (ix3 0 0 l) else (0 : EReal)) := by
  unfold shv
  pointwise [k0_pay18, k0_pay15, k0_pay16, k0_pay17]
  have hm := fun l : Fin 128 => head_mask l (i 1)
  simp only [hm, neg_inf]
  refine congrArg (fun f => Ideal.sqrt (_ * Finset.univ.fold max ⊥ f)) (funext fun l => ?_)
  by_cases h : l.val / 64 = (i 1).val
  · simp only [if_pos h]; exact if_pos rfl
  · simp only [if_neg h]; rfl

/-- A nonnegative squared norm gives a shift that is not `⊥`: the lanes of the other head put a zero in the maximum. -/
theorem shv_ne_bot (j : Fin 1024) (hN : 0 ≤ x1 (ix4 0 0 0 j)) : shv i x1 x2 (ix2 0 j) ≠ ⊥ := by
  rw [shv_at]
  refine sqrt_ne_bot _ (mul_nonneg hN ((Finset.le_fold_max _).2 (Or.inr ⟨⟨64 * (1 - (i 1).val), ?_⟩, Finset.mem_univ _, ?_⟩)))
  · have : (i 1).val < 2 := (i 1).isLt
    omega
  · have : (i 1).val < 2 := (i 1).isLt
    rw [if_neg (by simp only; omega)]

/-- A body that does not take the branch has positive denominators. -/
theorem pos_of_not_slow (h : ¬ Slow i x0 x1 x2 x3 x4) (j : Fin 1024) : 0 < acc8 i x0 x1 x2 x3 x4 (ix2 64 j) := by
  refine lt_of_lt_of_le ?_ (pay2_at (acc8 i x0 x1 x2 x3 x4) j)
  by_contra hc
  refine h ?_
  unfold Slow
  generalize k0_pay2 (acc8 i x0 x1 x2 x3 x4) = a at hc
  have hp : (0 : EReal) < Ideal.ofBits FTy.f32 0x0D800000#32 := by
    simp [Ideal.ofBits, Ideal.ieee]
    positivity
  have hb : Scalar.cmpf .oge a (Scalar.ofBits .f32 0x0D800000#32 : Ideal .f32) = 0#1 := by
    show BitVec.ofBool (decide (Ideal.ofBits FTy.f32 0x0D800000#32 ≤ a)) = 0#1
    rw [decide_eq_false (not_le.2 (lt_of_le_of_lt (not_lt.1 hc) hp))]
    rfl
  rw [hb]
  decide

end Cert.AttentionIdeal.Val

end
-- ==== Proof.AttnVal.lean ====
/- The block the attention body leaves: softmax means of the values at the scores. -/
module

public import proofs.«01_k».proof.Proof.AttnIdealBody
public import proofs.«01_k».proof.Proof.AttnShift
public import proofs.«01_k».proof.Proof.AttnHead
public import proofs.«01_k».proof.Proof.AttnPay
public import proofs.«01_k».proof.Proof.Soft
public import Idealize.ShloMosaic.Lib.Pipeline.ValueKit
public import Idealize.ShloMosaic.Lib.Pipeline.ReadBack

@[expose] public section

set_option maxRecDepth 16384

noncomputable section

namespace Cert.AttentionIdeal.Val

open Cert.AttentionIdeal Cert.AttentionIdeal.Gen Cert.AttentionIdeal.Body
open Idealize.ShloMosaic Idealize.ShloMosaic.TcCoe Idealize.SL.Sem

/-- The accumulator of the main path, chunk by chunk. -/
theorem chain (q : FVec Ideal S128x1024 .bf16) (sh : FVec Ideal S1x1024 .f32) (p0 : FVec Ideal S2048x1024 .bf16)
    (K : Fin 8 → Vec Ideal S1x2048x128 .bf16) (V : Fin 8 → Vec Ideal S1x1x80x2048 .bf16)
    (hp0 : ∀ t j, p0 (ix2 t j) = k0_pay22 (F := Ideal) q sh (K 0) (ix2 t j)) (d : Fin 80) (j : Fin 1024) :
    k0_pay25 (F := Ideal) q sh (k0_pay23 (F := Ideal) q sh (k0_pay21 (F := Ideal) q sh (k0_pay19 (F := Ideal)) p0 (V 0) (K 1) (V 1) (K 2) (V 2))
        (k0_pay22 (F := Ideal) q sh (K 3)) (V 3) (K 4) (V 4) (K 5) (V 5)) (k0_pay24 (F := Ideal) q sh (K 6)) (V 6) (K 7) (V 7) (ix2 d j)
      = ∑ c : Fin 8, ∑ t : Fin 2048, V c (ix4 0 0 d t) * Ideal.exp2 ((∑ r : Fin 128, K c (ix3 0 t r) * q (ix2 r j)) - sh (ix2 0 j)) := by
  rw [pay25_at, pay24_eq, pay23_eq, pay21_at, pay21_at, pay19_at, zero_add, Fin.sum_univ_eight]
  simp only [hp0, pay22_at]

/-- The place of key `t` of chunk `c`. -/
def key (c : Fin 8) (t : Fin 2048) : Fin 16384 := ⟨c.val * 2048 + t.val, by omega⟩

/-- Chunk `c` of the keys. -/
def Kc (x3 : Vec Ideal S1x16384x128 .bf16) (c : Fin 8) : Vec Ideal S1x2048x128 .bf16 := fun t => x3 (ix3 0 (key c (t 1)) (t 2))
/-- Chunk `c` of the values. -/
def Vc (x4 : Vec Ideal S1x1x80x16384 .bf16) (c : Fin 8) : Vec Ideal S1x1x80x2048 .bf16 := fun t => x4 (ix4 0 0 (t 2) (key c (t 3)))

theorem ld_K (x3 : Vec Ideal S1x16384x128 .bf16) (c : Fin 8) (off : Fin 3 → ℕ) (inb) (h : off = ![0, c.val * 2048, 0]) :
    (View.ld (Val := Elt Ideal) (e' := .bf16) x3 (Rect.unit (s := S1x16384x128) off S1x2048x128.size inb)) = Kc x3 c := by
  subst h
  funext t
  refine View.ld_unit_apply_of x3 _ _ inb t _ fun a => ?_
  fin_cases a
  · have : (t 0).val < 1 := (t 0).isLt
    show 0 = 0 + (t 0).val
    omega
  · rfl
  · show (t 2).val = 0 + (t 2).val
    omega

theorem ld_V (x4 : Vec Ideal S1x1x80x16384 .bf16) (c : Fin 8) (off : Fin 4 → ℕ) (inb) (h : off = ![0, 0, 0, c.val * 2048]) :
    (View.ld (Val := Elt Ideal) (e' := .bf16) x4 (Rect.unit (s := S1x1x80x16384) off S1x1x80x2048.size inb)) = Vc x4 c := by
  subst h
  funext t
  refine View.ld_unit_apply_of x4 _ _ inb t _ fun a => ?_
  fin_cases a
  · have : (t 0).val < 1 := (t 0).isLt
    show 0 = 0 + (t 0).val
    omega
  · have : (t 1).val < 1 := (t 1).isLt
    show 0 = 0 + (t 1).val
    omega
  · show (t 2).val = 0 + (t 2).val
    omega
  · rfl

variable (i : grid0.Coords) (x0 : Vec Ideal S1x1x64x1024 .bf16) (x1 : Vec Ideal S1x1x8x1024 .f32) (x2 : Vec Ideal S1x8x128 .f32)
  (x3 : Vec Ideal S1x16384x128 .bf16) (x4 : Vec Ideal S1x1x80x16384 .bf16)

theorem acc8_at (d : Fin 80) (j : Fin 1024) : acc8 i x0 x1 x2 x3 x4 (ix2 d j)
    = ∑ t : Fin 16384, x4 (ix4 0 0 d t) * Ideal.exp2 ((∑ r : Fin 128, x3 (ix3 0 t r) * qv i x0 (ix2 r j)) - shv i x1 x2 (ix2 0 j)) := by
  unfold acc8 acc6 acc3
  rw [ld_K x3 1 ![0, 2048, 0] _ rfl, ld_K x3 2 ![0, 4096, 0] _ rfl, ld_K x3 3 ![0, 6144, 0] _ rfl, ld_K x3 4 ![0, 8192, 0] _ rfl, ld_K x3 5 ![0, 10240, 0] _ rfl, ld_K x3 6 ![0, 12288, 0] _ rfl, ld_K x3 7 ![0, 14336, 0] _ rfl,
    ld_V x4 0 ![0, 0, 0, 0] _ rfl, ld_V x4 1 ![0, 0, 0, 2048] _ rfl, ld_V x4 2 ![0, 0, 0, 4096] _ rfl, ld_V x4 3 ![0, 0, 0, 6144] _ rfl, ld_V x4 4 ![0, 0, 0, 8192] _ rfl, ld_V x4 5 ![0, 0, 0, 10240] _ rfl, ld_V x4 6 ![0, 0, 0, 12288] _ rfl, ld_V x4 7 ![0, 0, 0, 14336] _ rfl]
  rw [chain (qv i x0) (shv i x1 x2) (p0 i x0 x1 x2 x3) (Kc x3) (Vc x4)]
  · rw [Fin.sum_univ_tiles 8 2048 rfl]
    rfl
  · intro t j
    unfold p0
    rw [ld_K x3 0 ![0, 0, 0] _ rfl, pay20_at, pay22_at]
    rfl

/-! ## The scores -/

/-- The query block of the head, read at an index. -/
theorem qv_at (r : Fin 128) (j : Fin 1024) :
    qv i x0 (ix2 r j) = if r.val / 64 = (i 1).val then x0 (ix4 0 0 ⟨r.val % 64, Nat.mod_lt _ (by decide)⟩ j) else 0 := by
  unfold qv
  rw [pay14_at]
  refine congrArg (fun y => if r.val / 64 = (i 1).val then y else (0 : EReal)) ?_
  refine View.ld_unit_apply_of x0 _ _ _ _ _ fun a => ?_
  fin_cases a <;> exact (Nat.zero_add _).symm

/-- The score of a key at a query column, over the lanes of head `h`. -/
def score (q : Fin 64 → Fin 1024 → ℝ) (κ : Fin 16384 → Fin 128 → ℝ) (h : Fin 2) (t : Fin 16384) (j : Fin 1024) : ℝ :=
  ∑ d : Fin 64, κ t ⟨64 * h.val + d.val, by omega⟩ * q d j

theorem score_at (q : Fin 64 → Fin 1024 → ℝ) (κ : Fin 16384 → Fin 128 → ℝ) (hq : ∀ d j, x0 (ix4 0 0 d j) = (q d j : EReal))
    (hk : ∀ t r, x3 (ix3 0 t r) = (κ t r : EReal)) (t : Fin 16384) (j : Fin 1024) :
    ∑ r : Fin 128, x3 (ix3 0 t r) * qv i x0 (ix2 r j) = ((score q κ (i 1) t j : ℝ) : EReal) := by
  unfold score
  rw [Soft.coe_sum, Fin.sum_univ_two_halves 64 64 rfl]
  simp only [qv_at]
  have h2 : (i 1).val = 0 ∨ (i 1).val = 1 := by
    have : (i 1).val < 2 := (i 1).isLt
    omega
  rcases h2 with h | h
  · have e : ∑ k : Fin 64, x3 (ix3 0 t ⟨64 + k.val, by omega⟩) * (if (64 + k.val) / 64 = (i 1).val then x0 (ix4 0 0 ⟨(64 + k.val) % 64, Nat.mod_lt _ (by decide)⟩ j) else (0 : EReal)) = 0 :=
      Finset.sum_eq_zero fun k _ => by rw [if_neg (by omega), mul_zero]
    rw [e, add_zero]
    refine Finset.sum_congr rfl fun k _ => ?_
    rw [if_pos (by omega), hk, hq, EReal.coe_mul]
    congr 3 <;> exact Fin.ext (by simp only; omega)
  · have e : ∑ k : Fin 64, x3 (ix3 0 t ⟨k.val, by omega⟩) * (if k.val / 64 = (i 1).val then x0 (ix4 0 0 ⟨k.val % 64, Nat.mod_lt _ (by decide)⟩ j) else (0 : EReal)) = 0 :=
      Finset.sum_eq_zero fun k _ => by rw [if_neg (by omega), mul_zero]
    rw [e, zero_add]
    refine Finset.sum_congr rfl fun k _ => ?_
    rw [if_pos (by omega), hk, hq, EReal.coe_mul]
    congr 3 <;> exact Fin.ext (by simp only; omega)

/-! ## The main path -/

/-- On the main path the quotient of two accumulator rows is the softmax mean. -/
theorem fast_mean (S : Fin 16384 → Fin 1024 → ℝ) (hS : ∀ t j, ∑ r : Fin 128, x3 (ix3 0 t r) * qv i x0 (ix2 r j) = ((S t j : ℝ) : EReal))
    (hN : ∀ j, 0 ≤ x1 (ix4 0 0 0 j)) (h1 : ∀ t, x4 (ix4 0 0 64 t) = 1) (hs : ¬ Slow i x0 x1 x2 x3 x4) (d : Fin 80) (j : Fin 1024) :
    Ideal.div (acc8 i x0 x1 x2 x3 x4 (ix2 d j)) (acc8 i x0 x1 x2 x3 x4 (ix2 64 j))
      = Soft.mean Finset.univ (fun t => x4 (ix4 0 0 d t)) (fun t => S t j) := by
  have hp := pos_of_not_slow i x0 x1 x2 x3 x4 hs j
  rw [acc8_at] at hp ⊢
  rw [acc8_at]
  simp only [hS, h1] at hp ⊢
  exact Soft.fast Finset.univ Finset.univ_nonempty _ _ _ (shv_ne_bot i x1 x2 j (hN j)) hp

/-! ## The streaming path -/

/-- What the streaming path holds before chunk `k`: nothing yet, or the weighted sums at some real shift. -/
def Inv (V : Fin 80 → ℕ → Fin 2048 → EReal) (S : ℕ → Fin 2048 → ℝ) (k : ℕ) (j : Fin 1024) (mx : FVec Ideal S1x1024 .f32) (a : FVec Ideal S80x1024 .f32) : Prop :=
  (k = 0 ∧ mx (ix2 0 j) = ⊥ ∧ ∀ d, a (ix2 d j) = 0) ∨
    ∃ μ : ℝ, mx (ix2 0 j) = (μ : EReal) ∧ ∀ d, a (ix2 d j) = ∑ c ∈ Finset.range k, ∑ t : Fin 2048, V d c t * ((Soft.p2 (S c t - μ) : ℝ) : EReal)

theorem inv_step (V : Fin 80 → ℕ → Fin 2048 → EReal) (S : ℕ → Fin 2048 → ℝ) (k : ℕ) (j : Fin 1024) (mx : FVec Ideal S1x1024 .f32) (a : FVec Ideal S80x1024 .f32)
    (s : FVec Ideal S2048x1024 .f32) (Vk : Vec Ideal S1x1x80x2048 .bf16) (hs : ∀ t, s (ix2 t j) = (S k t : EReal))
    (hV : ∀ d t, Vk (ix4 0 0 d t) = V d k t) (h : Inv V S k j mx a) :
    ∃ μ : ℝ, k0_pay9 (F := Ideal) mx s (ix2 0 j) = (μ : EReal) ∧
      ∀ d, k0_pay10 (F := Ideal) mx a s Vk (ix2 d j) = ∑ c ∈ Finset.range (k + 1), ∑ t : Fin 2048, V d c t * ((Soft.p2 (S c t - μ) : ℝ) : EReal) := by
  obtain ⟨M, hM⟩ := Soft.fold_max_real (Finset.univ : Finset (Fin 2048)) Finset.univ_nonempty (S k)
  have h9 : k0_pay9 (F := Ideal) mx s (ix2 0 j) = max (mx (ix2 0 j)) (M : EReal) := by
    rw [pay9_at]
    simp only [hs]
    rw [hM]
  rcases h with ⟨rfl, hm, ha⟩ | ⟨μ, hm, ha⟩
  · refine ⟨M, by rw [h9, hm]; exact bot_sup_eq _, fun d => ?_⟩
    rw [pay10_at, h9, hm, ha, zero_mul, zero_add, Finset.sum_range_one]
    refine Finset.sum_congr rfl fun t _ => ?_
    rw [hs, hV, show max (⊥ : EReal) (M : EReal) = (M : EReal) from bot_sup_eq _, Soft.exp2_sub]
  · have hmx : max (μ : EReal) (M : EReal) = ((max μ M : ℝ) : EReal) := (EReal.coe_strictMono.monotone.map_max).symm
    refine ⟨max μ M, by rw [h9, hm, hmx], fun d => ?_⟩
    rw [pay10_at, h9, hm, hmx, ha]
    simp only [hs, hV]
    exact Soft.stream S (V d) k μ (max μ M)

/-- Chunk `c`'s key `t`, at any chunk number. -/
def keyN (c : ℕ) (t : Fin 2048) : Fin 16384 := ⟨(c * 2048 + t.val) % 16384, Nat.mod_lt _ (by decide)⟩

theorem keyN_eq (c : Fin 8) (t : Fin 2048) : keyN c.val t = key c t := Fin.ext (Nat.mod_eq_of_lt (key c t).isLt)

theorem slow_inv (S : Fin 16384 → Fin 1024 → ℝ) (hS : ∀ t j, ∑ r : Fin 128, x3 (ix3 0 t r) * qv i x0 (ix2 r j) = ((S t j : ℝ) : EReal)) (j : Fin 1024) :
    ∀ k : ℕ, k ≤ 7 → Inv (fun d c t => x4 (ix4 0 0 d (keyN c t))) (fun c t => S (keyN c t) j) k j (slowSt i x0 x3 x4 k).1 (slowSt i x0 x3 x4 k).2.1
      ∧ ∀ t, (slowSt i x0 x3 x4 k).2.2 (ix2 t j) = (S (keyN k t) j : EReal)
  | 0, _ => by
    refine ⟨Or.inl ⟨rfl, pay6_at j, fun d => pay19_at d j⟩, fun t => ?_⟩
    show k0_pay7 (F := Ideal) (qv i x0) (View.ld x3 rK0) (ix2 t j) = _
    rw [ld_K x3 0 ![0, 0, 0] _ rfl, pay7_at, show keyN 0 t = key 0 t from keyN_eq 0 t]
    exact hS (key 0 t) j
  | k + 1, hk => by
    have hlt : k < k0_t1_loop.trips := hk
    obtain ⟨hI, hs⟩ := slow_inv S hS j k (by omega)
    have ho1 : ∀ (k : Fin k0_t1_loop.trips) (a : Fin 3), k0_off1 k a = (![0, (k.val + 1) * 2048, 0] : Fin 3 → ℕ) a := by decide +kernel
    have ho2 : ∀ (k : Fin k0_t1_loop.trips) (a : Fin 4), k0_off2 k a = (![0, 0, 0, k.val * 2048] : Fin 4 → ℕ) a := by decide +kernel
    have e1 : k0_off1 ⟨k, hlt⟩ = _ := funext (ho1 ⟨k, hlt⟩)
    have e2 : k0_off2 ⟨k, hlt⟩ = _ := funext (ho2 ⟨k, hlt⟩)
    rw [slowSt, dif_pos hlt]
    refine ⟨Or.inr (inv_step _ _ k j _ _ _ _ hs ?_ hI), fun t => ?_⟩
    · intro d t
      rw [ld_V x4 ⟨k, by omega⟩ _ (k0_off2_inb ⟨k, hlt⟩) e2]
      exact congrArg (fun y => x4 (ix4 0 0 d y)) (keyN_eq ⟨k, by omega⟩ t).symm
    · show k0_pay8 (F := Ideal) (qv i x0) (View.ld x3 (Rect.unit (s := S1x16384x128) (k0_off1 ⟨k, hlt⟩) S1x2048x128.size (k0_off1_inb ⟨k, hlt⟩))) (ix2 t j) = _
      rw [ld_K x3 ⟨k + 1, by omega⟩ _ (k0_off1_inb ⟨k, hlt⟩) e1, pay8_eq, pay7_at, show keyN (k + 1) t = key ⟨k + 1, by omega⟩ t from keyN_eq ⟨k + 1, by omega⟩ t]
      exact hS (key ⟨k + 1, by omega⟩ t) j

/-- On the streaming path the quotient is the softmax mean too. -/
theorem slow_mean (S : Fin 16384 → Fin 1024 → ℝ) (hS : ∀ t j, ∑ r : Fin 128, x3 (ix3 0 t r) * qv i x0 (ix2 r j) = ((S t j : ℝ) : EReal))
    (h1 : ∀ t, x4 (ix4 0 0 64 t) = 1) (d : Fin 64) (j : Fin 1024) :
    k0_pay11 (F := Ideal) (slowSt i x0 x3 x4 7).1 (slowSt i x0 x3 x4 7).2.1 (slowSt i x0 x3 x4 7).2.2 (View.ld x4 rV7) (ix2 j ⟨d.val, by omega⟩)
      = Soft.mean Finset.univ (fun t => x4 (ix4 0 0 ⟨d.val, by omega⟩ t)) (fun t => S t j) := by
  obtain ⟨hI, hs⟩ := slow_inv i x0 x3 x4 S hS j 7 le_rfl
  rw [ld_V x4 7 ![0, 0, 0, 14336] _ rfl, pay11_at]
  obtain ⟨μ, -, ha⟩ := inv_step (fun d c t => x4 (ix4 0 0 d (keyN c t))) (fun c t => S (keyN c t) j) 7 j _ _ _ (Vc x4 7) hs
    (fun d t => congrArg (fun y => x4 (ix4 0 0 d y)) (keyN_eq 7 t).symm) hI
  have hsum : ∀ f : Fin 16384 → EReal, ∑ c ∈ Finset.range 8, ∑ t : Fin 2048, f (keyN c t) = ∑ t, f t := by
    intro f
    rw [Fin.sum_univ_tiles 8 2048 rfl, Finset.sum_range]
    refine Finset.sum_congr rfl fun c _ => Finset.sum_congr rfl fun t _ => ?_
    rw [keyN_eq]; rfl
  rw [ha, ha, hsum fun t => x4 (ix4 0 0 ⟨d.val, by omega⟩ t) * ((Soft.p2 (S t j - μ) : ℝ) : EReal),
    hsum fun t => x4 (ix4 0 0 64 t) * ((Soft.p2 (S t j - μ) : ℝ) : EReal)]
  simp only [h1]
  exact Soft.mean_of_shift Finset.univ Finset.univ_nonempty _ _ μ

end Cert.AttentionIdeal.Val

end
-- ==== Proof.AttnOut.lean ====
/- The block the attention's body leaves, read element by element: on both paths it is the softmax mean of the values. -/
module

public import proofs.«01_k».proof.Proof.AttnVal
public import Idealize.ShloMosaic.Lib.Pipeline.ReadBack

@[expose] public section

set_option maxRecDepth 16384

noncomputable section

namespace Cert.AttentionIdeal.Val

open Cert.AttentionIdeal Cert.AttentionIdeal.Gen Cert.AttentionIdeal.Body Idealize.ShloMosaic Idealize.ShloMosaic.ValueKit
open Idealize.ShloMosaic.TcCoe Idealize.SL.Sem

theorem row_col (x : S1x256x64.Idx) : ∃ (p : Fin 256) (d : Fin 64), x = ix3 0 p d := by
  refine ⟨x 1, x 2, funext fun a => ?_⟩
  fin_cases a
  · exact Subsingleton.elim (α := Fin 1) _ _
  · rfl
  · rfl

variable (i : grid0.Coords) (x0 : Vec Ideal S1x1x64x1024 .bf16) (x1 : Vec Ideal S1x1x8x1024 .f32) (x2 : Vec Ideal S1x8x128 .f32)
  (x3 : Vec Ideal S1x16384x128 .bf16) (x4 : Vec Ideal S1x1x80x16384 .bf16)

/-- What the block holds: row `p`, column `64·g + d` is the mean of the values' coordinate `d` at the scores of query column `256·g + p`. -/
def outG (S : Fin 16384 → Fin 1024 → ℝ) : Vec Ideal S1x256x256 .bf16 := fun y =>
  Soft.mean Finset.univ (fun t => x4 (ix4 0 0 ⟨(y 2).val % 64, by omega⟩ t))
    (fun t => S t ⟨256 * ((y 2).val / 64) + (y 1).val, by have h1 : (y 1).val < 256 := (y 1).isLt; have h2 : (y 2).val < 256 := (y 2).isLt; omega⟩)

theorem outG_of (S : Fin 16384 → Fin 1024 → ℝ) (y : S1x256x256.Idx) (d : Fin 64) (j : Fin 1024)
    (hd : (y 2).val % 64 = d.val) (hj : 256 * ((y 2).val / 64) + (y 1).val = j.val) :
    outG x4 S y = Soft.mean Finset.univ (fun t => x4 (ix4 0 0 ⟨d.val, by omega⟩ t)) (fun t => S t j) := by
  unfold outG
  have e1 : (⟨(y 2).val % 64, by omega⟩ : Fin 80) = ⟨d.val, by omega⟩ := Fin.ext hd
  have e2 : ∀ h, (⟨256 * ((y 2).val / 64) + (y 1).val, h⟩ : Fin 1024) = j := fun h => Fin.ext hj
  rw [e1]
  simp only [e2]

/-- One store's element, from its place in the block. -/
theorem outG_emb (S : Fin 16384 → Fin 1024 → ℝ) (off : Fin 3 → ℕ) (inb) (g : ℕ) (hg : g < 4) (h1 : off 1 = 0) (h2 : off 2 = 64 * g) (p : Fin 256) (d : Fin 64) :
    outG x4 S ((Rect.unit (s := S1x256x256) off S1x256x64.size inb).emb (ix3 0 p d))
      = Soft.mean Finset.univ (fun t => x4 (ix4 0 0 ⟨d.val, by omega⟩ t)) (fun t => S t ⟨256 * g + p.val, by omega⟩) := by
  have a1 := rect_emb_unit_val (s := S1x256x256) off S1x256x64.size inb (ix3 0 p d) 1
  have a2 := rect_emb_unit_val (s := S1x256x256) off S1x256x64.size inb (ix3 0 p d) 2
  rw [h1] at a1
  rw [h2] at a2
  have b1 : ((Rect.unit (s := S1x256x256) off S1x256x64.size inb).emb (ix3 0 p d) 1 : ℕ) = p.val := by rw [a1]; exact Nat.zero_add _
  have b2 : ((Rect.unit (s := S1x256x256) off S1x256x64.size inb).emb (ix3 0 p d) 2 : ℕ) = 64 * g + d.val := a2
  refine outG_of x4 S _ d _ ?_ ?_
  · rw [b2]; omega
  · rw [b2, b1]; show _ = 256 * g + p.val; omega

theorem outG_0 (S : Fin 16384 → Fin 1024 → ℝ) (p : Fin 256) (d : Fin 64) :
    outG x4 S (rO0.emb (ix3 0 p d)) = Soft.mean Finset.univ (fun t => x4 (ix4 0 0 ⟨d.val, by omega⟩ t)) (fun t => S t ⟨p.val, by omega⟩) :=
  (outG_emb x4 S ![0, 0, 0] _ 0 (by decide) rfl rfl p d).trans (congrArg (Soft.mean Finset.univ _) (funext fun t => congrArg (S t) (Fin.ext (by simp))))

theorem outG_1 (S : Fin 16384 → Fin 1024 → ℝ) (p : Fin 256) (d : Fin 64) :
    outG x4 S (rO1.emb (ix3 0 p d)) = Soft.mean Finset.univ (fun t => x4 (ix4 0 0 ⟨d.val, by omega⟩ t)) (fun t => S t ⟨256 + p.val, by omega⟩) :=
  outG_emb x4 S ![0, 0, 64] _ 1 (by decide) rfl rfl p d

theorem outG_2 (S : Fin 16384 → Fin 1024 → ℝ) (p : Fin 256) (d : Fin 64) :
    outG x4 S (rO2.emb (ix3 0 p d)) = Soft.mean Finset.univ (fun t => x4 (ix4 0 0 ⟨d.val, by omega⟩ t)) (fun t => S t ⟨512 + p.val, by omega⟩) :=
  outG_emb x4 S ![0, 0, 128] _ 2 (by decide) rfl rfl p d

theorem outG_3 (S : Fin 16384 → Fin 1024 → ℝ) (p : Fin 256) (d : Fin 64) :
    outG x4 S (rO3.emb (ix3 0 p d)) = Soft.mean Finset.univ (fun t => x4 (ix4 0 0 ⟨d.val, by omega⟩ t)) (fun t => S t ⟨768 + p.val, by omega⟩) :=
  outG_emb x4 S ![0, 0, 192] _ 3 (by decide) rfl rfl p d

theorem outv_eq (S : Fin 16384 → Fin 1024 → ℝ) (hS : ∀ t j, ∑ r : Fin 128, x3 (ix3 0 t r) * qv i x0 (ix2 r j) = ((S t j : ℝ) : EReal))
    (hN : ∀ j, 0 ≤ x1 (ix4 0 0 0 j)) (h1 : ∀ t, x4 (ix4 0 0 64 t) = 1) (y : S1x256x256.Idx) :
    outv i x0 x1 x2 x3 x4 y = outG x4 S y := by
  unfold outv
  by_cases hs : Slow i x0 x1 x2 x3 x4
  · rw [if_pos hs]
    refine View.canon_append_of_piecesOf (outG x4 S) (fastPieces i x0 x1 x2 x3 x4) [_, _, _, _] ⟨?_, ?_, ?_, ?_, trivial⟩ y (cover4 _ _ _ _ [] y)
    all_goals
      intro x
      obtain ⟨p, d, rfl⟩ := row_col x
    · exact (pay5_at _ p d).trans ((slow_mean i x0 x3 x4 S hS h1 d _).trans (outG_3 x4 S p d).symm)
    · exact (pay4_at _ p d).trans ((slow_mean i x0 x3 x4 S hS h1 d _).trans (outG_2 x4 S p d).symm)
    · exact (pay3_at _ _ _ _ p d).trans ((slow_mean i x0 x3 x4 S hS h1 d _).trans (outG_1 x4 S p d).symm)
    · exact (pay12_at _ _ _ _ p d).trans ((slow_mean i x0 x3 x4 S hS h1 d _).trans (outG_0 x4 S p d).symm)
  · rw [if_neg hs]
    have hf := fast_mean i x0 x1 x2 x3 x4 S hS hN h1 hs
    refine (congrFun (congrArg View.canon (List.append_nil _).symm) y).trans ?_
    refine View.canon_append_of_piecesOf (outG x4 S) [] [_, _, _, _] ⟨?_, ?_, ?_, ?_, trivial⟩ y (cover4 _ _ _ _ [] y)
    all_goals
      intro x
      obtain ⟨p, d, rfl⟩ := row_col x
    · exact (pay1_at _ p d).trans ((pay26_at _ _ _ _ _ _ _ d _).trans ((hf ⟨d.val, by omega⟩ _).trans (outG_3 x4 S p d).symm))
    · exact (pay29_at _ _ _ _ _ _ _ p d).trans ((pay26_at _ _ _ _ _ _ _ d _).trans ((hf ⟨d.val, by omega⟩ _).trans (outG_2 x4 S p d).symm))
    · exact (pay28_at _ _ _ _ _ _ _ p d).trans ((pay26_at _ _ _ _ _ _ _ d _).trans ((hf ⟨d.val, by omega⟩ _).trans (outG_1 x4 S p d).symm))
    · exact (pay27_at _ _ _ _ _ _ _ p d).trans ((pay26_at _ _ _ _ _ _ _ d _).trans ((hf ⟨d.val, by omega⟩ _).trans (outG_0 x4 S p d).symm))

end Cert.AttentionIdeal.Val

end
-- ==== Proof.AttnArr.lean ====
/- The attention's output array after the run, from the arrays the call is given. -/
module

public import proofs.«01_k».proof.Proof.AttnOut

@[expose] public section

set_option maxRecDepth 16384

noncomputable section

namespace Cert.AttentionIdeal.Val

open Cert.AttentionIdeal Cert.AttentionIdeal.Gen Cert.AttentionIdeal.Body
open Idealize.ShloMosaic Idealize.ShloMosaic.TcCoe Idealize.SL.Sem

/-- The block index of every window at every point of the grid. -/
theorem idx : ∀ t : Fin cfg0.N, win0_0.index t = ![(grid0.coords t 0).val, (grid0.coords t 1).val, 0, (grid0.coords t 2).val]
    ∧ win0_1.index t = ![(grid0.coords t 0).val, (grid0.coords t 1).val, 0, (grid0.coords t 2).val]
    ∧ win0_3.index t = ![(grid0.coords t 0).val, 0, 0]
    ∧ win0_4.index t = ![(grid0.coords t 0).val, (grid0.coords t 1).val, 0, 0]
    ∧ win0_5.index t = ![(grid0.coords t 0).val, (grid0.coords t 2).val, (grid0.coords t 1).val] :=
  (by decide +kernel : ∀ t : Fin grid0.N, _)

variable (m : (ℓ : Loc nD τ sig) → Buf (Elt Ideal) ℓ)

abbrev A0 (c : Dev nD) : Vec Ideal S2x2x64x65536 .bf16 := m ((c : Thread nD τ).loc main_arg0)
abbrev B0 (c : Dev nD) (t : Fin cfg0.N) : Vec Ideal S1x1x64x1024 .bf16 := iblk m c 0 t
abbrev A1 (c : Dev nD) : Vec Ideal S2x2x8x65536 .f32 := m ((c : Thread nD τ).loc main_arg1)
abbrev B1 (c : Dev nD) (t : Fin cfg0.N) : Vec Ideal S1x1x8x1024 .f32 := iblk m c 1 t
abbrev A3 (c : Dev nD) : Vec Ideal S2x16384x128 .bf16 := m ((c : Thread nD τ).loc main_arg3)
abbrev B3 (c : Dev nD) (t : Fin cfg0.N) : Vec Ideal S1x16384x128 .bf16 := iblk m c 3 t
abbrev A4 (c : Dev nD) : Vec Ideal S2x2x80x16384 .bf16 := m ((c : Thread nD τ).loc main_arg4)
abbrev B4 (c : Dev nD) (t : Fin cfg0.N) : Vec Ideal S1x1x80x16384 .bf16 := iblk m c 4 t
/-- The pair, the key head and the row block of a point. -/
def gb (t : Fin cfg0.N) : Fin 2 := grid0.coords t 0
theorem gb_val (t : Fin cfg0.N) : ((gb t : Fin 2) : ℕ) = (grid0.coords t 0 : ℕ) := rfl
def gh (t : Fin cfg0.N) : Fin 2 := grid0.coords t 1
theorem gh_val (t : Fin cfg0.N) : ((gh t : Fin 2) : ℕ) = (grid0.coords t 1 : ℕ) := rfl
def gs (t : Fin cfg0.N) : Fin 64 := grid0.coords t 2
theorem gs_val (t : Fin cfg0.N) : ((gs t : Fin 64) : ℕ) = (grid0.coords t 2 : ℕ) := rfl

/-- The score of key `t` for the query of row `n` of pair `b`, group `g` of key head `h`, to base two. -/
def arrScore (q : Fin 2 → Fin 2 → Fin 64 → Fin 65536 → ℝ) (κ : Fin 2 → Fin 16384 → Fin 128 → ℝ) (b h : Fin 2) (col : Fin 65536) (t : Fin 16384) : ℝ :=
  ∑ d : Fin 64, κ b t ⟨64 * h.val + d.val, by omega⟩ * q b h d col

/-- The column of the laid-out queries that holds row `n` of group `g`. -/
def col (n : Fin 16384) (g : Fin 4) : Fin 65536 := ⟨1024 * (n.val / 256) + 256 * g.val + n.val % 256, by omega⟩

/-- The attention, from the operands as the call gets them: `q`, `κ` the queries and keys, `x4` the values. -/
def attn (q : Fin 2 → Fin 2 → Fin 64 → Fin 65536 → ℝ) (κ : Fin 2 → Fin 16384 → Fin 128 → ℝ) (x4 : Vec Ideal S2x2x80x16384 .bf16) : Vec Ideal S2x16384x512 .bf16 := fun y =>
  Soft.mean Finset.univ (fun t => x4 (ix4 (y 0) ⟨(y 2).val / 256, by have h : (y 2).val < 512 := (y 2).isLt; omega⟩ ⟨(y 2).val % 64, by omega⟩ t))
    (fun t => arrScore q κ (y 0) ⟨(y 2).val / 256, by have h : (y 2).val < 512 := (y 2).isLt; omega⟩
      (col (y 1) ⟨(y 2).val / 64 % 4, by omega⟩) t)

variable (q : Fin 2 → Fin 2 → Fin 64 → Fin 65536 → ℝ) (κ : Fin 2 → Fin 16384 → Fin 128 → ℝ)

theorem blk0 (c : Dev nD) (hq : ∀ b h d j, A0 m c (ix4 b h d j) = (q b h d j : EReal)) (t : Fin cfg0.N) (d : Fin 64) (j : Fin 1024) :
    B0 m c t (ix4 0 0 d j)
      = (q (gb t) (gh t) d ⟨1024 * (gs t).val + j.val, by omega⟩ : EReal) := by
  refine Eq.trans ?_ (hq _ _ _ _)
  blk_ext [iblk, V, idx t, gb_val, gh_val, gs_val]

theorem blk1 (c : Dev nD) (hn : ∀ b h j, (0 : EReal) ≤ A1 m c (ix4 b h 0 j)) (t : Fin cfg0.N) (j : Fin 1024) :
    (0 : EReal) ≤ B1 m c t (ix4 0 0 0 j) := by
  have e : B1 m c t (ix4 0 0 0 j) = A1 m c
      (ix4 (gb t) (gh t) 0 ⟨1024 * (gs t).val + j.val, by omega⟩) := by
    blk_ext [iblk, V, idx t, gb_val, gh_val, gs_val]
  rw [e]
  exact hn _ _ _

theorem blk3 (c : Dev nD) (hk : ∀ b t r, A3 m c (ix3 b t r) = (κ b t r : EReal)) (t : Fin cfg0.N) (s : Fin 16384) (r : Fin 128) :
    B3 m c t (ix3 0 s r) = (κ (gb t) s r : EReal) := by
  refine Eq.trans ?_ (hk _ _ _)
  blk_ext [iblk, V, idx t, gb_val, gh_val, gs_val]

theorem blk4 (c : Dev nD) (t : Fin cfg0.N) (d : Fin 80) (s : Fin 16384) :
    B4 m c t (ix4 0 0 d s)
      = A4 m c (ix4 (gb t) (gh t) d s) := by
  blk_ext [iblk, V, idx t, gb_val, gh_val, gs_val]

theorem point (c : Dev nD) (hq : ∀ b h d j, A0 m c (ix4 b h d j) = (q b h d j : EReal))
    (hn : ∀ b h j, (0 : EReal) ≤ A1 m c (ix4 b h 0 j))
    (hk : ∀ b t r, A3 m c (ix3 b t r) = (κ b t r : EReal))
    (h1 : ∀ b h t, A4 m c (ix4 b h 64 t) = (1 : EReal)) (t : Fin cfg0.N) (y : S1x256x256.Idx) :
    outv (grid0.coords t) (iblk m c 0 t) (iblk m c 1 t) (iblk m c 2 t) (iblk m c 3 t) (iblk m c 4 t) y
      = attn q κ (A4 m c) (((cfg0.win 5).blk t).view.emb y) := by
  rw [outv_eq (grid0.coords t) _ _ _ _ _ _
    (score_at (grid0.coords t) _ _ _ _ (blk0 m q c hq t) (blk3 m κ c hk t)) (blk1 m c hn t) (fun s => (blk4 m c t 64 s).trans (h1 _ _ _))]
  have c0 : (((cfg0.win 5).blk t).view.emb y 0 : ℕ) = (gb t).val := by blk_simp [idx t, gb_val]
  have c1 : (((cfg0.win 5).blk t).view.emb y 1 : ℕ) = (gs t).val * 256 + (y 1).val := by blk_simp [idx t, gs_val]
  have c2 : (((cfg0.win 5).blk t).view.emb y 2 : ℕ) = (gh t).val * 256 + (y 2).val := by blk_simp [idx t, gh_val]
  generalize ((cfg0.win 5).blk t).view.emb y = z at c0 c1 c2
  have y1 : (y 1).val < 256 := (y 1).isLt
  have y2 : (y 2).val < 256 := (y 2).isLt
  have e0 : (z 0 : Fin 2) = gb t := Fin.ext c0
  have e1 : ∀ h, (⟨(z 2).val / 256, h⟩ : Fin 2) = gh t := fun h => Fin.ext (by show (z 2).val / 256 = _; omega)
  unfold outG attn
  simp only [e1]
  rw [e0]
  refine congrArg₂ (Soft.mean Finset.univ) (funext fun s => ?_) (funext fun s => ?_)
  · rw [blk4]
    exact congrArg (fun d => A4 m c (ix4 (gb t) (gh t) d s)) (Fin.ext (by show (y 2).val % 64 = (z 2).val % 64; omega))
  · unfold score arrScore
    refine Finset.sum_congr rfl fun d _ => ?_
    refine congrArg (fun j => κ (gb t) s _ * q (gb t) (gh t) d j) (Fin.ext ?_)
    show 1024 * (gs t).val + (256 * ((y 2).val / 64) + (y 1).val) = 1024 * ((z 1).val / 256) + 256 * ((z 2).val / 64 % 4) + (z 1).val % 256
    omega

/-- The output array after the run. -/
theorem final (c : Dev nD) (hq : ∀ b h d j, A0 m c (ix4 b h d j) = (q b h d j : EReal))
    (hn : ∀ b h j, (0 : EReal) ≤ A1 m c (ix4 b h 0 j))
    (hk : ∀ b t r, A3 m c (ix3 b t r) = (κ b t r : EReal))
    (h1 : ∀ b h t, A4 m c (ix4 b h 64 t) = (1 : EReal)) :
    (dats m 0 c).arrAt 5 (cfgs 0).N = attn q κ (A4 m c) := by
  refine (dats m 0 c).arrAt_eq_of_covers 5 _ (by decide +kernel) fun t hf y => ?_
  blk_simp
  rw [after0_5]
  exact point m q κ c hq hn hk h1 t y

end Cert.AttentionIdeal.Val

end
-- ==== Proof.AttnRef.lean ====
/- The reference's attention, read element by element: it is the softmax mean of the values, as the kernel's is. -/
module

public import proofs.«01_k».proof.Proof.Gen.AttentionRefIdeal.Run
public import proofs.«01_k».proof.Proof.Gen.AttentionRefIdeal.Read
public import proofs.«01_k».proof.Proof.AttnArr
public import Idealize.ShloMosaic.Lib.ValueIdxRank6

@[expose] public section

set_option maxRecDepth 16384

noncomputable section

namespace Cert.AttentionRefIdeal.Val

open Cert.AttentionRefIdeal Cert.AttentionRefIdeal.Gen Cert.AttentionRefIdeal.Read
open Idealize.ShloMosaic Idealize.ShloMosaic.TcCoe Idealize.SL.Sem
open Cert.AttentionIdeal.Val (arrScore col attn)

variable (X0 : FVec Ideal S2x2x64x65536 .bf16) (X3 : FVec Ideal S2x16384x128 .bf16) (X4 : FVec Ideal S2x2x80x16384 .bf16)

/-- The queries in the problem's order. -/
theorem v3_at (b : Fin 2) (n : Fin 16384) (h : Fin 2) (g : Fin 4) (d : Fin 64) :
    val_main_v3 (F := Ideal) X0 (ix5 b n h g d) = X0 (ix4 b h d (col n g)) := by
  rw [val_main_v3_apply]
  show val_main_v2 (F := Ideal) X0 (ix5 b n h g d) = _
  unfold val_main_v2
  refine (shapeCast_apply (val_main_v1 (F := Ideal) X0) _ (ix5 b n h g d)
    (ValueIdx.ix6 b (⟨n.val / 256, by omega⟩ : Fin 64) (⟨n.val % 256, by omega⟩ : Fin 256) h g d) ?_).trans ?_
  · rw [Shape.rowMajor_val_six, Shape.rowMajor_val_five]
    show ((((b.val * 64 + n.val / 256) * 256 + n.val % 256) * 2 + h.val) * 4 + g.val) * 64 + d.val
      = (((b.val * 16384 + n.val) * 2 + h.val) * 4 + g.val) * 64 + d.val
    omega
  · rw [val_main_v1_apply]
    unfold val_main_v0
    refine shapeCast_apply X0 _ _ (ix4 b h d (col n g)) ?_
    rw [Shape.rowMajor_val_six, Shape.rowMajor_val_four]
    show ((b.val * 2 + h.val) * 64 + d.val) * 65536 + (1024 * (n.val / 256) + 256 * g.val + n.val % 256)
      = ((((b.val * 2 + h.val) * 64 + d.val) * 64 + n.val / 256) * 4 + g.val) * 256 + n.val % 256
    omega

/-- The keys, the two heads apart. -/
theorem v5_at (b : Fin 2) (t : Fin 16384) (h : Fin 2) (d : Fin 64) :
    val_main_v5 (F := Ideal) X3 (ix4 b t h d) = X3 (ix3 b t ⟨64 * h.val + d.val, by omega⟩) := by
  rw [val_main_v5_apply]
  show val_main_v4 (F := Ideal) X3 (ix4 b t h d) = _
  unfold val_main_v4
  refine shapeCast_apply X3 _ _ _ ?_
  rw [Shape.rowMajor_val_three, Shape.rowMajor_val_four]
  show (b.val * 16384 + t.val) * 128 + (64 * h.val + d.val) = ((b.val * 16384 + t.val) * 2 + h.val) * 64 + d.val
  omega

/-- The values in the problem's order. -/
theorem v8_at (b : Fin 2) (t : Fin 16384) (h : Fin 2) (d : Fin 64) :
    val_main_v8 (F := Ideal) X4 (ix4 b t h d) = X4 (ix4 b h ⟨d.val, by omega⟩ t) := by
  rw [val_main_v8_apply]
  show val_main_v7 (F := Ideal) X4 (ix4 b t h d) = _
  rw [val_main_v7_apply, val_main_v6_apply]
  exact congrArg X4 (funext fun a => by fin_cases a <;> rfl)

theorem log_two : Ideal.log (Ideal.ofBits FTy.f32 0x40000000#32) = ((Real.log 2 : ℝ) : EReal) := by
  have e : Ideal.ofBits FTy.f32 0x40000000#32 = ((2 : ℝ) : EReal) := by
    simp [Ideal.ofBits, Ideal.ieee]
    rw [← EReal.coe_mul]
    congr 1
    norm_num
  rw [e, Ideal.log_coe, if_neg (by norm_num)]

variable (q : Fin 2 → Fin 2 → Fin 64 → Fin 65536 → ℝ) (κ : Fin 2 → Fin 16384 → Fin 128 → ℝ)
variable (hq : ∀ b h d j, X0 (ix4 b h d j) = (q b h d j : EReal)) (hk : ∀ b t r, X3 (ix3 b t r) = (κ b t r : EReal))

include hq hk in
/-- The scores, to base `e`. -/
theorem v13_at (b h : Fin 2) (g : Fin 4) (n t : Fin 16384) :
    val_main_v13 (F := Ideal) X0 X3 (ix5 b h g n t) = ((arrScore q κ b h (col n g) t * Real.log 2 : ℝ) : EReal) := by
  rw [val_main_v13_apply, val_main_v10_apply, val_main_v12_apply, val_main_v11_apply, val_main_cst_apply, EReal.coe_mul, ← log_two, val_main_v9_apply]
  refine congrArg (fun y : EReal => y * Ideal.log (Ideal.ofBits FTy.f32 0x40000000#32)) ?_
  unfold arrScore
  rw [Cert.Soft.coe_sum]
  refine Finset.sum_congr rfl fun d _ => ?_
  rw [EReal.coe_mul, ← hk, ← hq, ← v5_at X3 b t h d, ← v3_at X0 b n h g d]
  exact congrArg₂ (fun a c : EReal => a * c) (congrArg (val_main_v5 (F := Ideal) X3) (funext fun a => by fin_cases a <;> rfl)) (congrArg (val_main_v3 (F := Ideal) X0) (funext fun a => by fin_cases a <;> rfl))

include hq hk in
theorem v14_real (i : S2x2x4x16384.Idx) : ∃ M : ℝ, val_main_v14 (F := Ideal) X0 X3 i = (M : EReal) := by
  unfold val_main_v14
  have hr : ∀ z, ∃ r : ℝ, val_main_v13 (F := Ideal) X0 X3 z = (r : EReal) := by
    intro z
    idx_vars z
    exact ⟨_, v13_at X0 X3 q κ hq hk _ _ _ _ _⟩
  choose f hf using hr
  rw [show val_main_v13 (F := Ideal) X0 X3 = fun z => (f z : EReal) from funext hf]
  have hR : S2x2x4x16384x16384.Reduces [4] S2x2x4x16384 := by decide
  rw [Host.reduce_eq_fold_single (FloatOps.maximumf (F := Ideal) (φ := .f32)) _ _ _ hR]
  obtain ⟨M, hM⟩ := Cert.Soft.fold_max_real (Finset.univ : Finset (Fin 16384)) Finset.univ_nonempty (fun k => f (hR.lift i k))
  refine ⟨M, Eq.trans ?_ hM⟩
  rw [val_main_cst_0_apply, show (FloatOps.ofBits .f32 0xFF800000#32 : Ideal .f32) = (⊥ : EReal) from Cert.AttentionIdeal.Val.neg_inf]
  rfl

include hq hk in
/-- The shift of the reference's softmax is a real number. -/
theorem v18_real (b h : Fin 2) (g : Fin 4) (n : Fin 16384) :
    ∃ M : ℝ, ∀ t : Fin 16384, val_main_v18 (F := Ideal) X0 X3 (ix5 b h g n t) = (M : EReal) := by
  obtain ⟨M, hM⟩ := v14_real X0 X3 q κ hq hk (ix4 b h g n)
  refine ⟨M, fun t => ?_⟩
  rw [val_main_v18_apply, val_main_v17_apply, val_main_v16_apply, val_main_v15_apply, val_main_cst_1_apply,
    show (FloatOps.ofBits .f32 0xFF800000#32 : Ideal .f32) = (⊥ : EReal) from Cert.AttentionIdeal.Val.neg_inf,
    show idx_main_v17 (idx_main_v18 (ix5 b h g n t)) = ix4 b h g n from funext fun a => by fin_cases a <;> rfl, hM]
  exact max_eq_right bot_le

include hq hk in
/-- The exponentials, at one real shift for all the keys. -/
theorem v20_at (b h : Fin 2) (g : Fin 4) (n : Fin 16384) :
    ∃ M : ℝ, ∀ t : Fin 16384, val_main_v20 (F := Ideal) X0 X3 (ix5 b h g n t)
      = Ideal.exp (((arrScore q κ b h (col n g) t * Real.log 2 : ℝ) : EReal) - (M : EReal)) := by
  obtain ⟨M, hM⟩ := v18_real X0 X3 q κ hq hk b h g n
  refine ⟨M, fun t => ?_⟩
  rw [val_main_v20_apply, val_main_v19_apply, v13_at X0 X3 q κ hq hk, hM]
  rfl

include hq hk in
/-- One mean of the reference. -/
theorem v25_at (b h : Fin 2) (d : Fin 64) (g : Fin 4) (n : Fin 16384) :
    val_main_v25 (F := Ideal) X0 X3 X4 (ix5 b h d g n)
      = Cert.Soft.mean Finset.univ (fun t => X4 (ix4 b h ⟨d.val, by omega⟩ t)) (fun t => arrScore q κ b h (col n g) t) := by
  obtain ⟨M, hM⟩ := v20_at X0 X3 q κ hq hk b h g n
  rw [← Cert.Soft.natural Finset.univ Finset.univ_nonempty _ _ M, val_main_v25_apply]
  refine Finset.sum_congr rfl fun t _ => ?_
  rw [show lidx_main_v25 (ix5 b h d g n) t = ix4 b t h d from funext fun a => by fin_cases a <;> rfl,
    show ridx_main_v25 (ix5 b h d g n) t = ix5 b h g n t from funext fun a => by fin_cases a <;> rfl, v8_at, val_main_v24_apply,
    val_main_v23_apply, val_main_v22_apply, val_main_v21_apply, val_main_cst_2_apply,
    show (FloatOps.ofBits .f32 0x00000000#32 : Ideal .f32) = (0 : EReal) from by simp [FloatOps.ofBits, Ideal.ofBits, Ideal.ieee], hM]
  have e : ∀ k : Fin 16384, val_main_v20 (F := Ideal) X0 X3 (idx_main_v21 (idx_main_v22 (idx_main_v23 (ix5 b h g n t))) k)
      = Ideal.exp (((arrScore q κ b h (col n g) k * Real.log 2 : ℝ) : EReal) - (M : EReal)) := fun k =>
    (congrArg (val_main_v20 (F := Ideal) X0 X3) (funext fun a => by fin_cases a <;> rfl)).trans (hM k)
  simp only [e]
  rw [zero_add]
  rfl

include hq hk in
/-- The reference's result. -/
theorem ref_eq : val_main_v28 (F := Ideal) X0 X3 X4 = attn q κ X4 := by
  funext y
  rw [val_main_v28_apply]
  show val_main_v27 (F := Ideal) X0 X3 X4 y = _
  rw [val_main_v27_apply, val_main_v26_apply]
  idx_vars y
  refine (congrArg (val_main_v25 (F := Ideal) X0 X3 X4) (?_ : _ = ix5 y0 (⟨y2.val / 256, by omega⟩ : Fin 2) (⟨y2.val % 64, by omega⟩ : Fin 64) (⟨y2.val / 64 % 4, by omega⟩ : Fin 4) y1)).trans
    (v25_at X0 X3 X4 q κ hq hk _ _ _ _ _)
  funext a
  fin_cases a <;> refine Fin.ext ?_
  · show ((y0.val * 16384 + y1.val) * 512 + y2.val) / 8388608 = y0.val
    omega
  · show ((y0.val * 16384 + y1.val) * 512 + y2.val) / 256 % 2 = y2.val / 256
    omega
  · show ((y0.val * 16384 + y1.val) * 512 + y2.val) % 64 = y2.val % 64
    omega
  · show ((y0.val * 16384 + y1.val) * 512 + y2.val) / 64 % 4 = y2.val / 64 % 4
    omega
  · show ((y0.val * 16384 + y1.val) * 512 + y2.val) / 512 % 16384 = y1.val
    omega

end Cert.AttentionRefIdeal.Val

end
-- ==== Proof.AttnClaim.lean ====
/- The attention's value claim: from the precondition to the equality of the two programs' results. -/
module

public import proofs.«01_k».proof.Defs
public import proofs.«01_k».proof.Proof.AttnRef
public import proofs.«01_k».proof.Proof.Gen.Pre_attention_operands
public import Idealize.ShloMosaic.Lib.Claim

@[expose] public section

set_option maxRecDepth 16384

noncomputable section

namespace Cert.AttentionIdeal.Val

open Cert.AttentionIdeal Cert.AttentionIdeal.Gen Cert.AttentionIdeal.Body
open Idealize.ShloMosaic Idealize.ShloMosaic.TcCoe Idealize.SL.Sem

theorem ofBool_one (p : Bool) : (BitVec.ofBool p = 1#1) ↔ p = true := by cases p <;> decide

theorem top_word : Ideal.ofBits FTy.f32 0x7F800000#32 = (⊤ : EReal) := by simp [Ideal.ofBits, Ideal.ieee]

/-- A number whose absolute value is below the infinite one is real. -/
theorem real_of_abs (x : EReal) (h : max x (-x) < (⊤ : EReal)) : ∃ r : ℝ, x = (r : EReal) := by
  induction x using EReal.rec with
  | bot => exact absurd h (by simp)
  | top => exact absurd h (by simp)
  | coe r => exact ⟨r, rfl⟩

section pre
open Cert.Pre_attention_operands (fn)
variable (X0 : FVec Ideal S2x2x64x65536 .bf16) (X1 : FVec Ideal S2x2x8x65536 .f32) (X2 : FVec Ideal S2x8x128 .f32)
  (X3 : FVec Ideal S2x16384x128 .bf16) (X4 : FVec Ideal S2x2x80x16384 .bf16)

theorem pre_q (h : (fn (F := Ideal) X0 X1 X2 X3 X4).1 = fun _ => 1#1) (b h' : Fin 2) (d : Fin 64) (j : Fin 65536) : ∃ r : ℝ, X0 (ix4 b h' d j) = (r : EReal) := by
  have e := congrFun h (ix4 b h' d j)
  pointwise [fn] at e
  rw [ofBool_one, decide_eq_true_eq, top_word] at e
  exact real_of_abs _ e

theorem pre_n (h : (fn (F := Ideal) X0 X1 X2 X3 X4).2.1 = fun _ => 1#1) (b h' : Fin 2) (j : Fin 65536) : (0 : EReal) ≤ X1 (ix4 b h' 0 j) := by
  have e := congrFun h (ix3 b h' j)
  pointwise [fn] at e
  rwa [ofBool_one, decide_eq_true_eq] at e

theorem pre_k (h : (fn (F := Ideal) X0 X1 X2 X3 X4).2.2.1 = fun _ => 1#1) (b : Fin 2) (t : Fin 16384) (r : Fin 128) : ∃ x : ℝ, X3 (ix3 b t r) = (x : EReal) := by
  have e := congrFun h (ix3 b t r)
  pointwise [fn] at e
  rw [ofBool_one, decide_eq_true_eq, top_word] at e
  exact real_of_abs _ e

theorem pre_1 (h : (fn (F := Ideal) X0 X1 X2 X3 X4).2.2.2 = fun _ => 1#1) (b h' : Fin 2) (j : Fin 16384) : X4 (ix4 b h' 64 j) = (1 : EReal) := by
  have e := congrFun h (ix3 b h' j)
  pointwise [fn] at e
  rwa [ofBool_one, decide_eq_true_eq] at e

end pre

variable (m : (ℓ : Loc nD τ sig) → Buf (Elt Ideal) ℓ) (ρ : Dev nD → PrngReg)

/-- The run, with the output array named and the arguments unchanged. -/
theorem run_out : θ_run defs (onTc (τ := τ) (main (F := Ideal))) ⟨m, fun _ => 0, ρ⟩ (fun r => ∀ c : Dev nD,
      r.2.mem ((c.tc : Thread nD τ).loc main_v0) = (dats m 0 c).arrAt 5 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 5, ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4))⟩) (run_quiescent m ρ)

/-- Under the precondition the output array is the reference's result on the same arguments. -/
theorem out_eq (h : Cert.Pre_AttentionIdeal_attention_operands m) (c : Dev nD) :
    (dats m 0 c).arrAt 5 (cfgs 0).N = Cert.AttentionRefIdeal.Read.val_main_v28 (F := Ideal) (A0 m c) (A3 m c) (A4 m c) := by
  obtain ⟨p0, p1, p2, p3⟩ := h c
  choose q hq using pre_q _ _ _ _ _ p0
  choose κ hk using pre_k _ _ _ _ _ p2
  exact (final m q κ c hq (pre_n _ _ _ _ _ p1) hk (pre_1 _ _ _ _ _ p3)).trans (Cert.AttentionRefIdeal.Val.ref_eq (A0 m c) (A3 m c) (A4 m c) q κ hq hk).symm

theorem algebraic : Cert.algebraic_AttentionIdeal_AttentionRefIdeal_pre_attention_operands := by
  intro m g m' g' hp ha
  refine ⟨fun c => (dats m 0 c).arrAt 5 (cfgs 0).N, run_out m g, (θ_run _ _ _).mono (fun r h c => ⟨?_, (h c).2⟩) (Cert.AttentionRefIdeal.Value.run m' g')⟩
  refine (h c).1.trans ((Cert.AttentionRefIdeal.Read.val_main_v28_eq m' c).trans ?_)
  obtain ⟨e0, -, -, e3, e4⟩ := ha c
  rw [e0, e3, e4]
  exact (out_eq m hp c).symm

end Cert.AttentionIdeal.Val

end
-- ==== Proof.MixSpec.lean ====
/- One row of the mixing output and the feed-forward block, over the extended reals. -/
module

public import Idealize.ShloMosaic.PureOps.Ideal
public import Idealize.ShloMosaic.PureOps.Ideal.Laws

@[expose] public section

noncomputable section

namespace Cert.Mix

open Idealize.ShloMosaic

/-- The width of a head, the width of the model, and the two constants added under the roots, each the rational of its float word. -/
abbrev w64 : EReal := Ideal.ofBits .f32 0x42800000#32
abbrev w1024 : EReal := Ideal.ofBits .f32 0x44800000#32
abbrev eLn : EReal := Ideal.ofBits .f32 0x3A27C5AC#32
abbrev eRms : EReal := Ideal.ofBits .f32 0x358637BD#32

/-- The mean over the head that holds lane `d`. -/
def hmean (y : Fin 512 → EReal) (d : Fin 512) : EReal :=
  Ideal.div (∑ k : Fin 64, y ⟨64 * (d.val / 64) + k.val, by omega⟩) w64

/-- The per-head normalised row, at any mean `S`, with its affine map, its gate and its bonus. -/
def yr (S : (Fin 512 → EReal) → Fin 512 → EReal) (y lw lb g bg : Fin 512 → EReal) (d : Fin 512) : EReal :=
  ((y d - S y d) * Ideal.rsqrt (S (fun k => (y k - S y k) * (y k - S y k)) d + eLn) * lw d + lb d) * g d + bg d

/-- The first residual: the output projection of both branches. -/
def res1 (x : Fin 1024 → EReal) (u v : Fin 512 → EReal) (wr wa : Fin 512 → Fin 1024 → EReal) (j : Fin 1024) : EReal :=
  x j + ∑ k : Fin 512, u k * wr k j + ∑ k : Fin 512, v k * wa k j

/-- The root-mean-square norm of a row. -/
def rms (v g : Fin 1024 → EReal) (j : Fin 1024) : EReal :=
  v j * Ideal.rsqrt (Ideal.div (∑ k : Fin 1024, v k * v k) w1024 + eRms) * g j

/-- One number times its own logistic. -/
def silu (x : EReal) : EReal := x * Ideal.div 1 (1 + Ideal.exp (-x))

/-- One lane of the gated hidden row, from its column of the gate and of the up matrix. -/
def act (h wg wu : Fin 1024 → EReal) : EReal := silu (∑ k : Fin 1024, h k * wg k) * ∑ k : Fin 1024, h k * wu k

/-- The row the block returns. -/
def row (x : Fin 1024 → EReal) (u v : Fin 512 → EReal) (wr wa : Fin 512 → Fin 1024 → EReal) (g2 : Fin 1024 → EReal)
    (wg wu : Fin 2816 → Fin 1024 → EReal) (wd : Fin 2816 → Fin 1024 → EReal) (gf : Fin 1024 → EReal) : Fin 1024 → EReal :=
  rms (fun j => res1 x u v wr wa j + ∑ f : Fin 2816, act (rms (res1 x u v wr wa) g2) (wg f) (wu f) * wd f j) gf

/-- The mean by a product with the matrix that is one inside a head and zero outside. -/
theorem hmean_eq (hs : Fin 512 → Fin 512 → EReal) (hh : ∀ k d, hs k d = if k.val / 64 = d.val / 64 then 1 else 0) (y : Fin 512 → EReal) (d : Fin 512) :
    (∑ k : Fin 512, y k * hs k d) * Ideal.ofBits .f32 0x3C800000#32 = hmean y d := by
  have e : (∑ k : Fin 512, y k * hs k d) = ∑ k : Fin 64, y ⟨64 * (d.val / 64) + k.val, by omega⟩ := by
    simp only [hh, mul_ite, mul_one, mul_zero]
    rw [← Finset.sum_filter]
    symm
    refine Finset.sum_bij' (fun k _ => ⟨64 * (d.val / 64) + k.val, by omega⟩) (fun k _ => ⟨k.val % 64, by omega⟩) ?_ ?_ ?_ ?_ ?_
    · intro k _; simp only [Finset.mem_filter, Finset.mem_univ, true_and]; omega
    · intro k _; exact Finset.mem_univ _
    · intro k _; apply Fin.ext; show (64 * (d.val / 64) + k.val) % 64 = k.val; omega
    · intro k hk; simp only [Finset.mem_filter, Finset.mem_univ, true_and] at hk; apply Fin.ext; show 64 * (d.val / 64) + k.val % 64 = k.val; omega
    · intro k _; rfl
  have h64 : w64 = ((64 : ℝ) : EReal) := by
    simp [w64, Ideal.ofBits, Ideal.ieee]; rw [← EReal.coe_mul]; congr 1; norm_num
  have hinv : Ideal.ofBits .f32 0x3C800000#32 = ((1 / 64 : ℝ) : EReal) := by
    simp [Ideal.ofBits, Ideal.ieee]; rw [← EReal.coe_mul]; congr 1; norm_num
  unfold hmean
  rw [h64, Ideal.div_coe (by norm_num), e, hinv]

/-- The logistic by the hyperbolic tangent, at every extended real. -/
theorem silu_eq (x : EReal) : x * (Ideal.ofBits .f32 0x3F000000#32 * Ideal.tanh (Ideal.ofBits .f32 0x3F000000#32 * x) + Ideal.ofBits .f32 0x3F000000#32) = silu x := by
  have hh : Ideal.ofBits .f32 0x3F000000#32 = ((1 / 2 : ℝ) : EReal) := by
    simp [Ideal.ofBits, Ideal.ieee]; rw [← EReal.coe_mul]; congr 1; norm_num
  unfold silu
  rw [hh]
  congr 1
  induction x using EReal.rec with
  | bot =>
    have e : ((1 / 2 : ℝ) : EReal) * ⊥ = ⊥ := EReal.coe_mul_bot_of_pos (by norm_num)
    have e2 : (1 : EReal) + ⊤ = ⊤ := by rfl
    rw [e, Ideal.tanh_bot, EReal.neg_bot, Ideal.exp_top, e2, show (-1 : EReal) = ((-1 : ℝ) : EReal) from rfl, ← EReal.coe_mul, ← EReal.coe_add]
    simp [Ideal.div]
  | top =>
    have e : ((1 / 2 : ℝ) : EReal) * ⊤ = ⊤ := EReal.coe_mul_top_of_pos (by norm_num)
    rw [e, Ideal.tanh_top, EReal.neg_top, Ideal.exp_bot, add_zero, mul_one, ← EReal.coe_add, show (1 : EReal) = ((1 : ℝ) : EReal) from rfl,
      Ideal.div_coe (by norm_num), ← EReal.coe_mul]
    congr 1; norm_num
  | coe r =>
    rw [← EReal.coe_mul, Ideal.tanh_coe, ← EReal.coe_mul, ← EReal.coe_add, ← EReal.coe_neg, Ideal.exp_coe, show (1 : EReal) = ((1 : ℝ) : EReal) from rfl,
      ← EReal.coe_add, Ideal.div_coe (by positivity), ← EReal.coe_mul]
    congr 1
    have h1 := Real.exp_pos (1 / 2 * r)
    have h2 := Real.exp_pos (-(1 / 2 * r))
    have h3 : Real.exp (-r) = Real.exp (-(1 / 2 * r)) * Real.exp (-(1 / 2 * r)) := by rw [← Real.exp_add]; congr 1; ring
    have h4 : Real.exp (1 / 2 * r) * Real.exp (-(1 / 2 * r)) = 1 := by rw [← Real.exp_add]; simp
    rw [Real.tanh_eq_sinh_div_cosh, Real.sinh_eq, Real.cosh_eq, h3]
    generalize Real.exp (1 / 2 * r) = a at *
    generalize Real.exp (-(1 / 2 * r)) = b at *
    have ha : a + b ≠ 0 := by positivity
    have hb : 1 + b * b ≠ 0 := by positivity
    field_simp
    nlinarith [h4]

end Cert.Mix

end
-- ==== Proof.MixPay.lean ====
/- What the mixing and feed-forward call computes on one block, row by row. -/
module

public import proofs.«01_k».proof.Proof.MixSpec
public import proofs.«01_k».proof.Proof.Gen.MixFfnIdeal.Skeleton
public import Idealize.ShloMosaic.Lib.Pointwise

@[expose] public section

set_option maxRecDepth 16384

noncomputable section

namespace Cert.MixFfnIdeal.Val

open Cert.MixFfnIdeal Cert.MixFfnIdeal.Gen Idealize.ShloMosaic Idealize.ShloMosaic.TcCoe Cert.Mix

/-- The mean the kernel takes: a product with the head matrix, times the rational of its scale. -/
def kmean (hs : Vec Ideal S512x512 .bf16) (y : Fin 512 → EReal) (d : Fin 512) : EReal :=
  (∑ k : Fin 512, y k * hs (ix2 k d)) * Ideal.ofBits .f32 0x3C800000#32

theorem pay7_at (x1 x2 : Vec Ideal S512x512 .f32) (hs : Vec Ideal S512x512 .bf16) (lw lb : Vec Ideal S1x512 .f32) (g bg : Vec Ideal S512x512 .bf16)
    (r d : Fin 512) : k0_pay7 (F := Ideal) x1 x2 hs lw lb g bg (ix2 r d)
      = yr (kmean hs) (fun k => x1 (ix2 r k) + x2 (ix2 r k)) (fun k => lw (ix2 0 k)) (fun k => lb (ix2 0 k)) (fun k => g (ix2 r k)) (fun k => bg (ix2 r k)) d := by
  pointwise [k0_pay7, yr, kmean]

theorem pay1_at (x : Vec Ideal S512x1024 .f32) (u v : Vec Ideal S512x512 .bf16) (wr wa : Vec Ideal S512x1024 .bf16)
    (r : Fin 512) (j : Fin 1024) : k0_pay1 (F := Ideal) (k0_pay6 x) u wr v wa (ix2 r j)
      = res1 (fun k => x (ix2 r k)) (fun k => u (ix2 r k)) (fun k => v (ix2 r k)) (fun k j => wr (ix2 k j)) (fun k j => wa (ix2 k j)) j := by
  pointwise [k0_pay1, k0_pay6, res1]

theorem pay3_at (x : Vec Ideal S512x1024 .f32) (u v : Vec Ideal S512x512 .bf16) (wr wa : Vec Ideal S512x1024 .bf16)
    (r : Fin 512) (j : Fin 1024) : k0_pay3 (F := Ideal) (k0_pay6 x) u wr v wa (ix2 r j)
      = res1 (fun k => x (ix2 r k)) (fun k => u (ix2 r k)) (fun k => v (ix2 r k)) (fun k j => wr (ix2 k j)) (fun k j => wa (ix2 k j)) j := by
  pointwise [k0_pay3, k0_pay1, k0_pay6, res1]

theorem pay2_at (x : FVec Ideal S512x1024 .f32) (u v : Vec Ideal S512x512 .bf16) (wr wa : Vec Ideal S512x1024 .bf16) (g2 : Vec Ideal S1x1024 .f32)
    (r : Fin 512) (j : Fin 1024) : k0_pay2 (F := Ideal) x u wr v wa g2 (ix2 r j)
      = rms (fun k => k0_pay1 (F := Ideal) x u wr v wa (ix2 r k)) (fun k => g2 (ix2 0 k)) j := by
  unfold k0_pay2
  generalize k0_pay1 (F := Ideal) x u wr v wa = z
  pointwise [rms]

theorem pay5_at (x : Vec Ideal S512x1024 .f32) (gf : Vec Ideal S1x1024 .f32)
    (r : Fin 512) (j : Fin 1024) : k0_pay5 (F := Ideal) x gf (ix2 r j)
      = rms (fun k => x (ix2 r k)) (fun k => gf (ix2 0 k)) j := by
  pointwise [k0_pay5, rms]

theorem pay4_at (h : Vec Ideal S512x1024 .bf16) (wg wu : Vec Ideal S1024x1408 .bf16) (a : Vec Ideal S512x1024 .f32) (wd : Vec Ideal S1408x1024 .bf16)
    (r : Fin 512) (j : Fin 1024) : k0_pay4 (F := Ideal) h wg wu a wd (ix2 r j)
      = a (ix2 r j) + ∑ f : Fin 1408, act (fun k => h (ix2 r k)) (fun k => wg (ix2 k f)) (fun k => wu (ix2 k f)) * wd (ix2 f j) := by
  simp only [act, ← silu_eq]
  pointwise [k0_pay4]

end Cert.MixFfnIdeal.Val

end
-- ==== Proof.MixBlock.lean ====
/- The block the mixing and feed-forward call writes back, from the blocks of its operands. -/
module

public import proofs.«01_k».proof.Proof.MixPay
public import proofs.«01_k».proof.Proof.Gen.MixFfnIdeal.Value
public import Idealize.ShloMosaic.Lib.Pipeline.ValueKit
public import Idealize.ShloMosaic.Lib.Pipeline.ReadBack

@[expose] public section

set_option maxRecDepth 16384

noncomputable section

namespace Cert.MixFfnIdeal.Val

open Cert.MixFfnIdeal Cert.MixFfnIdeal.Gen Idealize.ShloMosaic Idealize.ShloMosaic.TcCoe Cert.Mix

variable (m : (ℓ : Loc nD τ sig) → Buf (Elt Ideal) ℓ)

/-- The gated branch's block at a point, and the state the first point of a row block leaves: the normalised rows and the running sum. -/
def U (c : Dev nD) (t : Fin cfg0.N) : Vec Ideal S512x512 .bf16 :=
  k0_pay7 (F := Ideal) (iblk m c 1 t) (iblk m c 2 t) (iblk m c 8 t) (iblk m c 6 t) (iblk m c 7 t) (iblk m c 3 t) (iblk m c 4 t)
def H (c : Dev nD) (t : Fin cfg0.N) : Vec Ideal S512x1024 .bf16 :=
  k0_pay2 (F := Ideal) (k0_pay6 (iblk m c 0 t)) (U m c t) (iblk m c 9 t) (iblk m c 5 t) (iblk m c 10 t) (iblk m c 11 t)
def A (c : Dev nD) (t : Fin cfg0.N) : Vec Ideal S512x1024 .f32 :=
  k0_pay4 (F := Ideal) (H m c t) (iblk m c 12 t) (iblk m c 13 t)
    (k0_pay3 (k0_pay6 (iblk m c 0 t)) (U m c t) (iblk m c 9 t) (iblk m c 5 t) (iblk m c 10 t)) (iblk m c 14 t)

theorem first_H (c : Dev nD) (t : Fin cfg0.N) (h0 : t.val % 2 = 0) : (outsAt0 m c t.val t.isLt).2.1 = H m c t := by
  rw [outsAt0_A m c t h0 (by omega)]
  frame_out
  rfl

theorem first_A (c : Dev nD) (t : Fin cfg0.N) (h0 : t.val % 2 = 0) : (outsAt0 m c t.val t.isLt).2.2 = A m c t := by
  rw [outsAt0_A m c t h0 (by omega)]
  frame_out
  rfl

theorem second (c : Dev nD) (t s : Fin cfg0.N) (h1 : t.val % 2 = 1) (hs : s.val = t.val - 1) : (outsAt0 m c t.val t.isLt).1
    = k0_pay5 (F := Ideal) (k0_pay4 (H m c s) (iblk m c 12 t) (iblk m c 13 t) (A m c s) (iblk m c 14 t)) (iblk m c 15 t) := by
  have hH := first_H m c s (by omega)
  have hA := first_A m c s (by omega)
  simp only [hs] at hH hA
  rw [outsAt0_B m c t (by omega) h1]
  frame_out
  rw [hH, hA]
  rw [read_unread_whole, read_unread_whole]

end Cert.MixFfnIdeal.Val

end
-- ==== Proof.MixHost.lean ====
/- The operand blocks of the mixing and feed-forward call, read off the program's arguments. -/
module

public import proofs.«01_k».proof.Proof.MixBlock
public import Idealize.ShloMosaic.Lib.Claim

@[expose] public section

set_option maxRecDepth 16384

noncomputable section

namespace Cert.MixFfnIdeal.Val

open Cert.MixFfnIdeal Cert.MixFfnIdeal.Gen Idealize.ShloMosaic Idealize.ShloMosaic.TcCoe Cert.Mix

/-- The block index of every window at every point of the grid. -/
theorem idx : ∀ t : Fin cfg0.N, win0_0.index t = ![t.val / 2, 0] ∧ win0_1.index t = ![t.val / 2, 0] ∧ win0_2.index t = ![t.val / 2, 0]
    ∧ win0_3.index t = ![t.val / 2, 0] ∧ win0_4.index t = ![t.val / 2, 0] ∧ win0_5.index t = ![t.val / 2, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, t.val % 2] ∧ win0_13.index t = ![0, t.val % 2] ∧ win0_14.index t = ![t.val % 2, 0]
    ∧ win0_15.index t = ![0, 0] ∧ win0_16.index t = ![t.val / 2, 0] :=
  (by decide +kernel : ∀ t : Fin grid0.N, _)

variable (m : (ℓ : Loc nD τ sig) → Buf (Elt Ideal) ℓ)

abbrev X0 (c : Dev nD) : Vec Ideal S32x2048x1024 .f32 := m ((c : Thread nD τ).loc main_arg0)
abbrev X1 (c : Dev nD) : Vec Ideal S65536x512 .f32 := m ((c : Thread nD τ).loc main_arg1)
abbrev X2 (c : Dev nD) : Vec Ideal S65536x512 .f32 := m ((c : Thread nD τ).loc main_arg2)
abbrev X3 (c : Dev nD) : Vec Ideal S65536x512 .bf16 := m ((c : Thread nD τ).loc main_arg3)
abbrev X4 (c : Dev nD) : Vec Ideal S65536x512 .bf16 := m ((c : Thread nD τ).loc main_arg4)
abbrev X5 (c : Dev nD) : Vec Ideal S65536x512 .bf16 := m ((c : Thread nD τ).loc main_arg5)
abbrev X6 (c : Dev nD) : Vec Ideal S1x512 .f32 := m ((c : Thread nD τ).loc main_arg6)
abbrev X7 (c : Dev nD) : Vec Ideal S1x512 .f32 := m ((c : Thread nD τ).loc main_arg7)
abbrev X8 (c : Dev nD) : Vec Ideal S1x1024x1024 .f32 := m ((c : Thread nD τ).loc main_arg8)
abbrev X9 (c : Dev nD) : Vec Ideal S1x1024 .f32 := m ((c : Thread nD τ).loc main_arg9)
abbrev X10 (c : Dev nD) : Vec Ideal S1x1024x2816 .f32 := m ((c : Thread nD τ).loc main_arg10)
abbrev X11 (c : Dev nD) : Vec Ideal S1x1024x2816 .f32 := m ((c : Thread nD τ).loc main_arg11)
abbrev X12 (c : Dev nD) : Vec Ideal S1x2816x1024 .f32 := m ((c : Thread nD τ).loc main_arg12)
abbrev X13 (c : Dev nD) : Vec Ideal S1024 .f32 := m ((c : Thread nD τ).loc main_arg13)

abbrev B0 (c : Dev nD) (t : Fin cfg0.N) : Vec Ideal S512x1024 .f32 := iblk m c 0 t
abbrev B1 (c : Dev nD) (t : Fin cfg0.N) : Vec Ideal S512x512 .f32 := iblk m c 1 t
abbrev B2 (c : Dev nD) (t : Fin cfg0.N) : Vec Ideal S512x512 .f32 := iblk m c 2 t
abbrev B3 (c : Dev nD) (t : Fin cfg0.N) : Vec Ideal S512x512 .bf16 := iblk m c 3 t
abbrev B4 (c : Dev nD) (t : Fin cfg0.N) : Vec Ideal S512x512 .bf16 := iblk m c 4 t
abbrev B5 (c : Dev nD) (t : Fin cfg0.N) : Vec Ideal S512x512 .bf16 := iblk m c 5 t
abbrev B6 (c : Dev nD) (t : Fin cfg0.N) : Vec Ideal S1x512 .f32 := iblk m c 6 t
abbrev B7 (c : Dev nD) (t : Fin cfg0.N) : Vec Ideal S1x512 .f32 := iblk m c 7 t
abbrev B8 (c : Dev nD) (t : Fin cfg0.N) : Vec Ideal S512x512 .bf16 := iblk m c 8 t
abbrev B9 (c : Dev nD) (t : Fin cfg0.N) : Vec Ideal S512x1024 .bf16 := iblk m c 9 t
abbrev B10 (c : Dev nD) (t : Fin cfg0.N) : Vec Ideal S512x1024 .bf16 := iblk m c 10 t
abbrev B11 (c : Dev nD) (t : Fin cfg0.N) : Vec Ideal S1x1024 .f32 := iblk m c 11 t
abbrev B12 (c : Dev nD) (t : Fin cfg0.N) : Vec Ideal S1024x1408 .bf16 := iblk m c 12 t
abbrev B13 (c : Dev nD) (t : Fin cfg0.N) : Vec Ideal S1024x1408 .bf16 := iblk m c 13 t
abbrev B14 (c : Dev nD) (t : Fin cfg0.N) : Vec Ideal S1408x1024 .bf16 := iblk m c 14 t
abbrev B15 (c : Dev nD) (t : Fin cfg0.N) : Vec Ideal S1x1024 .f32 := iblk m c 15 t

theorem lt_N (t : Fin cfg0.N) : t.val < 256 := lt_of_lt_of_eq t.isLt N_0

/-- The token of row `r` of a point's row block. -/
def tok (t : Fin cfg0.N) (r : Fin 512) : Fin 65536 := ⟨512 * (t.val / 2) + r.val, by have := lt_N t; omega⟩
theorem tok_val (t : Fin cfg0.N) (r : Fin 512) : ((tok t r : Fin 65536) : ℕ) = 512 * (t.val / 2) + r.val := rfl

/-- The head every column belongs to, the column taken off axis `d`: the quotient by 64, rounded down. -/
def headId (d : Fin 2) : IVec S512x512 32 :=
  let x : IVec S512x512 32 := iotaInDim S512x512 32 d
  let n : IVec S_ 32 := constantI S_ 32 64#32
  let q : IVec S512x512 32 := Host.divsi x (broadcastInDim S512x512 ![] bcast_S_S512x512 n)
  select (andi (cmpi .ne (signi x) (broadcastInDim S512x512 ![] bcast_S_S512x512 (signi n)))
      (cmpi .ne (Host.remsi x (broadcastInDim S512x512 ![] bcast_S_S512x512 n)) (broadcastInDim S512x512 ![] bcast_S_S512x512 (constantI S_ 32 0#32))))
    (subi q (broadcastInDim S512x512 ![] bcast_S_S512x512 (constantI S_ 32 1#32))) q

/-- One where two columns belong to one head, zero elsewhere. -/
def headMat : FVec Ideal S512x512 .bf16 :=
  truncf (F := Ideal) .bf16 (select (cmpi .eq (headId 0) (headId 1)) (broadcastInDim S512x512 ![] bcast_S_S512x512 (constant S_ .f32 0x3F800000#32))
    (broadcastInDim S512x512 ![] bcast_S_S512x512 (constant S_ .f32 0x00000000#32)) : FVec Ideal S512x512 .f32) bitsLt_bf16_f32

theorem V1 (c : Dev nD) : (V m c main_v1 : FVec Ideal S1x512 .f32) = broadcastInDim S1x512 ![1] bcast_S512_S1x512_1 (shapeCast S512 (X6 m c) shapeCasts_S1x512_S512) := by
  simp only [V, hostOps0, hostOps0_1, hostOps0_2, hostOps0_3, hostOps0_4, hostOps0_5, hostOps0_6, List.flatten_cons, List.flatten_nil, List.append_nil,
    List.cons_append, List.nil_append]
  after_results
  try rfl

theorem V3 (c : Dev nD) : (V m c main_v3 : FVec Ideal S1x512 .f32) = broadcastInDim S1x512 ![1] bcast_S512_S1x512_1 (shapeCast S512 (X7 m c) shapeCasts_S1x512_S512) := by
  simp only [V, hostOps0, hostOps0_1, hostOps0_2, hostOps0_3, hostOps0_4, hostOps0_5, hostOps0_6, List.flatten_cons, List.flatten_nil, List.append_nil,
    List.cons_append, List.nil_append]
  after_results
  try rfl

theorem V10 (c : Dev nD) : (V m c main_v10 : FVec Ideal S512x512 .bf16) = headMat := by
  simp only [V, hostOps0, hostOps0_1, hostOps0_2, hostOps0_3, hostOps0_4, hostOps0_5, hostOps0_6, List.flatten_cons, List.flatten_nil, List.append_nil,
    List.cons_append, List.nil_append]
  after_results
  try rfl

theorem V13 (c : Dev nD) : (V m c main_v13 : FVec Ideal S512x1024 .bf16) = truncf (F := Ideal) .bf16 (extractStridedSlice S512x1024 ![0, 0] (shapeCast S1024x1024 (X8 m c) shapeCasts_S1x1024x1024_S1024x1024) slices_S1024x1024_S512x1024_0_0) bitsLt_bf16_f32 := by
  simp only [V, hostOps0, hostOps0_1, hostOps0_2, hostOps0_3, hostOps0_4, hostOps0_5, hostOps0_6, List.flatten_cons, List.flatten_nil, List.append_nil,
    List.cons_append, List.nil_append]
  after_results
  try rfl

theorem V16 (c : Dev nD) : (V m c main_v16 : FVec Ideal S512x1024 .bf16) = truncf (F := Ideal) .bf16 (extractStridedSlice S512x1024 ![512, 0] (shapeCast S1024x1024 (X8 m c) shapeCasts_S1x1024x1024_S1024x1024) slices_S1024x1024_S512x1024_512_0) bitsLt_bf16_f32 := by
  simp only [V, hostOps0, hostOps0_1, hostOps0_2, hostOps0_3, hostOps0_4, hostOps0_5, hostOps0_6, List.flatten_cons, List.flatten_nil, List.append_nil,
    List.cons_append, List.nil_append]
  after_results
  try rfl

theorem V18 (c : Dev nD) : (V m c main_v18 : FVec Ideal S1x1024 .f32) = broadcastInDim S1x1024 ![1] bcast_S1024_S1x1024_1 (shapeCast S1024 (X9 m c) shapeCasts_S1x1024_S1024) := by
  simp only [V, hostOps0, hostOps0_1, hostOps0_2, hostOps0_3, hostOps0_4, hostOps0_5, hostOps0_6, List.flatten_cons, List.flatten_nil, List.append_nil,
    List.cons_append, List.nil_append]
  after_results
  try rfl

theorem V20 (c : Dev nD) : (V m c main_v20 : FVec Ideal S1024x2816 .bf16) = truncf (F := Ideal) .bf16 (shapeCast S1024x2816 (X10 m c) shapeCasts_S1x1024x2816_S1024x2816) bitsLt_bf16_f32 := by
  simp only [V, hostOps0, hostOps0_1, hostOps0_2, hostOps0_3, hostOps0_4, hostOps0_5, hostOps0_6, List.flatten_cons, List.flatten_nil, List.append_nil,
    List.cons_append, List.nil_append]
  after_results
  try rfl

theorem V22 (c : Dev nD) : (V m c main_v22 : FVec Ideal S1024x2816 .bf16) = truncf (F := Ideal) .bf16 (shapeCast S1024x2816 (X11 m c) shapeCasts_S1x1024x2816_S1024x2816) bitsLt_bf16_f32 := by
  simp only [V, hostOps0, hostOps0_1, hostOps0_2, hostOps0_3, hostOps0_4, hostOps0_5, hostOps0_6, List.flatten_cons, List.flatten_nil, List.append_nil,
    List.cons_append, List.nil_append]
  after_results
  try rfl

theorem V24 (c : Dev nD) : (V m c main_v24 : FVec Ideal S2816x1024 .bf16) = truncf (F := Ideal) .bf16 (shapeCast S2816x1024 (X12 m c) shapeCasts_S1x2816x1024_S2816x1024) bitsLt_bf16_f32 := by
  simp only [V, hostOps0, hostOps0_1, hostOps0_2, hostOps0_3, hostOps0_4, hostOps0_5, hostOps0_6, List.flatten_cons, List.flatten_nil, List.append_nil,
    List.cons_append, List.nil_append]
  after_results
  try rfl

theorem V25 (c : Dev nD) : (V m c main_v25 : FVec Ideal S1x1024 .f32) = broadcastInDim S1x1024 ![1] bcast_S1024_S1x1024_1 (X13 m c) := by
  simp only [V, hostOps0, hostOps0_1, hostOps0_2, hostOps0_3, hostOps0_4, hostOps0_5, hostOps0_6, List.flatten_cons, List.flatten_nil, List.append_nil,
    List.cons_append, List.nil_append]
  after_results
  try rfl

theorem V26 (c : Dev nD) : (V m c main_v26 : FVec Ideal S65536x1024 .f32) = shapeCast S65536x1024 (X0 m c) shapeCasts_S32x2048x1024_S65536x1024 := by
  simp only [V, hostOps0, hostOps0_1, hostOps0_2, hostOps0_3, hostOps0_4, hostOps0_5, hostOps0_6, List.flatten_cons, List.flatten_nil, List.append_nil,
    List.cons_append, List.nil_append]
  after_results
  try rfl

/-- The quotient rounded down, on one word. -/
def floorBy (x : BitVec 32) : BitVec 32 :=
  let sx : BitVec 32 := if x = 0 then 0 else if x.msb then -1 else 1
  let s64 : BitVec 32 := if (64#32) = 0 then 0 else if (64#32).msb then -1 else 1
  if IntOp.andi (IntOp.cmpi .ne sx s64) (IntOp.cmpi .ne (IntOp.remsi .host x 64#32) 0#32) = 1 then
    IntOp.subi (IntOp.divsi .host x 64#32) 1#32 else IntOp.divsi .host x 64#32

theorem floorBy_eq : ∀ k : Fin 512, floorBy (BitVec.ofNat 32 k.val) = BitVec.ofNat 32 (k.val / 64) := by
  decide +kernel

theorem sameHead : ∀ k d : Fin 8, (BitVec.ofNat 32 k.val == BitVec.ofNat 32 d.val) = decide (k = d) := by
  decide +kernel

theorem headMat_at (k d : Fin 512) : headMat (ix2 k d) = if k.val / 64 = d.val / 64 then (1 : EReal) else 0 := by
  have h : headMat (ix2 k d) = if IntOp.cmpi .eq (floorBy (BitVec.ofNat 32 k.val)) (floorBy (BitVec.ofNat 32 d.val)) = 1 then
      (FloatOps.ofBits .f32 0x3F800000#32 : Ideal .f32) else (FloatOps.ofBits .f32 0x00000000#32 : Ideal .f32) := rfl
  rw [h, floorBy_eq, floorBy_eq]
  have h8 := sameHead ⟨k.val / 64, by omega⟩ ⟨d.val / 64, by omega⟩
  have h1 : (FloatOps.ofBits .f32 0x3F800000#32 : Ideal .f32) = (1 : EReal) := by
    simp [FloatOps.ofBits, Ideal.ofBits, Ideal.ieee]
    rw [← EReal.coe_mul, ← EReal.coe_one]
    congr 1
    norm_num
  have h0 : (FloatOps.ofBits .f32 0x00000000#32 : Ideal .f32) = (0 : EReal) := by simp [FloatOps.ofBits, Ideal.ofBits, Ideal.ieee]
  rw [h1, h0]
  simp only [IntOp.cmpi, h8, Fin.mk.injEq]
  by_cases e : k.val / 64 = d.val / 64 <;> simp [e]

theorem blk1 (c : Dev nD) (t : Fin cfg0.N) (r : Fin 512) (d : Fin 512) : B1 m c t (ix2 r d) = X1 m c (ix2 (tok t r) d) := by
  blk_ext [iblk, V, idx t, tok_val]

theorem blk2 (c : Dev nD) (t : Fin cfg0.N) (r : Fin 512) (d : Fin 512) : B2 m c t (ix2 r d) = X2 m c (ix2 (tok t r) d) := by
  blk_ext [iblk, V, idx t, tok_val]

theorem blk3 (c : Dev nD) (t : Fin cfg0.N) (r : Fin 512) (d : Fin 512) : B3 m c t (ix2 r d) = X3 m c (ix2 (tok t r) d) := by
  blk_ext [iblk, V, idx t, tok_val]

theorem blk4 (c : Dev nD) (t : Fin cfg0.N) (r : Fin 512) (d : Fin 512) : B4 m c t (ix2 r d) = X4 m c (ix2 (tok t r) d) := by
  blk_ext [iblk, V, idx t, tok_val]

theorem blk5 (c : Dev nD) (t : Fin cfg0.N) (r : Fin 512) (d : Fin 512) : B5 m c t (ix2 r d) = X5 m c (ix2 (tok t r) d) := by
  blk_ext [iblk, V, idx t, tok_val]

theorem blk0 (c : Dev nD) (t : Fin cfg0.N) (r : Fin 512) (j : Fin 1024) : B0 m c t (ix2 r j) = X0 m c (ix3 ⟨(tok t r).val / 2048, by have := (tok t r).isLt; omega⟩ ⟨(tok t r).val % 2048, by omega⟩ j) := by
  refine Eq.trans (b := (V m c main_v26 : FVec Ideal S65536x1024 .f32) (ix2 (tok t r) j)) ?_ ?_
  · blk_ext [iblk, idx t, tok_val]
  · rw [V26]
    pointwise

theorem blk6 (c : Dev nD) (t : Fin cfg0.N) (d : Fin 512) : B6 m c t (ix2 0 d) = X6 m c (ix2 0 d) := by
  refine Eq.trans (b := (V m c main_v1 : FVec Ideal S1x512 .f32) (ix2 0 d)) ?_ ?_
  · blk_ext [iblk, idx t, tok_val]
  · rw [V1]
    pointwise

theorem blk7 (c : Dev nD) (t : Fin cfg0.N) (d : Fin 512) : B7 m c t (ix2 0 d) = X7 m c (ix2 0 d) := by
  refine Eq.trans (b := (V m c main_v3 : FVec Ideal S1x512 .f32) (ix2 0 d)) ?_ ?_
  · blk_ext [iblk, idx t, tok_val]
  · rw [V3]
    pointwise

theorem blk8 (c : Dev nD) (t : Fin cfg0.N) (k d : Fin 512) : B8 m c t (ix2 k d) = if k.val / 64 = d.val / 64 then (1 : EReal) else 0 := by
  refine Eq.trans (b := (V m c main_v10 : FVec Ideal S512x512 .bf16) (ix2 k d)) ?_ ?_
  · blk_ext [iblk, idx t, tok_val]
  · rw [V10]
    exact headMat_at k d

theorem blk9 (c : Dev nD) (t : Fin cfg0.N) (k : Fin 512) (j : Fin 1024) : B9 m c t (ix2 k j) = X8 m c (ix3 0 ⟨k.val, by omega⟩ j) := by
  refine Eq.trans (b := (V m c main_v13 : FVec Ideal S512x1024 .bf16) (ix2 k j)) ?_ ?_
  · blk_ext [iblk, idx t, tok_val]
  · rw [V13]
    pointwise

theorem blk10 (c : Dev nD) (t : Fin cfg0.N) (k : Fin 512) (j : Fin 1024) : B10 m c t (ix2 k j) = X8 m c (ix3 0 ⟨512 + k.val, by omega⟩ j) := by
  refine Eq.trans (b := (V m c main_v16 : FVec Ideal S512x1024 .bf16) (ix2 k j)) ?_ ?_
  · blk_ext [iblk, idx t, tok_val]
  · rw [V16]
    pointwise

theorem blk11 (c : Dev nD) (t : Fin cfg0.N) (j : Fin 1024) : B11 m c t (ix2 0 j) = X9 m c (ix2 0 j) := by
  refine Eq.trans (b := (V m c main_v18 : FVec Ideal S1x1024 .f32) (ix2 0 j)) ?_ ?_
  · blk_ext [iblk, idx t, tok_val]
  · rw [V18]
    pointwise

theorem blk12 (c : Dev nD) (t : Fin cfg0.N) (k : Fin 1024) (f : Fin 1408) : B12 m c t (ix2 k f) = X10 m c (ix3 0 k ⟨1408 * (t.val % 2) + f.val, by omega⟩) := by
  refine Eq.trans (b := (V m c main_v20 : FVec Ideal S1024x2816 .bf16) (ix2 k ⟨1408 * (t.val % 2) + f.val, by omega⟩)) ?_ ?_
  · blk_ext [iblk, idx t, tok_val]
  · rw [V20]
    pointwise

theorem blk13 (c : Dev nD) (t : Fin cfg0.N) (k : Fin 1024) (f : Fin 1408) : B13 m c t (ix2 k f) = X11 m c (ix3 0 k ⟨1408 * (t.val % 2) + f.val, by omega⟩) := by
  refine Eq.trans (b := (V m c main_v22 : FVec Ideal S1024x2816 .bf16) (ix2 k ⟨1408 * (t.val % 2) + f.val, by omega⟩)) ?_ ?_
  · blk_ext [iblk, idx t, tok_val]
  · rw [V22]
    pointwise

theorem blk14 (c : Dev nD) (t : Fin cfg0.N) (f : Fin 1408) (j : Fin 1024) : B14 m c t (ix2 f j) = X12 m c (ix3 0 ⟨1408 * (t.val % 2) + f.val, by omega⟩ j) := by
  refine Eq.trans (b := (V m c main_v24 : FVec Ideal S2816x1024 .bf16) (ix2 ⟨1408 * (t.val % 2) + f.val, by omega⟩ j)) ?_ ?_
  · blk_ext [iblk, idx t, tok_val]
  · rw [V24]
    pointwise

theorem blk15 (c : Dev nD) (t : Fin cfg0.N) (j : Fin 1024) : B15 m c t (ix2 0 j) = X13 m c (ix1 j) := by
  refine Eq.trans (b := (V m c main_v25 : FVec Ideal S1x1024 .f32) (ix2 0 j)) ?_ ?_
  · blk_ext [iblk, idx t, tok_val]
  · rw [V25]
    pointwise

end Cert.MixFfnIdeal.Val

end
-- ==== Proof.MixOut.lean ====
/- The row the mixing and feed-forward block returns for one token, from the argument arrays. -/
module

public import proofs.«01_k».proof.Proof.MixSpec
public import proofs.«01_k».proof.Proof.Gen.MixFfnIdeal.Skeleton
public import Idealize.ShloMosaic.Lib.Pointwise

@[expose] public section

set_option maxRecDepth 16384

noncomputable section

namespace Cert.MixFfnIdeal.Val

open Cert.MixFfnIdeal Cert.MixFfnIdeal.Gen Idealize.ShloMosaic Idealize.ShloMosaic.TcCoe Cert.Mix

section
variable (x0 : Vec Ideal S32x2048x1024 .f32) (x1 x2 : Vec Ideal S65536x512 .f32) (x3 x4 x5 : Vec Ideal S65536x512 .bf16)
  (x6 x7 : Vec Ideal S1x512 .f32) (x8 : Vec Ideal S1x1024x1024 .f32) (x9 : Vec Ideal S1x1024 .f32) (x10 x11 : Vec Ideal S1x1024x2816 .f32)
  (x12 : Vec Ideal S1x2816x1024 .f32) (x13 : Vec Ideal S1024 .f32)

/-- The normalised and gated row of token `n`. -/
def gated (n : Fin 65536) : Fin 512 → EReal :=
  yr hmean (fun k => x1 (ix2 n k) + x2 (ix2 n k)) (fun k => x6 (ix2 0 k)) (fun k => x7 (ix2 0 k)) (fun k => x3 (ix2 n k)) (fun k => x4 (ix2 n k))

/-- Its first residual. -/
def mid (n : Fin 65536) : Fin 1024 → EReal :=
  res1 (fun j => x0 (ix3 ⟨n.val / 2048, by omega⟩ ⟨n.val % 2048, by omega⟩ j)) (gated x1 x2 x3 x4 x6 x7 n) (fun k => x5 (ix2 n k))
    (fun k j => x8 (ix3 0 ⟨k.val, by omega⟩ j)) (fun k j => x8 (ix3 0 ⟨512 + k.val, by omega⟩ j))

/-- Its second residual. -/
def last (n : Fin 65536) (j : Fin 1024) : EReal :=
  mid x0 x1 x2 x3 x4 x5 x6 x7 x8 n j + ∑ f : Fin 2816,
    act (rms (mid x0 x1 x2 x3 x4 x5 x6 x7 x8 n) (fun k => x9 (ix2 0 k))) (fun k => x10 (ix3 0 k f)) (fun k => x11 (ix3 0 k f)) * x12 (ix3 0 f j)

/-- The row returned. -/
def outRow (n : Fin 65536) : Fin 1024 → EReal :=
  rms (last x0 x1 x2 x3 x4 x5 x6 x7 x8 x9 x10 x11 x12 n) (fun j => x13 (ix1 j))

end

end Cert.MixFfnIdeal.Val

end
-- ==== Proof.MixArr.lean ====
/- The array the mixing and feed-forward call leaves, row by row. -/
module

public import proofs.«01_k».proof.Proof.MixHost
public import proofs.«01_k».proof.Proof.MixOut

@[expose] public section

set_option maxRecDepth 16384

noncomputable section

namespace Cert.MixFfnIdeal.Val

open Cert.MixFfnIdeal Cert.MixFfnIdeal.Gen Idealize.ShloMosaic Idealize.ShloMosaic.TcCoe Cert.Mix

variable (m : (ℓ : Loc nD τ sig) → Buf (Elt Ideal) ℓ)

theorem kmean_eq (c : Dev nD) (t : Fin cfg0.N) : kmean (B8 m c t) = hmean :=
  funext fun y => funext fun d => hmean_eq (fun k d => B8 m c t (ix2 k d)) (fun k d => blk8 m c t k d) y d

theorem U_at (c : Dev nD) (t : Fin cfg0.N) (r d : Fin 512) : U m c t (ix2 r d)
    = gated (X1 m c) (X2 m c) (X3 m c) (X4 m c) (X6 m c) (X7 m c) (tok t r) d := by
  refine (pay7_at (B1 m c t) (B2 m c t) (B8 m c t) (B6 m c t) (B7 m c t) (B3 m c t) (B4 m c t) r d).trans ?_
  rw [kmean_eq]
  simp only [blk1, blk2, blk3, blk4, blk6, blk7]
  rfl

theorem mid_at (c : Dev nD) (t : Fin cfg0.N) (r : Fin 512) (j : Fin 1024) :
    res1 (fun k => B0 m c t (ix2 r k)) (fun k => U m c t (ix2 r k)) (fun k => B5 m c t (ix2 r k)) (fun k j => B9 m c t (ix2 k j)) (fun k j => B10 m c t (ix2 k j)) j
      = mid (X0 m c) (X1 m c) (X2 m c) (X3 m c) (X4 m c) (X5 m c) (X6 m c) (X7 m c) (X8 m c) (tok t r) j := by
  simp only [U_at, blk0, blk5, blk9, blk10]
  rfl

theorem H_at (c : Dev nD) (t : Fin cfg0.N) (r : Fin 512) (j : Fin 1024) : H m c t (ix2 r j)
    = rms (mid (X0 m c) (X1 m c) (X2 m c) (X3 m c) (X4 m c) (X5 m c) (X6 m c) (X7 m c) (X8 m c) (tok t r)) (fun k => X9 m c (ix2 0 k)) j := by
  refine (pay2_at (k0_pay6 (B0 m c t)) (U m c t) (B5 m c t) (B9 m c t) (B10 m c t) (B11 m c t) r j).trans ?_
  refine congrArg₂ (fun a b => rms a b j) (funext fun k => ?_) (funext fun k => blk11 m c t k)
  exact (pay1_at (B0 m c t) (U m c t) (B5 m c t) (B9 m c t) (B10 m c t) r k).trans (mid_at m c t r k)

/-- One lane's share of the feed-forward sum. -/
def part (c : Dev nD) (n : Fin 65536) (j : Fin 1024) (f : Fin 2816) : EReal :=
  act (rms (mid (X0 m c) (X1 m c) (X2 m c) (X3 m c) (X4 m c) (X5 m c) (X6 m c) (X7 m c) (X8 m c) n) (fun k => X9 m c (ix2 0 k)))
    (fun k => X10 m c (ix3 0 k f)) (fun k => X11 m c (ix3 0 k f)) * X12 m c (ix3 0 f j)

theorem sum_at (c : Dev nD) (s t : Fin cfg0.N) (r : Fin 512) (j : Fin 1024) :
    (∑ f : Fin 1408, act (fun k => H m c s (ix2 r k)) (fun k => B12 m c t (ix2 k f)) (fun k => B13 m c t (ix2 k f)) * B14 m c t (ix2 f j))
      = ∑ f : Fin 1408, part m c (tok s r) j ⟨1408 * (t.val % 2) + f.val, by omega⟩ := by
  refine Finset.sum_congr rfl fun f _ => ?_
  simp only [H_at, blk12, blk13, blk14]
  rfl

theorem A_at (c : Dev nD) (t : Fin cfg0.N) (r : Fin 512) (j : Fin 1024) : A m c t (ix2 r j)
    = mid (X0 m c) (X1 m c) (X2 m c) (X3 m c) (X4 m c) (X5 m c) (X6 m c) (X7 m c) (X8 m c) (tok t r) j
      + ∑ f : Fin 1408, part m c (tok t r) j ⟨1408 * (t.val % 2) + f.val, by omega⟩ := by
  refine (pay4_at (H m c t) (B12 m c t) (B13 m c t) _ (B14 m c t) r j).trans ?_
  rw [sum_at]
  refine congrArg (fun z : EReal => z + _) ?_
  exact (pay3_at (B0 m c t) (U m c t) (B5 m c t) (B9 m c t) (B10 m c t) r j).trans (mid_at m c t r j)

theorem last_at (c : Dev nD) (s t : Fin cfg0.N) (h1 : t.val % 2 = 1) (hs : s.val = t.val - 1) (r : Fin 512) (j : Fin 1024) :
    k0_pay4 (F := Ideal) (H m c s) (B12 m c t) (B13 m c t) (A m c s) (B14 m c t) (ix2 r j)
      = last (X0 m c) (X1 m c) (X2 m c) (X3 m c) (X4 m c) (X5 m c) (X6 m c) (X7 m c) (X8 m c) (X9 m c) (X10 m c) (X11 m c) (X12 m c) (tok t r) j := by
  have e : tok s r = tok t r := Fin.ext (by show 512 * (s.val / 2) + r.val = 512 * (t.val / 2) + r.val; omega)
  rw [pay4_at, sum_at, A_at, e, add_assoc]
  unfold last
  refine congrArg (fun z : EReal => mid (X0 m c) (X1 m c) (X2 m c) (X3 m c) (X4 m c) (X5 m c) (X6 m c) (X7 m c) (X8 m c) (tok t r) j + z) ?_
  refine Eq.trans ?_ (Fin.sum_univ_two_halves 1408 1408 rfl (part m c (tok t r) j)).symm
  refine congrArg₂ (· + ·) (Finset.sum_congr rfl fun f _ => congrArg _ (Fin.ext ?_)) (Finset.sum_congr rfl fun f _ => congrArg _ (Fin.ext ?_))
  · show 1408 * (s.val % 2) + f.val = f.val; omega
  · show 1408 * (t.val % 2) + f.val = 1408 + f.val; omega

theorem blk16 (c : Dev nD) (t : Fin cfg0.N) (h1 : t.val % 2 = 1) (r : Fin 512) (j : Fin 1024) : (outsAt0 m c t.val t.isLt).1 (ix2 r j)
    = outRow (X0 m c) (X1 m c) (X2 m c) (X3 m c) (X4 m c) (X5 m c) (X6 m c) (X7 m c) (X8 m c) (X9 m c) (X10 m c) (X11 m c) (X12 m c) (X13 m c) (tok t r) j := by
  have hs : t.val - 1 < cfg0.N := by have := t.isLt; omega
  rw [second m c t ⟨t.val - 1, hs⟩ h1 rfl]
  refine (pay5_at _ (B15 m c t) r j).trans ?_
  exact congrArg₂ (fun a b => rms a b j) (funext fun k => last_at m c _ t h1 rfl r k) (funext fun k => blk15 m c t k)

/-- The whole array the call leaves. -/
theorem final (c : Dev nD) : (dats m 0 c).arrAt 16 cfg0.N = (fun y : S65536x1024.Idx =>
    outRow (X0 m c) (X1 m c) (X2 m c) (X3 m c) (X4 m c) (X5 m c) (X6 m c) (X7 m c) (X8 m c) (X9 m c) (X10 m c) (X11 m c) (X12 m c) (X13 m c) (y 0) (y 1)) := by
  refine (dats m 0 c).arrAt_eq_of_covers 16 _ (by decide +kernel) fun t hf y => ?_
  have h1 : t.val % 2 = 1 := (flush0_16 t).mp hf
  blk_simp
  rw [after0_16]
  obtain ⟨r, j, rfl⟩ : ∃ r j, y = ix2 r j := ⟨y 0, y 1, by idx_vars y⟩
  refine (blk16 m c t h1 r j).trans ?_
  refine congrArg₂ (fun n j => outRow (X0 m c) (X1 m c) (X2 m c) (X3 m c) (X4 m c) (X5 m c) (X6 m c) (X7 m c) (X8 m c) (X9 m c) (X10 m c) (X11 m c) (X12 m c) (X13 m c) n j) ?_ ?_
  · apply Fin.ext
    blk_simp [idx t, tok_val]
    omega
  · apply Fin.ext
    blk_simp [idx t, tok_val]

end Cert.MixFfnIdeal.Val

end
-- ==== Proof.MixRef.lean ====
/- The reference's mixing output and feed-forward block, read element by element. -/
module

public import proofs.«01_k».proof.Proof.Gen.MixFfnRefIdeal.Run
public import proofs.«01_k».proof.Proof.Gen.MixFfnRefIdeal.Read
public import proofs.«01_k».proof.Proof.MixOut

@[expose] public section

set_option maxRecDepth 16384

noncomputable section

namespace Cert.MixFfnRefIdeal.Val

open Cert.MixFfnRefIdeal Cert.MixFfnRefIdeal.Gen Cert.MixFfnRefIdeal.Read
open Idealize.ShloMosaic Idealize.ShloMosaic.TcCoe Idealize.SL.Sem
open Cert.Mix
open Cert.MixFfnIdeal.Val (gated mid last outRow)

variable (x0 : FVec Ideal S32x2048x1024 .f32) (x1 x2 : FVec Ideal S65536x512 .f32) (x3 x4 x5 : FVec Ideal S65536x512 .bf16)
  (x6 x7 : FVec Ideal S1x512 .f32) (x8 : FVec Ideal S1x1024x1024 .f32) (x9 : FVec Ideal S1x1024 .f32) (x10 x11 : FVec Ideal S1x1024x2816 .f32)
  (x12 : FVec Ideal S1x2816x1024 .f32) (x13 : FVec Ideal S1024 .f32)

/-- The token at place `s` of sequence `b`. -/
def tk (b : Fin 32) (s : Fin 2048) : Fin 65536 := ⟨b.val * 2048 + s.val, by omega⟩
theorem tk_val (b : Fin 32) (s : Fin 2048) : ((tk b s : Fin 65536) : ℕ) = b.val * 2048 + s.val := rfl

theorem v1_at (b : Fin 32) (s : Fin 2048) (h : Fin 8) (k : Fin 64) : val_main_v1 (F := Ideal) x1 x2 (ix4 b s h k)
    = x1 (ix2 (tk b s) ⟨64 * h.val + k.val, by omega⟩) + x2 (ix2 (tk b s) ⟨64 * h.val + k.val, by omega⟩) := by
  rw [val_main_v1_apply, val_main_v0_apply]
  have e : idx_main_v1 (ix4 b s h k) = ix2 (tk b s) ⟨64 * h.val + k.val, by omega⟩ := by
    funext a
    fin_cases a
    · apply Fin.ext; show ((((b.val * 2048 + s.val) * 8 + h.val) * 64 + k.val) / 512 = b.val * 2048 + s.val); omega
    · apply Fin.ext; show ((((b.val * 2048 + s.val) * 8 + h.val) * 64 + k.val) % 512 = 64 * h.val + k.val); omega
  rw [e]; rfl

theorem v5_at (b : Fin 32) (s : Fin 2048) (h : Fin 8) : val_main_v5 (F := Ideal) x1 x2 (ix4 b s h 0)
    = Ideal.div (∑ k : Fin 64, val_main_v1 (F := Ideal) x1 x2 (ix4 b s h k)) w64 := by
  unfold val_main_v5 val_main_v3 val_main_v2
  generalize val_main_v1 (F := Ideal) x1 x2 = z
  pointwise [val_main_v4, val_main_cst, val_main_cst_0]

theorem v19_at (b : Fin 32) (s : Fin 2048) (h : Fin 8) (k : Fin 64) : val_main_v19 (F := Ideal) x1 x2 (ix4 b s h k)
    = (val_main_v1 (F := Ideal) x1 x2 (ix4 b s h k) - val_main_v5 (F := Ideal) x1 x2 (ix4 b s h 0))
      * Ideal.rsqrt (Ideal.div (∑ k : Fin 64, (val_main_v1 (F := Ideal) x1 x2 (ix4 b s h k) - val_main_v5 (F := Ideal) x1 x2 (ix4 b s h 0))
        * (val_main_v1 (F := Ideal) x1 x2 (ix4 b s h k) - val_main_v5 (F := Ideal) x1 x2 (ix4 b s h 0))) w64 + eLn) := by
  unfold val_main_v19 val_main_v18 val_main_v17 val_main_v16 val_main_v14 val_main_v13 val_main_v12 val_main_v10 val_main_v9 val_main_v8 val_main_v7 val_main_v6
  generalize val_main_v5 (F := Ideal) x1 x2 = y
  generalize val_main_v1 (F := Ideal) x1 x2 = z
  pointwise [val_main_v11, val_main_v15, val_main_cst_1, val_main_cst_2, val_main_cst_3]

theorem hmean_head (y : Fin 512 → EReal) (h : Fin 8) (k : Fin 64) :
    hmean y ⟨64 * h.val + k.val, by omega⟩ = Ideal.div (∑ k : Fin 64, y ⟨64 * h.val + k.val, by omega⟩) w64 := by
  unfold hmean
  refine congrArg (fun z => Ideal.div z w64) (Finset.sum_congr rfl fun k' _ => congrArg y (Fin.ext ?_))
  show 64 * ((64 * h.val + k.val) / 64) + k'.val = 64 * h.val + k'.val
  omega

theorem v34_at (b : Fin 32) (s : Fin 2048) (h : Fin 8) (k : Fin 64) : val_main_v34 (F := Ideal) x1 x2 x3 x4 x6 x7 (ix3 b s ⟨64 * h.val + k.val, by omega⟩)
    = gated x1 x2 x3 x4 x6 x7 (tk b s) ⟨64 * h.val + k.val, by omega⟩ := by
  have e : val_main_v34 (F := Ideal) x1 x2 x3 x4 x6 x7 (ix3 b s ⟨64 * h.val + k.val, by omega⟩)
      = (val_main_v19 (F := Ideal) x1 x2 (ix4 b s h k) * x6 (ix2 0 ⟨64 * h.val + k.val, by omega⟩) + x7 (ix2 0 ⟨64 * h.val + k.val, by omega⟩))
        * x3 (ix2 (tk b s) ⟨64 * h.val + k.val, by omega⟩) + x4 (ix2 (tk b s) ⟨64 * h.val + k.val, by omega⟩) := by
    unfold val_main_v34 val_main_v31 val_main_v28 val_main_v24 val_main_v20
    generalize val_main_v19 (F := Ideal) x1 x2 = z
    pointwise [val_main_v33, val_main_v32, val_main_v30, val_main_v29, val_main_v27, val_main_v26, val_main_v25, val_main_v23, val_main_v22, val_main_v21]
    rfl
  rw [e, v19_at, v5_at]
  unfold gated yr
  simp only [hmean_head, v1_at]

theorem v37_left (b : Fin 32) (s : Fin 2048) (d : Fin 512) : val_main_v37 (F := Ideal) x1 x2 x3 x4 x5 x6 x7 (ix3 b s ⟨d.val, by omega⟩)
    = val_main_v34 (F := Ideal) x1 x2 x3 x4 x6 x7 (ix3 b s d) := by
  unfold val_main_v37
  generalize val_main_v34 (F := Ideal) x1 x2 x3 x4 x6 x7 = z
  pointwise [Cert.MixFfnRefIdeal.Value.fn_main_v37]

theorem v37_right (b : Fin 32) (s : Fin 2048) (d : Fin 512) : val_main_v37 (F := Ideal) x1 x2 x3 x4 x5 x6 x7 (ix3 b s ⟨512 + d.val, by omega⟩)
    = x5 (ix2 (tk b s) d) := by
  unfold val_main_v37
  generalize val_main_v34 (F := Ideal) x1 x2 x3 x4 x6 x7 = z
  pointwise [Cert.MixFfnRefIdeal.Value.fn_main_v37, val_main_v36, val_main_v35]
  rfl

theorem v38_at (k j : Fin 1024) : val_main_v38 (F := Ideal) x8 (ix2 k j) = x8 (ix3 0 k j) := by
  pointwise [val_main_v38]

theorem v39_at (b : Fin 32) (s : Fin 2048) (j : Fin 1024) : val_main_v39 (F := Ideal) x1 x2 x3 x4 x5 x6 x7 x8 (ix3 b s j)
    = ∑ k : Fin 1024, val_main_v37 (F := Ideal) x1 x2 x3 x4 x5 x6 x7 (ix3 b s k) * x8 (ix3 0 k j) := by
  unfold val_main_v39
  generalize val_main_v37 (F := Ideal) x1 x2 x3 x4 x5 x6 x7 = z
  pointwise [val_main_v38]

theorem v54_at (b : Fin 32) (s : Fin 2048) (j : Fin 1024) : val_main_v54 (F := Ideal) x0 x1 x2 x3 x4 x5 x6 x7 x8 x9 (ix3 b s j)
    = rms (fun k => val_main_v40 (F := Ideal) x0 x1 x2 x3 x4 x5 x6 x7 x8 (ix3 b s k)) (fun k => x9 (ix2 0 k)) j := by
  unfold val_main_v54 val_main_v51 val_main_v50 val_main_v49 val_main_v48 val_main_v46 val_main_v44 val_main_v43 val_main_v42
  generalize val_main_v40 (F := Ideal) x0 x1 x2 x3 x4 x5 x6 x7 x8 = z
  pointwise [rms, val_main_v53, val_main_v52, val_main_v47, val_main_v45, val_main_v41, val_main_cst_4, val_main_cst_5, val_main_cst_6]

theorem v63_at (b : Fin 32) (s : Fin 2048) (j : Fin 1024) : val_main_v63 (F := Ideal) x0 x1 x2 x3 x4 x5 x6 x7 x8 x9 x10 x11 x12 (ix3 b s j)
    = val_main_v40 (F := Ideal) x0 x1 x2 x3 x4 x5 x6 x7 x8 (ix3 b s j) + ∑ f : Fin 2816,
      act (fun k => val_main_v54 (F := Ideal) x0 x1 x2 x3 x4 x5 x6 x7 x8 x9 (ix3 b s k)) (fun k => x10 (ix3 0 k f)) (fun k => x11 (ix3 0 k f)) * x12 (ix3 0 f j) := by
  unfold val_main_v63 val_main_v62 val_main_v60 val_main_v59 val_main_v57 val_main_call0_v5 val_main_call0_v3 val_main_call0_v1 val_main_call0_v0 val_main_v56
  generalize val_main_v54 (F := Ideal) x0 x1 x2 x3 x4 x5 x6 x7 x8 x9 = y
  generalize val_main_v40 (F := Ideal) x0 x1 x2 x3 x4 x5 x6 x7 x8 = z
  pointwise [act, silu, val_main_v61, val_main_v58, val_main_v55, val_main_call0_v2, val_main_call0_v4, val_main_call0_cst, val_main_call0_cst_0]

theorem v76_at (b : Fin 32) (s : Fin 2048) (j : Fin 1024) : val_main_v76 (F := Ideal) x0 x1 x2 x3 x4 x5 x6 x7 x8 x9 x10 x11 x12 x13 (ix3 b s j)
    = rms (fun k => val_main_v63 (F := Ideal) x0 x1 x2 x3 x4 x5 x6 x7 x8 x9 x10 x11 x12 (ix3 b s k)) (fun k => x13 (ix1 k)) j := by
  unfold val_main_v76 val_main_v73 val_main_v72 val_main_v71 val_main_v70 val_main_v68 val_main_v66 val_main_v65 val_main_v64
  generalize val_main_v63 (F := Ideal) x0 x1 x2 x3 x4 x5 x6 x7 x8 x9 x10 x11 x12 = z
  pointwise [rms, val_main_v75, val_main_v74, val_main_v69, val_main_v67, val_main_cst_7, val_main_cst_8, val_main_cst_9]

theorem v40_at (b : Fin 32) (s : Fin 2048) (j : Fin 1024) : val_main_v40 (F := Ideal) x0 x1 x2 x3 x4 x5 x6 x7 x8 (ix3 b s j)
    = mid x0 x1 x2 x3 x4 x5 x6 x7 x8 (tk b s) j := by
  have eb : (⟨(tk b s).val / 2048, by omega⟩ : Fin 32) = b := Fin.ext (by show (b.val * 2048 + s.val) / 2048 = b.val; omega)
  have es : (⟨(tk b s).val % 2048, by omega⟩ : Fin 2048) = s := Fin.ext (by show (b.val * 2048 + s.val) % 2048 = s.val; omega)
  rw [val_main_v40_apply, v39_at]
  unfold mid res1
  rw [eb, es, add_assoc]
  refine congrArg (fun z : EReal => x0 (ix3 b s j) + z) ?_
  refine (Fin.sum_univ_two_halves 512 512 rfl _).trans ?_
  refine congrArg₂ (· + ·) (Finset.sum_congr rfl fun d _ => congrArg (fun z : EReal => z * _) ?_) (Finset.sum_congr rfl fun d _ => congrArg (fun z : EReal => z * _) ?_)
  · refine (v37_left x1 x2 x3 x4 x5 x6 x7 b s d).trans ?_
    have hd : d = ⟨64 * (⟨d.val / 64, by omega⟩ : Fin 8).val + (⟨d.val % 64, by omega⟩ : Fin 64).val, by show 64 * (d.val / 64) + d.val % 64 < 512; omega⟩ :=
      Fin.ext (by show d.val = 64 * (d.val / 64) + d.val % 64; omega)
    rw [hd]
    exact v34_at x1 x2 x3 x4 x6 x7 b s _ _
  · exact v37_right x1 x2 x3 x4 x5 x6 x7 b s d

theorem v77_at (n : Fin 65536) (j : Fin 1024) : val_main_v77 (F := Ideal) x0 x1 x2 x3 x4 x5 x6 x7 x8 x9 x10 x11 x12 x13 (ix2 n j)
    = val_main_v76 (F := Ideal) x0 x1 x2 x3 x4 x5 x6 x7 x8 x9 x10 x11 x12 x13 (ix3 ⟨n.val / 2048, by omega⟩ ⟨n.val % 2048, by omega⟩ j) := by
  unfold val_main_v77
  generalize val_main_v76 (F := Ideal) x0 x1 x2 x3 x4 x5 x6 x7 x8 x9 x10 x11 x12 x13 = z
  pointwise

theorem v77_row (n : Fin 65536) (j : Fin 1024) : val_main_v77 (F := Ideal) x0 x1 x2 x3 x4 x5 x6 x7 x8 x9 x10 x11 x12 x13 (ix2 n j)
    = outRow x0 x1 x2 x3 x4 x5 x6 x7 x8 x9 x10 x11 x12 x13 n j := by
  have ey : tk ⟨n.val / 2048, by omega⟩ ⟨n.val % 2048, by omega⟩ = n := Fin.ext (by show n.val / 2048 * 2048 + n.val % 2048 = n.val; omega)
  rw [v77_at, v76_at]
  simp only [v63_at, v54_at, v40_at, ey]
  rfl

/-- The reference's result. -/
theorem ref_eq : val_main_v77 (F := Ideal) x0 x1 x2 x3 x4 x5 x6 x7 x8 x9 x10 x11 x12 x13
    = (fun y : S65536x1024.Idx => outRow x0 x1 x2 x3 x4 x5 x6 x7 x8 x9 x10 x11 x12 x13 (y 0) (y 1)) := by
  funext y
  idx_vars y
  exact v77_row x0 x1 x2 x3 x4 x5 x6 x7 x8 x9 x10 x11 x12 x13 _ _

end Cert.MixFfnRefIdeal.Val

end
-- ==== Proof.MixClaim.lean ====
/- The value claim of the mixing output and feed-forward block: the two programs' results are equal. -/
module

public import proofs.«01_k».proof.Defs
public import proofs.«01_k».proof.Proof.MixArr
public import proofs.«01_k».proof.Proof.MixRef
public import Idealize.ShloMosaic.Lib.Claim

@[expose] public section

set_option maxRecDepth 16384

noncomputable section

namespace Cert.MixFfnIdeal.Val

open Cert.MixFfnIdeal Cert.MixFfnIdeal.Gen
open Idealize.ShloMosaic Idealize.ShloMosaic.TcCoe Idealize.SL.Sem

/-- On any arguments the call's array is the reference's result. -/
theorem out_eq (m : (ℓ : Loc nD τ sig) → Buf (Elt Ideal) ℓ) (c : Dev nD) : (dats m 0 c).arrAt 16 cfg0.N
    = Cert.MixFfnRefIdeal.Read.val_main_v77 (F := Ideal) (X0 m c) (X1 m c) (X2 m c) (X3 m c) (X4 m c) (X5 m c) (X6 m c) (X7 m c) (X8 m c) (X9 m c)
      (X10 m c) (X11 m c) (X12 m c) (X13 m c) :=
  (final m c).trans (Cert.MixFfnRefIdeal.Val.ref_eq (X0 m c) (X1 m c) (X2 m c) (X3 m c) (X4 m c) (X5 m c) (X6 m c) (X7 m c) (X8 m c) (X9 m c)
      (X10 m c) (X11 m c) (X12 m c) (X13 m c)).symm

theorem algebraic : Cert.algebraic_MixFfnIdeal_MixFfnRefIdeal := by
  intro m g m' g' hp ha
  refine ⟨fun c => (dats m 0 c).arrAt 16 cfg0.N, Cert.MixFfnIdeal.Value.run_blocks m g, (θ_run _ _ _).mono (fun r h c => ⟨?_, (h c).2⟩) (Cert.MixFfnRefIdeal.Value.run m' g')⟩
  refine (h c).1.trans ((Cert.MixFfnRefIdeal.Read.val_main_v77_eq (StableHlo.launchContents m' c)).trans ?_)
  obtain ⟨e0, e1, e2, e3, e4, e5, e6, e7, e8, e9, e10, e11, e12, e13⟩ := ha c
  show Cert.MixFfnRefIdeal.Read.val_main_v77 (F := Ideal) (m' ((c.tc : Thread Cert.MixFfnRefIdeal.nD Cert.MixFfnRefIdeal.τ).loc Cert.MixFfnRefIdeal.main_arg0)) (m' ((c.tc : Thread Cert.MixFfnRefIdeal.nD Cert.MixFfnRefIdeal.τ).loc Cert.MixFfnRefIdeal.main_arg1)) (m' ((c.tc : Thread Cert.MixFfnRefIdeal.nD Cert.MixFfnRefIdeal.τ).loc Cert.MixFfnRefIdeal.main_arg2)) (m' ((c.tc : Thread Cert.MixFfnRefIdeal.nD Cert.MixFfnRefIdeal.τ).loc Cert.MixFfnRefIdeal.main_arg3)) (m' ((c.tc : Thread Cert.MixFfnRefIdeal.nD Cert.MixFfnRefIdeal.τ).loc Cert.MixFfnRefIdeal.main_arg4)) (m' ((c.tc : Thread Cert.MixFfnRefIdeal.nD Cert.MixFfnRefIdeal.τ).loc Cert.MixFfnRefIdeal.main_arg5)) (m' ((c.tc : Thread Cert.MixFfnRefIdeal.nD Cert.MixFfnRefIdeal.τ).loc Cert.MixFfnRefIdeal.main_arg6)) (m' ((c.tc : Thread Cert.MixFfnRefIdeal.nD Cert.MixFfnRefIdeal.τ).loc Cert.MixFfnRefIdeal.main_arg7)) (m' ((c.tc : Thread Cert.MixFfnRefIdeal.nD Cert.MixFfnRefIdeal.τ).loc Cert.MixFfnRefIdeal.main_arg8)) (m' ((c.tc : Thread Cert.MixFfnRefIdeal.nD Cert.MixFfnRefIdeal.τ).loc Cert.MixFfnRefIdeal.main_arg9)) (m' ((c.tc : Thread Cert.MixFfnRefIdeal.nD Cert.MixFfnRefIdeal.τ).loc Cert.MixFfnRefIdeal.main_arg10)) (m' ((c.tc : Thread Cert.MixFfnRefIdeal.nD Cert.MixFfnRefIdeal.τ).loc Cert.MixFfnRefIdeal.main_arg11)) (m' ((c.tc : Thread Cert.MixFfnRefIdeal.nD Cert.MixFfnRefIdeal.τ).loc Cert.MixFfnRefIdeal.main_arg12)) (m' ((c.tc : Thread Cert.MixFfnRefIdeal.nD Cert.MixFfnRefIdeal.τ).loc Cert.MixFfnRefIdeal.main_arg13)) = _
  rw [e0, e1, e2, e3, e4, e5, e6, e7, e8, e9, e10, e11, e12, e13]
  exact (out_eq m c).symm

end Cert.MixFfnIdeal.Val

end
-- ==== Proof.InSpec.lean ====
/- One head of the input projection over the extended reals: its norm, its rotation by two angles, its scale. -/
module

public import proofs.«01_k».proof.Proof.MixSpec

@[expose] public section

noncomputable section

namespace Cert.In

open Idealize.ShloMosaic Cert.Mix

/-- The scale of the queries, the rational of its float word. -/
abbrev sc : EReal := Ideal.ofBits .f32 0x3E38AA3B#32

/-- One head, normalised by its root mean square and multiplied by its gain. -/
def nrm (z g : Fin 64 → EReal) (c : Fin 64) : EReal :=
  z c * Ideal.rsqrt (Ideal.div (∑ k : Fin 64, z k * z k) w64 + eRms) * g c

/-- The rotation of a head: in each half, the sixteen first lanes with the sixteen last ones. -/
def rot (y co si : Fin 64 → EReal) (c : Fin 64) : EReal :=
  if h : c.val % 32 < 16 then y c * co c - y ⟨c.val + 16, by omega⟩ * si c else y ⟨c.val - 16, by omega⟩ * si c + y c * co c

/-- The projection of a normalised row on one column. -/
def proj (h w : Fin 1024 → EReal) : EReal := ∑ k : Fin 1024, h k * w k

theorem sc_nonneg : (0 : EReal) ≤ sc := by
  simp [sc, Ideal.ofBits, Ideal.ieee]
  rw [← EReal.coe_mul]
  exact EReal.coe_nonneg.mpr (by positivity)

theorem sc_ne_top : sc ≠ ⊤ := by
  simp [sc, Ideal.ofBits, Ideal.ieee]
  rw [← EReal.coe_mul]
  exact EReal.coe_ne_top _

/-- A scale multiplied into the gain before the norm and the rotation is the scale after them. -/
theorem rot_nrm_scale (z g co si : Fin 64 → EReal) (c : Fin 64) :
    rot (nrm z (fun k => g k * sc)) co si c = rot (nrm z g) co si c * sc := by
  have e : ∀ k, nrm z (fun k => g k * sc) k = nrm z g k * sc := fun k => (mul_assoc _ _ _).symm
  have d : ∀ a b : EReal, (a + b) * sc = a * sc + b * sc := fun a b => EReal.right_distrib_of_nonneg_of_ne_top sc_nonneg sc_ne_top a b
  unfold rot
  simp only [e]
  split
  · rw [sub_eq_add_neg, sub_eq_add_neg, d, mul_right_comm, neg_mul, mul_right_comm (nrm z g _) (si c) sc]
  · rw [d, mul_right_comm, mul_right_comm (nrm z g c) (co c) sc]

/-- The rotation as one sum over a table of cosines and a table of signed sines. -/
theorem rot_eq (y co si : Fin 64 → EReal) (w s : EReal) (c : Fin 64)
    (hw : w = if h : c.val % 32 < 16 then y ⟨c.val + 16, by omega⟩ else y ⟨c.val - 16, by omega⟩)
    (hs : s = if c.val % 32 < 16 then - si c else si c) : y c * co c + w * s = rot y co si c := by
  unfold rot
  subst hw hs
  by_cases h : c.val % 32 < 16
  · simp only [h, dite_true, if_true]
    rw [mul_neg, sub_eq_add_neg]
  · simp only [h, dite_false, if_false]
    rw [add_comm]

/-- The sum of a head by a product with the matrix that is one inside a head and zero outside. -/
theorem hsum_eq {n : ℕ} (hs : Fin (64 * n) → EReal) (h : Fin n) (hh : ∀ k, hs k = if k.val / 64 = h.val then 1 else 0) (y : Fin (64 * n) → EReal) :
    (∑ k : Fin (64 * n), y k * hs k) = ∑ k : Fin 64, y ⟨64 * h.val + k.val, by omega⟩ := by
  simp only [hh, mul_ite, mul_one, mul_zero]
  rw [← Finset.sum_filter]
  symm
  refine Finset.sum_bij' (fun k _ => ⟨64 * h.val + k.val, by omega⟩) (fun k _ => ⟨k.val % 64, by omega⟩) ?_ ?_ ?_ ?_ ?_
  · intro k _; simp only [Finset.mem_filter, Finset.mem_univ, true_and]; omega
  · intro k _; exact Finset.mem_univ _
  · intro k _; apply Fin.ext; show (64 * h.val + k.val) % 64 = k.val; omega
  · intro k hk; simp only [Finset.mem_filter, Finset.mem_univ, true_and] at hk; apply Fin.ext; show 64 * h.val + k.val % 64 = k.val; omega
  · intro k _; rfl

/-- The quotient by the width of a head as a product. -/
theorem div64 (x : EReal) : Ideal.div x w64 = x * Ideal.ofBits .f32 0x3C800000#32 := by
  have h64 : w64 = ((64 : ℝ) : EReal) := by
    simp [w64, Ideal.ofBits, Ideal.ieee]; rw [← EReal.coe_mul]; congr 1; norm_num
  have hinv : Ideal.ofBits .f32 0x3C800000#32 = ((1 / 64 : ℝ) : EReal) := by
    simp [Ideal.ofBits, Ideal.ieee]; rw [← EReal.coe_mul]; congr 1; norm_num
  rw [h64, Ideal.div_coe (by norm_num), hinv]

/-- The word of minus infinity. -/
theorem bot_word : Ideal.ofBits .f32 0xFF800000#32 = (⊥ : EReal) := by
  simp [Ideal.ofBits, Ideal.ieee]

end Cert.In

end
-- ==== Proof.InPay.lean ====
/- What the input projection computes on one block, lane by lane. -/
module

public import proofs.«01_k».proof.Proof.InSpec
public import proofs.«01_k».proof.Proof.Gen.InProjIdeal.Skeleton
public import Idealize.ShloMosaic.Lib.Pointwise

@[expose] public section

set_option maxRecDepth 16384

noncomputable section

namespace Cert.InProjIdeal.Val

open Cert.InProjIdeal Cert.InProjIdeal.Gen Idealize.ShloMosaic Idealize.ShloMosaic.TcCoe Cert.Mix Cert.In

theorem pay3_at (x : Vec Ideal S1024x1024 .f32) (g : Vec Ideal S1x1024 .f32) (r k : Fin 1024) :
    k0_pay3 (F := Ideal) x g (ix2 r k) = rms (fun j => x (ix2 r j)) (fun j => g (ix2 0 j)) k := by
  pointwise [k0_pay3, rms]

theorem pay4_at (x : Vec Ideal S1024x1024 .f32) (g : Vec Ideal S1x1024 .f32) (w : Vec Ideal S1024x768 .bf16) (r : Fin 1024) (j : Fin 768) :
    k0_pay4 (F := Ideal) x g w (ix2 r j) = proj (rms (fun j => x (ix2 r j)) (fun j => g (ix2 0 j))) (fun k => w (ix2 k j)) := by
  unfold proj
  simp only [← pay3_at]
  unfold k0_pay4
  generalize k0_pay3 (F := Ideal) x g = z
  pointwise

theorem pay6_at (x : Vec Ideal S1024x1024 .f32) (g : Vec Ideal S1x1024 .f32) (w : Vec Ideal S1024x1920 .bf16) (r : Fin 1024) (j : Fin 1920) :
    k0_pay6 (F := Ideal) x g w (ix2 r j) = proj (rms (fun j => x (ix2 r j)) (fun j => g (ix2 0 j))) (fun k => w (ix2 k j)) := by
  unfold proj
  simp only [← pay3_at]
  unfold k0_pay6
  generalize k0_pay3 (F := Ideal) x g = z
  pointwise

theorem pay5_at (x : Vec Ideal S1024x1024 .f32) (g : Vec Ideal S1x1024 .f32) (w : Vec Ideal S1024x768 .bf16) (hs : Vec Ideal S640x640 .bf16) (r : Fin 1024) (d : Fin 640) :
    k0_pay5 (F := Ideal) x g w hs (ix2 r d) = ∑ k : Fin 640, (k0_pay4 (F := Ideal) x g w (ix2 r ⟨k.val, by omega⟩) * k0_pay4 (F := Ideal) x g w (ix2 r ⟨k.val, by omega⟩)) * hs (ix2 k d) := by
  unfold k0_pay5
  generalize k0_pay4 (F := Ideal) x g w = z
  pointwise

theorem pay7_at (z : FVec Ideal S1024x768 .f32) (ss : FVec Ideal S1024x640 .f32) (gn : Vec Ideal S1x640 .f32) (r : Fin 1024) (d : Fin 640) :
    k0_pay7 (F := Ideal) z ss gn (ix2 r d) = z (ix2 r ⟨d.val, by omega⟩) * Ideal.rsqrt (ss (ix2 r d) * Ideal.ofBits .f32 0x3C800000#32 + eRms) * gn (ix2 0 d) := by
  pointwise [k0_pay7]

theorem pay9_at (y w : FVec Ideal S1024x640 .f32) (co si : Vec Ideal S1024x128 .f32) (r : Fin 1024) (d : Fin 640) :
    k0_pay9 (F := Ideal) y w co si (ix2 r d) = y (ix2 r d) * co (ix2 r ⟨d.val % 128, by omega⟩) + w (ix2 r d) * si (ix2 r ⟨d.val % 128, by omega⟩) := by
  have e : ∀ f : Fin 128 → EReal, (if h : d.val < 128 then f ⟨d.val, h⟩ else if h : d.val - 128 < 128 then f ⟨d.val - 128, h⟩ else
      if h : d.val - 128 - 128 < 128 then f ⟨d.val - 128 - 128, h⟩ else if h : d.val - 128 - 128 - 128 < 128 then f ⟨d.val - 128 - 128 - 128, h⟩ else
      f ⟨d.val - 128 - 128 - 128 - 128, by omega⟩) = f ⟨d.val % 128, by omega⟩ := by
    intro f
    split_ifs <;> (congr 1; apply Fin.ext; dsimp only; omega)
  rw [← e (fun k => co (ix2 r k)), ← e (fun k => si (ix2 r k))]
  pointwise [k0_pay9]

/-- The bit that says whether a lane is among the sixteen first ones of its half. -/
def laneBit (x : BitVec 32) : BitVec 1 :=
  IntOp.cmpi .slt (Scalar.select (IntOp.andi
      (IntOp.xori (IntOp.cmpi .slt (IntOp.remsi .vector x (Scalar.select (Scalar.cmpi .eq 32#32 0#32) 1#32 32#32)) 0#32)
        (Scalar.cmpi .slt (Scalar.select (Scalar.cmpi .eq 32#32 0#32) 1#32 32#32) 0#32))
      (IntOp.cmpi .ne (IntOp.remsi .vector x (Scalar.select (Scalar.cmpi .eq 32#32 0#32) 1#32 32#32)) 0#32))
    (IntOp.addi (IntOp.remsi .vector x (Scalar.select (Scalar.cmpi .eq 32#32 0#32) 1#32 32#32)) (Scalar.select (Scalar.cmpi .eq 32#32 0#32) 1#32 32#32))
    (IntOp.remsi .vector x (Scalar.select (Scalar.cmpi .eq 32#32 0#32) 1#32 32#32))) 16#32

theorem lane_bit : ∀ d : Fin 640, laneBit (BitVec.ofNat 32 d.val) = if d.val % 32 < 16 then 1#1 else 0#1 := by
  decide +kernel

theorem pay8_at (z : FVec Ideal S1024x768 .f32) (ss : FVec Ideal S1024x640 .f32) (gn : Vec Ideal S1x640 .f32) (r : Fin 1024) (d : Fin 640) :
    k0_pay8 (F := Ideal) z ss gn (ix2 r d) = if d.val % 32 < 16 then k0_pay7 (F := Ideal) z ss gn (ix2 r ⟨(d.val + 16) % 640, by omega⟩)
      else k0_pay7 (F := Ideal) z ss gn (ix2 r ⟨(d.val + 624) % 640, by omega⟩) := by
  unfold k0_pay8
  generalize k0_pay7 (F := Ideal) z ss gn = y
  have e := lane_bit d
  unfold laneBit at e
  have e1 : (d.val + 640 - 624) % 640 = (d.val + 16) % 640 := by omega
  have e2 : (d.val + 640 - 16) % 640 = (d.val + 624) % 640 := by omega
  pointwise
  simp only [e, e1, e2]
  by_cases h : d.val % 32 < 16
  · simp only [h, if_true]; rfl
  · simp only [h, if_false]; rfl

theorem pay68_at (z : FVec Ideal S1024x768 .f32) (c : Fin 128) (s : Fin 1024) :
    k0_pay68 (F := Ideal) z (ix2 c s) = z (ix2 s ⟨640 + c.val, by omega⟩) := by
  pointwise [k0_pay68]

theorem pay70_at (z : FVec Ideal S1024x768 .f32) (c : Fin 64) (s : Fin 1024) :
    k0_pay70 (F := Ideal) z (ix4 0 0 c s) = z (ix2 s ⟨640 + c.val, by omega⟩) := by
  pointwise [k0_pay70, k0_pay68]

theorem pay72_at (z : FVec Ideal S1024x768 .f32) (c : Fin 64) (s : Fin 1024) :
    k0_pay1 (F := Ideal) (k0_pay72 z) (ix4 0 0 c s) = z (ix2 s ⟨704 + c.val, by omega⟩) := by
  have e : (⟨704 + c.val, by omega⟩ : Fin 768) = ⟨640 + (64 + c.val), by omega⟩ := Fin.ext (by dsimp only; omega)
  rw [e]
  pointwise [k0_pay1, k0_pay72, k0_pay68]

theorem pay64_at (R : FVec Ideal S1024x640 .f32) (s : Fin 1024) (d : Fin 128) :
    k0_pay64 (F := Ideal) (k0_pay63 R) (ix3 0 s d) = R (ix2 s ⟨512 + d.val, by omega⟩) := by
  pointwise [k0_pay64, k0_pay63]

theorem pay2_at (c : Fin 16) (s : Fin 1024) : k0_pay2 (F := Ideal) k0_pay69 (ix4 0 0 c s) = FloatOps.ofBits (F := Ideal) .bf16 0x3F80#16 := by
  pointwise [k0_pay2, k0_pay69]

theorem pay71_at (c : Fin 16) (s : Fin 1024) : k0_pay71 (F := Ideal) (ix4 0 0 c s) = FloatOps.ofBits (F := Ideal) .bf16 0x3F80#16 := by
  pointwise [k0_pay71, k0_pay69]

theorem pay65_at (K : FVec Ideal S1024x128 .bf16) (hs : Vec Ideal S128x128 .bf16) (e : Fin 8) (d : Fin 128) :
    k0_pay65 (F := Ideal) K hs (ix2 e d) = (Finset.univ : Finset (Fin 1024)).sup fun s => ∑ k : Fin 128, (K (ix2 s k) * K (ix2 s k)) * hs (ix2 k d) := by
  unfold Finset.sup
  rw [← bot_word]
  pointwise [k0_pay65]

theorem pay66_at (K : FVec Ideal S1024x128 .bf16) (hs : Vec Ideal S128x128 .bf16) (e : Fin 8) (d : Fin 128) :
    k0_pay66 (F := Ideal) K hs (ix3 0 e d) = k0_pay65 (F := Ideal) K hs (ix2 e d) := by
  unfold k0_pay66
  generalize k0_pay65 (F := Ideal) K hs = z
  pointwise

theorem pay67_at (K : FVec Ideal S1024x128 .bf16) (hs : Vec Ideal S128x128 .bf16) (p : Vec Ideal S1x8x128 .f32) (e : Fin 8) (d : Fin 128) :
    k0_pay67 (F := Ideal) K hs p (ix3 0 e d) = max (p (ix3 0 e d)) (k0_pay65 (F := Ideal) K hs (ix2 e d)) := by
  unfold k0_pay67
  generalize k0_pay65 (F := Ideal) K hs = z
  pointwise

end Cert.InProjIdeal.Val

end
-- ==== Proof.InRef.lean ====
/- The plain input projection, lane by lane. -/
module

public import proofs.«01_k».proof.Proof.InSpec
public import proofs.«01_k».proof.Proof.Gen.InProjRefIdeal.Read
public import Idealize.ShloMosaic.Lib.Pointwise

@[expose] public section

set_option maxRecDepth 16384

noncomputable section

namespace Cert.InProjRefIdeal.Val

open Cert.InProjRefIdeal Cert.InProjRefIdeal.Gen Cert.InProjRefIdeal.Value Cert.InProjRefIdeal.Read Idealize.ShloMosaic Idealize.ShloMosaic.TcCoe Cert.Mix Cert.In

variable (x0 : Vec Ideal S32x2048x1024 .f32) (x1 : Vec Ideal S1x1024 .f32) (x2 : Vec Ideal S1x1024x2688 .f32) (x3 x4 : Vec Ideal S1x64 .f32)

/-- The normalised token. -/
def tokn (b : Fin 32) (s : Fin 2048) : Fin 1024 → EReal := rms (fun k => x0 (ix3 b s k)) (fun k => x1 (ix2 0 k))

/-- One column of the projection of a token. -/
def zz (b : Fin 32) (s : Fin 2048) (j : Fin 2688) : EReal := proj (tokn x0 x1 b s) (fun k => x2 (ix3 0 k j))

/-- The cosine and the sine of the angle that turns one lane: the first half of a head turns by the token's row, the second by its column. -/
def co (s : Fin 2048) (c : Fin 64) : EReal :=
  if c.val < 32 then val_main_v62 (F := Ideal) (ix2 s ⟨c.val % 16, by omega⟩) else val_main_v80 (F := Ideal) (ix2 s ⟨c.val % 16, by omega⟩)
def si (s : Fin 2048) (c : Fin 64) : EReal :=
  if c.val < 32 then val_main_v64 (F := Ideal) (ix2 s ⟨c.val % 16, by omega⟩) else val_main_v82 (F := Ideal) (ix2 s ⟨c.val % 16, by omega⟩)

/-- One lane of a query's head and of a key's head, turned. -/
def eq (b : Fin 32) (s : Fin 2048) (h : Fin 8) (c : Fin 64) : EReal :=
  rot (nrm (fun k => zz x0 x1 x2 b s ⟨1920 + 64 * h.val + k.val, by omega⟩) (fun k => x3 (ix2 0 k))) (co s) (si s) c
def ek (b : Fin 32) (s : Fin 2048) (h : Fin 2) (c : Fin 64) : EReal :=
  rot (nrm (fun k => zz x0 x1 x2 b s ⟨2432 + 64 * h.val + k.val, by omega⟩) (fun k => x4 (ix2 0 k))) (co s) (si s) c

theorem v13_at (b : Fin 32) (s : Fin 2048) (k : Fin 1024) : val_main_v13 (F := Ideal) x0 x1 (ix3 b s k) = tokn x0 x1 b s k := by
  unfold tokn rms
  pointwise [val_main_v13, val_main_v12, val_main_v11, val_main_v10, val_main_v9, val_main_v8, val_main_v7, val_main_v6, val_main_cst_1, val_main_v5, val_main_v4, val_main_cst_0, val_main_v3, val_main_v2, val_main_cst, val_main_v1, val_main_v0]

theorem v15_at (b : Fin 32) (s : Fin 2048) (j : Fin 2688) : val_main_v15 (F := Ideal) x0 x1 x2 (ix3 b s j) = zz x0 x1 x2 b s j := by
  unfold zz proj
  simp only [← v13_at]
  unfold val_main_v15
  generalize val_main_v13 (F := Ideal) x0 x1 = z
  pointwise [val_main_v14]

theorem v46_at (b : Fin 32) (s : Fin 2048) (h : Fin 8) (c : Fin 64) : val_main_v46 (F := Ideal) x0 x1 x2 (ix4 b s h c) = zz x0 x1 x2 b s ⟨1920 + 64 * h.val + c.val, by omega⟩ := by
  rw [← v15_at]
  unfold val_main_v46 val_main_v19 val_main_v18
  generalize val_main_v15 (F := Ideal) x0 x1 x2 = z
  refine Eq.trans ?_ (congrArg (fun j => z (ix3 b s j)) (Fin.ext (by dsimp only; omega) : (⟨1920 + (h.val * 64 + c.val), by omega⟩ : Fin 2688) = _))
  pointwise

theorem v98_at (b : Fin 32) (s : Fin 2048) (h : Fin 2) (c : Fin 64) : val_main_v98 (F := Ideal) x0 x1 x2 (ix4 b s h c) = zz x0 x1 x2 b s ⟨2432 + 64 * h.val + c.val, by omega⟩ := by
  rw [← v15_at]
  unfold val_main_v98 val_main_v20 val_main_v18
  generalize val_main_v15 (F := Ideal) x0 x1 x2 = z
  refine Eq.trans ?_ (congrArg (fun j => z (ix3 b s j)) (Fin.ext (by dsimp only; omega) : (⟨1920 + (512 + (h.val * 64 + c.val)), by omega⟩ : Fin 2688) = _))
  pointwise

theorem v60_at (b : Fin 32) (s : Fin 2048) (h : Fin 8) (c : Fin 64) : val_main_v60 (F := Ideal) x0 x1 x2 x3 (ix4 b s h c)
    = nrm (fun k => zz x0 x1 x2 b s ⟨1920 + 64 * h.val + k.val, by omega⟩) (fun k => x3 (ix2 0 k)) c := by
  simp only [← v46_at]
  unfold val_main_v60 val_main_v57 val_main_v56 val_main_v55 val_main_v54 val_main_v52 val_main_v50 val_main_v49 val_main_v48 nrm
  generalize val_main_v46 (F := Ideal) x0 x1 x2 = z
  pointwise [val_main_v59, val_main_v58, val_main_v53, val_main_cst_6, val_main_v51, val_main_cst_5, val_main_cst_4, val_main_v47]

theorem v112_at (b : Fin 32) (s : Fin 2048) (h : Fin 2) (c : Fin 64) : val_main_v112 (F := Ideal) x0 x1 x2 x4 (ix4 b s h c)
    = nrm (fun k => zz x0 x1 x2 b s ⟨2432 + 64 * h.val + k.val, by omega⟩) (fun k => x4 (ix2 0 k)) c := by
  simp only [← v98_at]
  unfold val_main_v112 val_main_v109 val_main_v108 val_main_v107 val_main_v106 val_main_v104 val_main_v102 val_main_v101 val_main_v100 nrm
  generalize val_main_v98 (F := Ideal) x0 x1 x2 = z
  pointwise [val_main_v111, val_main_v110, val_main_v105, val_main_cst_9, val_main_v103, val_main_cst_8, val_main_cst_7, val_main_v99]

theorem v78_at (b : Fin 32) (s : Fin 2048) (h : Fin 8) (c : Fin 32) : val_main_v78 (F := Ideal) x0 x1 x2 x3 (ix4 b s h c)
    = rot (fun k => val_main_v60 (F := Ideal) x0 x1 x2 x3 (ix4 b s h k)) (co s) (si s) ⟨c.val, by omega⟩ := by
  unfold val_main_v78 val_main_v77 val_main_v76 val_main_v75 val_main_v74 val_main_v73 val_main_v72 val_main_v71 val_main_v70 val_main_v69 val_main_v68 val_main_v67 val_main_v66 val_main_v65 val_main_v63 val_main_v61 rot co si
  generalize val_main_v60 (F := Ideal) x0 x1 x2 x3 = z
  generalize val_main_v62 (F := Ideal) = p
  generalize val_main_v64 (F := Ideal) = q
  generalize val_main_v80 (F := Ideal) = u
  generalize val_main_v82 (F := Ideal) = v
  pointwise
  by_cases h1 : c.val < 16
  · have h2 : c.val % 32 < 16 := by omega
    simp only [h1, h2, dite_true, show c.val % 16 = c.val by omega, show 16 + c.val = c.val + 16 by omega]
  · have h2 : ¬ c.val % 32 < 16 := by omega
    simp only [h1, h2, dite_false, show c.val % 16 = c.val - 16 by omega, show 16 + (c.val - 16) = c.val by omega]

theorem v96_at (b : Fin 32) (s : Fin 2048) (h : Fin 8) (c : Fin 32) : val_main_v96 (F := Ideal) x0 x1 x2 x3 (ix4 b s h c)
    = rot (fun k => val_main_v60 (F := Ideal) x0 x1 x2 x3 (ix4 b s h k)) (co s) (si s) ⟨32 + c.val, by omega⟩ := by
  unfold val_main_v96 val_main_v95 val_main_v94 val_main_v93 val_main_v92 val_main_v91 val_main_v90 val_main_v89 val_main_v88 val_main_v87 val_main_v86 val_main_v85 val_main_v84 val_main_v83 val_main_v81 val_main_v79 rot co si
  generalize val_main_v60 (F := Ideal) x0 x1 x2 x3 = z
  generalize val_main_v62 (F := Ideal) = p
  generalize val_main_v64 (F := Ideal) = q
  generalize val_main_v80 (F := Ideal) = u
  generalize val_main_v82 (F := Ideal) = v
  pointwise
  by_cases h1 : c.val < 16
  · have h2 : (32 + c.val) % 32 < 16 := by omega
    simp only [h1, h2, dite_true, show (32 + c.val) % 16 = c.val by omega, show 32 + (16 + c.val) = 32 + c.val + 16 by omega]
  · have h2 : ¬ (32 + c.val) % 32 < 16 := by omega
    simp only [h1, h2, dite_false, show (32 + c.val) % 16 = c.val - 16 by omega, show 32 + (16 + (c.val - 16)) = 32 + c.val by omega,
      show 32 + (c.val - 16) = 32 + c.val - 16 by omega]

/-- The keys turn by the same angles. -/
theorem v114_eq : val_main_v114 (F := Ideal) = val_main_v62 := rfl
theorem v116_eq : val_main_v116 (F := Ideal) = val_main_v64 := rfl
theorem v132_eq : val_main_v132 (F := Ideal) = val_main_v80 := rfl
theorem v134_eq : val_main_v134 (F := Ideal) = val_main_v82 := rfl

theorem v130_at (b : Fin 32) (s : Fin 2048) (h : Fin 2) (c : Fin 32) : val_main_v130 (F := Ideal) x0 x1 x2 x4 (ix4 b s h c)
    = rot (fun k => val_main_v112 (F := Ideal) x0 x1 x2 x4 (ix4 b s h k)) (co s) (si s) ⟨c.val, by omega⟩ := by
  unfold val_main_v130 val_main_v129 val_main_v128 val_main_v127 val_main_v126 val_main_v125 val_main_v124 val_main_v123 val_main_v122 val_main_v121 val_main_v120 val_main_v119 val_main_v118 val_main_v117 val_main_v115 val_main_v113 rot co si
  rw [v114_eq, v116_eq]
  generalize val_main_v112 (F := Ideal) x0 x1 x2 x4 = z
  generalize val_main_v62 (F := Ideal) = p
  generalize val_main_v64 (F := Ideal) = q
  generalize val_main_v80 (F := Ideal) = u
  generalize val_main_v82 (F := Ideal) = v
  pointwise
  by_cases h1 : c.val < 16
  · have h2 : c.val % 32 < 16 := by omega
    simp only [h1, h2, dite_true, show c.val % 16 = c.val by omega, show 16 + c.val = c.val + 16 by omega]
  · have h2 : ¬ c.val % 32 < 16 := by omega
    simp only [h1, h2, dite_false, show c.val % 16 = c.val - 16 by omega, show 16 + (c.val - 16) = c.val by omega]

theorem v148_at (b : Fin 32) (s : Fin 2048) (h : Fin 2) (c : Fin 32) : val_main_v148 (F := Ideal) x0 x1 x2 x4 (ix4 b s h c)
    = rot (fun k => val_main_v112 (F := Ideal) x0 x1 x2 x4 (ix4 b s h k)) (co s) (si s) ⟨32 + c.val, by omega⟩ := by
  unfold val_main_v148 val_main_v147 val_main_v146 val_main_v145 val_main_v144 val_main_v143 val_main_v142 val_main_v141 val_main_v140 val_main_v139 val_main_v138 val_main_v137 val_main_v136 val_main_v135 val_main_v133 val_main_v131 rot co si
  rw [v132_eq, v134_eq]
  generalize val_main_v112 (F := Ideal) x0 x1 x2 x4 = z
  generalize val_main_v62 (F := Ideal) = p
  generalize val_main_v64 (F := Ideal) = q
  generalize val_main_v80 (F := Ideal) = u
  generalize val_main_v82 (F := Ideal) = v
  pointwise
  by_cases h1 : c.val < 16
  · have h2 : (32 + c.val) % 32 < 16 := by omega
    simp only [h1, h2, dite_true, show (32 + c.val) % 16 = c.val by omega, show 32 + (16 + c.val) = 32 + c.val + 16 by omega]
  · have h2 : ¬ (32 + c.val) % 32 < 16 := by omega
    simp only [h1, h2, dite_false, show (32 + c.val) % 16 = c.val - 16 by omega, show 32 + (16 + (c.val - 16)) = 32 + c.val by omega,
      show 32 + (c.val - 16) = 32 + c.val - 16 by omega]

theorem v97_at (b : Fin 32) (s : Fin 2048) (h : Fin 8) (c : Fin 64) : val_main_v97 (F := Ideal) x0 x1 x2 x3 (ix4 b s h c) = eq x0 x1 x2 x3 b s h c := by
  unfold eq
  have l := v78_at x0 x1 x2 x3 b s h
  have r := v96_at x0 x1 x2 x3 b s h
  simp only [v60_at] at l r
  unfold val_main_v97
  generalize val_main_v78 (F := Ideal) x0 x1 x2 x3 = u at *
  generalize val_main_v96 (F := Ideal) x0 x1 x2 x3 = v at *
  by_cases h1 : c.val < 32
  · refine Eq.trans ?_ (l ⟨c.val, h1⟩)
    pointwise
    try simp only [h1, dite_true]
  · refine Eq.trans ?_ ((r ⟨c.val - 32, by omega⟩).trans (congrArg (rot _ _ _) (Fin.ext (by show 32 + (c.val - 32) = c.val; omega))))
    pointwise
    try simp only [h1, dite_false]

theorem v149_at (b : Fin 32) (s : Fin 2048) (h : Fin 2) (c : Fin 64) : val_main_v149 (F := Ideal) x0 x1 x2 x4 (ix4 b s h c) = ek x0 x1 x2 x4 b s h c := by
  unfold ek
  have l := v130_at x0 x1 x2 x4 b s h
  have r := v148_at x0 x1 x2 x4 b s h
  simp only [v112_at] at l r
  unfold val_main_v149
  generalize val_main_v130 (F := Ideal) x0 x1 x2 x4 = u at *
  generalize val_main_v148 (F := Ideal) x0 x1 x2 x4 = v at *
  by_cases h1 : c.val < 32
  · refine Eq.trans ?_ (l ⟨c.val, h1⟩)
    pointwise
    try simp only [h1, dite_true]
  · refine Eq.trans ?_ ((r ⟨c.val - 32, by omega⟩).trans (congrArg (rot _ _ _) (Fin.ext (by show 32 + (c.val - 32) = c.val; omega))))
    pointwise
    try simp only [h1, dite_false]

/-- The token and the head of a column of the transposed queries. -/
def qs (col : Fin 8192) : Fin 2048 := ⟨512 * (col.val / 2048) + col.val % 512, by omega⟩
def qh (v : Fin 2) (col : Fin 8192) : Fin 8 := ⟨4 * v.val + col.val / 512 % 4, by omega⟩

theorem v154_at (b : Fin 32) (v : Fin 2) (c : Fin 64) (col : Fin 8192) : val_main_v154 (F := Ideal) x0 x1 x2 x3 (ix4 b v c col)
    = eq x0 x1 x2 x3 b (qs col) (qh v col) c * sc := by
  rw [← v97_at]
  unfold val_main_v154 val_main_v153 val_main_v152 val_main_v151 qs qh
  generalize val_main_v97 (F := Ideal) x0 x1 x2 x3 = z
  pointwise [val_main_v150, val_main_cst_10]
  simp only [Nat.mul_comm]

theorem v169_at (b : Fin 32) (v : Fin 2) (c : Fin 64) (col : Fin 8192) : val_main_v169 (F := Ideal) x0 x1 x2 x3 (ix4 b v c col)
    = eq x0 x1 x2 x3 b (qs col) (qh v col) c * sc := by
  rw [← v154_at]
  unfold val_main_v169
  generalize val_main_v154 (F := Ideal) x0 x1 x2 x3 = z
  pointwise

theorem v171_at (b : Fin 32) (s : Fin 2048) (d : Fin 128) : val_main_v171 (F := Ideal) x0 x1 x2 x4 (ix3 b s d)
    = ek x0 x1 x2 x4 b s ⟨d.val / 64, by omega⟩ ⟨d.val % 64, by omega⟩ := by
  rw [← v149_at]
  unfold val_main_v171 val_main_v170
  generalize val_main_v149 (F := Ideal) x0 x1 x2 x4 = z
  pointwise

theorem v172_at (b : Fin 32) (v : Fin 2) (c : Fin 80) (s : Fin 2048) : val_main_v172 (F := Ideal) x0 x1 x2 (ix4 b v c s)
    = if h : c.val < 64 then zz x0 x1 x2 b s ⟨2560 + 64 * v.val + c.val, by omega⟩ else FloatOps.ofBits (F := Ideal) .f32 0x3F800000#32 := by
  have e : ∀ h : c.val < 64, (⟨2560 + 64 * v.val + c.val, by omega⟩ : Fin 2688) = ⟨1920 + (640 + (v.val * 64 + c.val)), by omega⟩ := fun h => Fin.ext (by dsimp only; omega)
  simp only [← v15_at]
  unfold val_main_v172 val_main_v168 val_main_v166 val_main_v165 val_main_v21 val_main_v18
  generalize val_main_v15 (F := Ideal) x0 x1 x2 = z
  pointwise [val_main_v167, val_main_cst_14]
  by_cases h : c.val < 64
  · simp only [h, dite_true]
    exact congrArg (fun j => z (ix3 b s j)) (e h).symm
  · simp only [h, dite_false]

theorem v17_at (n : Fin 65536) (j : Fin 1920) : val_main_v17 (F := Ideal) x0 x1 x2 (ix2 n j)
    = zz x0 x1 x2 ⟨n.val / 2048, by omega⟩ ⟨n.val % 2048, by omega⟩ ⟨j.val, by omega⟩ := by
  rw [← v15_at]
  unfold val_main_v17 val_main_v16
  generalize val_main_v15 (F := Ideal) x0 x1 x2 = z
  pointwise

end Cert.InProjRefIdeal.Val

end
-- ==== Proof.InHost.lean ====
/- The operand blocks of the input projection, read off the program's arguments. -/
module

public import proofs.«01_k».proof.Proof.InPay
public import proofs.«01_k».proof.Proof.InRef
public import proofs.«01_k».proof.Proof.Gen.InProjIdeal.Value
public import Idealize.ShloMosaic.Lib.Pipeline.ValueKit
public import Idealize.ShloMosaic.Lib.Claim

@[expose] public section

set_option maxRecDepth 16384

noncomputable section

namespace Cert.InProjIdeal.Val

open Cert.InProjIdeal Cert.InProjIdeal.Gen Idealize.ShloMosaic Idealize.ShloMosaic.TcCoe Cert.Mix Cert.In

/-- The block index of every window at every point of the grid. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val % 2, 0] ∧ win0_6.index t = ![t.val % 2, 0] ∧ win0_7.index t = ![0, 0]
    ∧ win0_8.index t = ![t.val, 0] ∧ win0_9.index t = ![t.val / 2, 0, 0, t.val % 2] ∧ win0_10.index t = ![t.val / 2, t.val % 2, 0]
    ∧ win0_11.index t = ![t.val / 2, 0, 0, t.val % 2] ∧ win0_12.index t = ![t.val / 2, 0, 0, t.val % 2] ∧ win0_13.index t = ![t.val / 2, 0, 0] :=
  (by decide +kernel : ∀ t : Fin grid0.N, _)

variable (m : (ℓ : Loc nD τ sig) → Buf (Elt Ideal) ℓ)

abbrev X0 (c : Dev nD) : Vec Ideal S32x2048x1024 .f32 := m ((c : Thread nD τ).loc main_arg0)
abbrev X1 (c : Dev nD) : Vec Ideal S1x1024 .f32 := m ((c : Thread nD τ).loc main_arg1)
abbrev X2 (c : Dev nD) : Vec Ideal S1x1024x2688 .f32 := m ((c : Thread nD τ).loc main_arg2)
abbrev X3 (c : Dev nD) : Vec Ideal S1x64 .f32 := m ((c : Thread nD τ).loc main_arg3)
abbrev X4 (c : Dev nD) : Vec Ideal S1x64 .f32 := m ((c : Thread nD τ).loc main_arg4)

abbrev B0 (c : Dev nD) (t : Fin cfg0.N) : Vec Ideal S1024x1024 .f32 := iblk m c 0 t
abbrev B1 (c : Dev nD) (t : Fin cfg0.N) : Vec Ideal S1x1024 .f32 := iblk m c 1 t
abbrev B2 (c : Dev nD) (t : Fin cfg0.N) : Vec Ideal S1024x1920 .bf16 := iblk m c 2 t
abbrev B3 (c : Dev nD) (t : Fin cfg0.N) : Vec Ideal S1024x768 .bf16 := iblk m c 3 t
abbrev B4 (c : Dev nD) (t : Fin cfg0.N) : Vec Ideal S1x640 .f32 := iblk m c 4 t
abbrev B5 (c : Dev nD) (t : Fin cfg0.N) : Vec Ideal S1024x128 .f32 := iblk m c 5 t
abbrev B6 (c : Dev nD) (t : Fin cfg0.N) : Vec Ideal S1024x128 .f32 := iblk m c 6 t
abbrev B7 (c : Dev nD) (t : Fin cfg0.N) : Vec Ideal S640x640 .bf16 := iblk m c 7 t

theorem lt_N (t : Fin cfg0.N) : t.val < 64 := lt_of_lt_of_eq t.isLt N_0

/-- The sequence and the place in it of row `r` of a point's block. -/
def sq (t : Fin cfg0.N) : Fin 32 := ⟨t.val / 2, by have := lt_N t; omega⟩
def pl (t : Fin cfg0.N) (r : Fin 1024) : Fin 2048 := ⟨1024 * (t.val % 2) + r.val, by omega⟩
def tk (t : Fin cfg0.N) (r : Fin 1024) : Fin 65536 := ⟨1024 * t.val + r.val, by have := lt_N t; omega⟩
theorem pl_val (t : Fin cfg0.N) (r : Fin 1024) : ((pl t r : Fin 2048) : ℕ) = 1024 * (t.val % 2) + r.val := rfl
theorem tk_val (t : Fin cfg0.N) (r : Fin 1024) : ((tk t r : Fin 65536) : ℕ) = 1024 * t.val + r.val := rfl

/-- The quotient by 64, rounded down. -/
def quot (S : Shape) (b : S_.BroadcastsInDim S ![]) (x : IVec S 32) : IVec S 32 :=
  let n : IVec S_ 32 := constantI S_ 32 64#32
  let q : IVec S 32 := Host.divsi x (broadcastInDim S ![] b n)
  select (andi (cmpi .ne (signi x) (broadcastInDim S ![] b (signi n)))
      (cmpi .ne (Host.remsi x (broadcastInDim S ![] b n)) (broadcastInDim S ![] b (constantI S_ 32 0#32))))
    (subi q (broadcastInDim S ![] b (constantI S_ 32 1#32))) q

/-- The remainder by 64, of the sign of 64. -/
def remd (S : Shape) (b : S_.BroadcastsInDim S ![]) (x : IVec S 32) : IVec S 32 :=
  let n : IVec S_ 32 := select (cmpi .eq (constantI S_ 32 64#32) (constantI S_ 32 0#32)) (constantI S_ 32 1#32) (constantI S_ 32 64#32)
  let r : IVec S 32 := Host.remsi x (broadcastInDim S ![] b n)
  select (andi (cmpi .ne (cmpi .slt r (broadcastInDim S ![] b (constantI S_ 32 0#32))) (broadcastInDim S ![] b (cmpi .slt n (constantI S_ 32 0#32))))
      (cmpi .ne r (broadcastInDim S ![] b (constantI S_ 32 0#32))))
    (addi r (broadcastInDim S ![] b n)) r

/-- One where two lanes belong to one head, zero elsewhere. -/
def headMat : FVec Ideal S640x640 .bf16 :=
  truncf (F := Ideal) .bf16 (select (cmpi .eq (quot S640x640 bcast_S_S640x640 (iotaInDim S640x640 32 0)) (quot S640x640 bcast_S_S640x640 (iotaInDim S640x640 32 1))) (broadcastInDim S640x640 ![] bcast_S_S640x640 (constant S_ .f32 0x3F800000#32))
    (broadcastInDim S640x640 ![] bcast_S_S640x640 (constant S_ .f32 0x00000000#32)) : FVec Ideal S640x640 .f32) bitsLt_bf16_f32

/-- The row and the column of every place, as numbers. -/
def rowK : FVec Ideal S2048 .f32 := sitofp (F := Ideal) .f32 (quot S2048 bcast_S_S2048 (iotaInDim S2048 32 0))
def colK : FVec Ideal S2048 .f32 := sitofp (F := Ideal) .f32 (remd S2048 bcast_S_S2048 (iotaInDim S2048 32 0))

/-- The sixteen frequencies, and the angles of a column of numbers. -/
def invK : FVec Ideal S16 .f32 :=
  Host.powf (broadcastInDim S16 ![] bcast_S_S16 (constant S_ .f32 0x461C4000#32)) (Host.divf (Host.negf (sitofp (F := Ideal) .f32 (iotaInDim S16 32 0))) (broadcastInDim S16 ![] bcast_S_S16 (constant S_ .f32 0x41800000#32)))
def angK (n : FVec Ideal S2048 .f32) : FVec Ideal S2048x16 .f32 :=
  mulf (broadcastInDim S2048x16 ![0, 1] bcast_S2048x1_S2048x16_0_1 (broadcastInDim S2048x1 ![0] bcast_S2048_S2048x1_0 n)) (broadcastInDim S2048x16 ![0, 1] bcast_S1x16_S2048x16_0_1 (broadcastInDim S1x16 ![1] bcast_S16_S1x16_1 invK))

/-- Four tables of sixteen lanes side by side, for both heads of a pair. -/
def four (a b d e : FVec Ideal S2048x16 .f32) : FVec Ideal S2048x128 .f32 :=
  shapeCast S2048x128 (broadcastInDim S1x2048x2x64 ![0, 1, 2, 3] bcast_S1x2048x1x64_S1x2048x2x64_0_1_2_3 (shapeCast S1x2048x1x64
    (concatenate S2048x64 1 [⟨S2048x16, a⟩, ⟨S2048x16, b⟩, ⟨S2048x16, d⟩, ⟨S2048x16, e⟩] concatenates_S2048x16_S2048x16_S2048x16_S2048x16_S2048x64_d1) shapeCasts_S2048x64_S1x2048x1x64)) shapeCasts_S1x2048x2x64_S2048x128

theorem V1 (c : Dev nD) : (V m c main_v1 : FVec Ideal S1x1024 .f32) = broadcastInDim S1x1024 ![1] bcast_S1024_S1x1024_1 (shapeCast S1024 (X1 m c) shapeCasts_S1x1024_S1024) := by
  simp only [V, hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_results
  try rfl

theorem V4 (c : Dev nD) : (V m c main_v4 : FVec Ideal S1024x1920 .bf16) = truncf (F := Ideal) .bf16 (extractStridedSlice S1024x1920 ![0, 0] (shapeCast S1024x2688 (X2 m c) shapeCasts_S1x1024x2688_S1024x2688) slices_S1024x2688_S1024x1920_0_0) bitsLt_bf16_f32 := by
  simp only [V, hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_results
  try rfl

theorem V7 (c : Dev nD) : (V m c main_v7 : FVec Ideal S1024x768 .bf16) = truncf (F := Ideal) .bf16 (extractStridedSlice S1024x768 ![0, 1920] (shapeCast S1024x2688 (X2 m c) shapeCasts_S1x1024x2688_S1024x2688) slices_S1024x2688_S1024x768_0_1920) bitsLt_bf16_f32 := by
  simp only [V, hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_results
  try rfl

theorem V19 (c : Dev nD) : (V m c main_v19 : FVec Ideal S1x640 .f32) = broadcastInDim S1x640 ![1] bcast_S640_S1x640_1 (concatenate S640 0
    [⟨S512, shapeCast S512 (broadcastInDim S8x64 ![0, 1] bcast_S1x64_S8x64_0_1 (shapeCast S1x64 (mulf (shapeCast S64 (X3 m c) shapeCasts_S1x64_S64) (broadcastInDim S64 ![] bcast_S_S64 (constant S_ .f32 0x3E38AA3B#32)) : FVec Ideal S64 .f32) shapeCasts_S64_S1x64)) shapeCasts_S8x64_S512⟩,
     ⟨S128, shapeCast S128 (broadcastInDim S2x64 ![0, 1] bcast_S1x64_S2x64_0_1 (shapeCast S1x64 (shapeCast S64 (X4 m c) shapeCasts_S1x64_S64) shapeCasts_S64_S1x64)) shapeCasts_S2x64_S128⟩] concatenates_S512_S128_S640_d0) := by
  simp only [V, hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_results
  try rfl

theorem V26 (c : Dev nD) : (V m c main_v26 : FVec Ideal S640x640 .bf16) = headMat := by
  simp only [V, hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_results
  try rfl

theorem V62 (c : Dev nD) : (V m c main_v62 : FVec Ideal S2048x128 .f32) = four (Host.cos (angK rowK)) (Host.cos (angK rowK)) (Host.cos (angK colK)) (Host.cos (angK colK)) := by
  simp only [V, hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_results
  try rfl

theorem V65 (c : Dev nD) : (V m c main_v65 : FVec Ideal S2048x128 .f32) = four (Host.negf (Host.sin (angK rowK))) (Host.sin (angK rowK)) (Host.negf (Host.sin (angK colK))) (Host.sin (angK colK)) := by
  simp only [V, hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_results
  try rfl

theorem V66 (c : Dev nD) : (V m c main_v66 : FVec Ideal S65536x1024 .f32) = shapeCast S65536x1024 (X0 m c) shapeCasts_S32x2048x1024_S65536x1024 := by
  simp only [V, hostOps0, hostOps0_1, hostOps0_2, hostOps0_3, hostOps0_4, hostOps0_5, hostOps0_6, hostOps0_7, hostOps0_8, hostOps0_9, hostOps0_10, List.flatten_cons, List.flatten_nil, List.append_nil,
    List.cons_append, List.nil_append]
  after_results
  try rfl

/-- The quotient rounded down, and the remainder, on one word. -/
def floorBy (x : BitVec 32) : BitVec 32 :=
  let sx : BitVec 32 := if x = 0 then 0 else if x.msb then -1 else 1
  let s64 : BitVec 32 := if (64#32) = 0 then 0 else if (64#32).msb then -1 else 1
  if IntOp.andi (IntOp.cmpi .ne sx s64) (IntOp.cmpi .ne (IntOp.remsi .host x 64#32) 0#32) = 1 then
    IntOp.subi (IntOp.divsi .host x 64#32) 1#32 else IntOp.divsi .host x 64#32

def remBy (x : BitVec 32) : BitVec 32 :=
  let n : BitVec 32 := Scalar.select (IntOp.cmpi .eq 64#32 0#32) 1#32 64#32
  let r : BitVec 32 := IntOp.remsi .host x n
  if IntOp.andi (IntOp.cmpi .ne (IntOp.cmpi .slt r 0#32) (IntOp.cmpi .slt n 0#32)) (IntOp.cmpi .ne r 0#32) = 1 then IntOp.addi r n else r

theorem floorBy_eq : ∀ k : Fin 2048, floorBy (BitVec.ofNat 32 k.val) = BitVec.ofNat 32 (k.val / 64) := by
  decide +kernel

theorem remBy_eq : ∀ k : Fin 2048, remBy (BitVec.ofNat 32 k.val) = BitVec.ofNat 32 (k.val % 64) := by
  decide +kernel

theorem sameHead : ∀ k d : Fin 10, (BitVec.ofNat 32 k.val == BitVec.ofNat 32 d.val) = decide (k = d) := by
  decide +kernel

theorem headMat_at (k d : Fin 640) : headMat (ix2 k d) = if k.val / 64 = d.val / 64 then (1 : EReal) else 0 := by
  have h : headMat (ix2 k d) = if IntOp.cmpi .eq (floorBy (BitVec.ofNat 32 k.val)) (floorBy (BitVec.ofNat 32 d.val)) = 1 then
      (FloatOps.ofBits .f32 0x3F800000#32 : Ideal .f32) else (FloatOps.ofBits .f32 0x00000000#32 : Ideal .f32) := rfl
  have f1 := floorBy_eq ⟨k.val, by omega⟩
  have f2 := floorBy_eq ⟨d.val, by omega⟩
  simp only at f1 f2
  rw [h, f1, f2]
  have h8 := sameHead ⟨k.val / 64, by omega⟩ ⟨d.val / 64, by omega⟩
  have h1 : (FloatOps.ofBits .f32 0x3F800000#32 : Ideal .f32) = (1 : EReal) := by
    simp [FloatOps.ofBits, Ideal.ofBits, Ideal.ieee]
    rw [← EReal.coe_mul, ← EReal.coe_one]
    congr 1
    norm_num
  have h0 : (FloatOps.ofBits .f32 0x00000000#32 : Ideal .f32) = (0 : EReal) := by simp [FloatOps.ofBits, Ideal.ofBits, Ideal.ieee]
  rw [h1, h0]
  simp only [IntOp.cmpi, h8, Fin.mk.injEq]
  by_cases e : k.val / 64 = d.val / 64 <;> simp [e]

theorem rowK_at (s : Fin 2048) : rowK (ix1 s) = Cert.InProjRefIdeal.Read.val_main_v25 (F := Ideal) (ix1 s) := by
  have h : rowK (ix1 s) = (FloatOps.sitofp .f32 (floorBy (BitVec.ofNat 32 s.val)) : Ideal .f32) := rfl
  rw [h, floorBy_eq]
  pointwise [Cert.InProjRefIdeal.Read.val_main_v25, Cert.InProjRefIdeal.Read.val_main_v24, Cert.InProjRefIdeal.Read.val_main_v23, Cert.InProjRefIdeal.Read.val_main_v22]

theorem rowK_eq : rowK = Cert.InProjRefIdeal.Read.val_main_v25 (F := Ideal) := by
  funext y
  idx_vars y
  exact rowK_at _

theorem colK_at (s : Fin 2048) : colK (ix1 s) = Cert.InProjRefIdeal.Read.val_main_v29 (F := Ideal) (ix1 s) := by
  have h : colK (ix1 s) = (FloatOps.sitofp .f32 (remBy (BitVec.ofNat 32 s.val)) : Ideal .f32) := rfl
  rw [h, remBy_eq]
  pointwise [Cert.InProjRefIdeal.Read.val_main_v29, Cert.InProjRefIdeal.Read.val_main_v28, Cert.InProjRefIdeal.Read.val_main_v27, Cert.InProjRefIdeal.Read.val_main_v26]

theorem colK_eq : colK = Cert.InProjRefIdeal.Read.val_main_v29 (F := Ideal) := by
  funext y
  idx_vars y
  exact colK_at _

theorem cosR : Host.cos (F := Ideal) (angK rowK) = Cert.InProjRefIdeal.Read.val_main_v62 (F := Ideal) := by rw [rowK_eq]; rfl
theorem sinR : Host.sin (F := Ideal) (angK rowK) = Cert.InProjRefIdeal.Read.val_main_v64 (F := Ideal) := by rw [rowK_eq]; rfl
theorem cosC : Host.cos (F := Ideal) (angK colK) = Cert.InProjRefIdeal.Read.val_main_v80 (F := Ideal) := by rw [colK_eq]; rfl
theorem sinC : Host.sin (F := Ideal) (angK colK) = Cert.InProjRefIdeal.Read.val_main_v82 (F := Ideal) := by rw [colK_eq]; rfl

theorem four_at (a b d e : FVec Ideal S2048x16 .f32) (s : Fin 2048) (l : Fin 128) :
    four a b d e (ix2 s l) = if l.val % 64 < 32 then (if l.val % 32 < 16 then a (ix2 s ⟨l.val % 16, by omega⟩) else b (ix2 s ⟨l.val % 16, by omega⟩))
      else (if l.val % 32 < 16 then d (ix2 s ⟨l.val % 16, by omega⟩) else e (ix2 s ⟨l.val % 16, by omega⟩)) := by
  refine Eq.trans (b := if h : l.val % 64 < 16 then a (ix2 s ⟨l.val % 64, h⟩) else if h : l.val % 64 - 16 < 16 then b (ix2 s ⟨l.val % 64 - 16, h⟩)
    else if h : l.val % 64 - 16 - 16 < 16 then d (ix2 s ⟨l.val % 64 - 16 - 16, h⟩) else e (ix2 s ⟨l.val % 64 - 16 - 16 - 16, by omega⟩)) (by pointwise [four]) ?_
  by_cases h1 : l.val % 64 < 16
  · rw [dif_pos h1, if_pos (by omega), if_pos (by omega)]
    exact congrArg (fun j => a (ix2 s j)) (Fin.ext (by dsimp only <;> omega))
  by_cases h2 : l.val % 64 - 16 < 16
  · rw [dif_neg h1, dif_pos h2, if_pos (by omega), if_neg (by omega)]
    exact congrArg (fun j => b (ix2 s j)) (Fin.ext (by dsimp only <;> omega))
  by_cases h3 : l.val % 64 - 16 - 16 < 16
  · rw [dif_neg h1, dif_neg h2, dif_pos h3, if_neg (by omega), if_pos (by omega)]
    exact congrArg (fun j => d (ix2 s j)) (Fin.ext (by dsimp only <;> omega))
  · rw [dif_neg h1, dif_neg h2, dif_neg h3, if_neg (by omega), if_neg (by omega)]
    exact congrArg (fun j => e (ix2 s j)) (Fin.ext (by dsimp only <;> omega))

theorem blk0 (c : Dev nD) (t : Fin cfg0.N) (r k : Fin 1024) : B0 m c t (ix2 r k) = X0 m c (ix3 (sq t) (pl t r) k) := by
  refine Eq.trans (b := (V m c main_v66 : FVec Ideal S65536x1024 .f32) (ix2 (tk t r) k)) ?_ ?_
  · blk_ext [iblk, idx t, tk_val]
  · rw [V66]
    refine Eq.trans (b := X0 m c (ix3 ⟨(tk t r).val / 2048, by have := (tk t r).isLt; omega⟩ ⟨(tk t r).val % 2048, by omega⟩ k)) ?_ ?_
    · pointwise
    · refine congrArg₂ (fun i j => X0 m c (ix3 i j k)) (Fin.ext ?_) (Fin.ext ?_)
      · show (1024 * t.val + r.val) / 2048 = t.val / 2; omega
      · show (1024 * t.val + r.val) % 2048 = 1024 * (t.val % 2) + r.val; omega

theorem blk1 (c : Dev nD) (t : Fin cfg0.N) (k : Fin 1024) : B1 m c t (ix2 0 k) = X1 m c (ix2 0 k) := by
  refine Eq.trans (b := (V m c main_v1 : FVec Ideal S1x1024 .f32) (ix2 0 k)) ?_ ?_
  · blk_ext [iblk, idx t]
  · rw [V1]
    pointwise

theorem blk2 (c : Dev nD) (t : Fin cfg0.N) (k : Fin 1024) (j : Fin 1920) : B2 m c t (ix2 k j) = X2 m c (ix3 0 k ⟨j.val, by omega⟩) := by
  refine Eq.trans (b := (V m c main_v4 : FVec Ideal S1024x1920 .bf16) (ix2 k j)) ?_ ?_
  · blk_ext [iblk, idx t]
  · rw [V4]
    pointwise

theorem blk3 (c : Dev nD) (t : Fin cfg0.N) (k : Fin 1024) (j : Fin 768) : B3 m c t (ix2 k j) = X2 m c (ix3 0 k ⟨1920 + j.val, by omega⟩) := by
  refine Eq.trans (b := (V m c main_v7 : FVec Ideal S1024x768 .bf16) (ix2 k j)) ?_ ?_
  · blk_ext [iblk, idx t]
  · rw [V7]
    pointwise

theorem blk4 (c : Dev nD) (t : Fin cfg0.N) (d : Fin 640) : B4 m c t (ix2 0 d)
    = if d.val < 512 then X3 m c (ix2 0 ⟨d.val % 64, by omega⟩) * sc else X4 m c (ix2 0 ⟨d.val % 64, by omega⟩) := by
  refine Eq.trans (b := (V m c main_v19 : FVec Ideal S1x640 .f32) (ix2 0 d)) ?_ ?_
  · blk_ext [iblk, idx t]
  · rw [V19]
    refine Eq.trans (b := if h : d.val < 512 then X3 m c (ix2 0 ⟨d.val % 64, by omega⟩) * sc else X4 m c (ix2 0 ⟨(d.val - 512) % 64, by omega⟩)) (by pointwise [sc]) ?_
    by_cases h : d.val < 512
    · rw [dif_pos h, if_pos h]
    · rw [dif_neg h, if_neg h]
      exact congrArg (fun j => X4 m c (ix2 0 j)) (Fin.ext (by dsimp only <;> omega))

theorem blk5 (c : Dev nD) (t : Fin cfg0.N) (r : Fin 1024) (l : Fin 128) : B5 m c t (ix2 r l) = Cert.InProjRefIdeal.Val.co (pl t r) ⟨l.val % 64, by omega⟩ := by
  refine Eq.trans (b := (V m c main_v62 : FVec Ideal S2048x128 .f32) (ix2 (pl t r) l)) ?_ ?_
  · blk_ext [iblk, idx t, pl_val]
  · rw [V62, cosR, cosC, four_at]
    unfold Cert.InProjRefIdeal.Val.co
    have e : l.val % 64 % 16 = l.val % 16 := by omega
    simp only [e, ite_self]

theorem blk6 (c : Dev nD) (t : Fin cfg0.N) (r : Fin 1024) (l : Fin 128) : B6 m c t (ix2 r l)
    = if l.val % 32 < 16 then - Cert.InProjRefIdeal.Val.si (pl t r) ⟨l.val % 64, by omega⟩ else Cert.InProjRefIdeal.Val.si (pl t r) ⟨l.val % 64, by omega⟩ := by
  refine Eq.trans (b := (V m c main_v65 : FVec Ideal S2048x128 .f32) (ix2 (pl t r) l)) ?_ ?_
  · blk_ext [iblk, idx t, pl_val]
  · rw [V65, sinR, sinC, four_at]
    unfold Cert.InProjRefIdeal.Val.si
    have e : l.val % 64 % 16 = l.val % 16 := by omega
    simp only [e]
    split_ifs <;> rfl

theorem blk7 (c : Dev nD) (t : Fin cfg0.N) (k d : Fin 640) : B7 m c t (ix2 k d) = if k.val / 64 = d.val / 64 then (1 : EReal) else 0 := by
  refine Eq.trans (b := (V m c main_v26 : FVec Ideal S640x640 .bf16) (ix2 k d)) ?_ ?_
  · blk_ext [iblk, idx t]
  · rw [V26]
    exact headMat_at k d

end Cert.InProjIdeal.Val

end
-- ==== Proof.InRow.lean ====
/- The rows a point of the input projection works on, in terms of the program's arguments. -/
module

public import proofs.«01_k».proof.Proof.InHost

@[expose] public section

set_option maxRecDepth 16384

noncomputable section

namespace Cert.InProjIdeal.Val

open Cert.InProjIdeal Cert.InProjIdeal.Gen Idealize.ShloMosaic Idealize.ShloMosaic.TcCoe Cert.Mix Cert.In
open Cert.InProjRefIdeal.Val (tokn zz co si eq ek)

variable (m : (ℓ : Loc nD τ sig) → Buf (Elt Ideal) ℓ)

theorem row_tok (c : Dev nD) (t : Fin cfg0.N) (r : Fin 1024) : rms (fun k => B0 m c t (ix2 r k)) (fun k => B1 m c t (ix2 0 k)) = tokn (X0 m c) (X1 m c) (sq t) (pl t r) := by
  simp only [blk0, blk1]
  rfl

theorem Zr_at (c : Dev nD) (t : Fin cfg0.N) (r : Fin 1024) (j : Fin 768) : k0_pay4 (F := Ideal) (B0 m c t) (B1 m c t) (B3 m c t) (ix2 r j)
    = zz (X0 m c) (X1 m c) (X2 m c) (sq t) (pl t r) ⟨1920 + j.val, by omega⟩ := by
  refine (pay4_at _ _ _ r j).trans ?_
  rw [row_tok]
  simp only [blk3]
  rfl

theorem ZR_at (c : Dev nD) (t : Fin cfg0.N) (r : Fin 1024) (j : Fin 1920) : k0_pay6 (F := Ideal) (B0 m c t) (B1 m c t) (B2 m c t) (ix2 r j)
    = zz (X0 m c) (X1 m c) (X2 m c) (sq t) (pl t r) ⟨j.val, by omega⟩ := by
  refine (pay6_at _ _ _ r j).trans ?_
  rw [row_tok]
  simp only [blk2]
  rfl

/-- The projected lanes of one head, and the gains of its lanes. -/
def hz (c : Dev nD) (t : Fin cfg0.N) (r : Fin 1024) (h : Fin 10) (k : Fin 64) : EReal :=
  zz (X0 m c) (X1 m c) (X2 m c) (sq t) (pl t r) ⟨1920 + (64 * h.val + k.val), by omega⟩
def hg (c : Dev nD) (t : Fin cfg0.N) (h : Fin 10) (k : Fin 64) : EReal := B4 m c t (ix2 0 ⟨64 * h.val + k.val, by omega⟩)

theorem SS_at (c : Dev nD) (t : Fin cfg0.N) (r : Fin 1024) (h : Fin 10) (e : Fin 64) :
    k0_pay5 (F := Ideal) (B0 m c t) (B1 m c t) (B3 m c t) (B7 m c t) (ix2 r ⟨64 * h.val + e.val, by omega⟩) = ∑ k : Fin 64, hz m c t r h k * hz m c t r h k := by
  refine (pay5_at _ _ _ _ r _).trans ?_
  refine (hsum_eq (n := 10) (fun k : Fin 640 => B7 m c t (ix2 k ⟨64 * h.val + e.val, by omega⟩)) h (fun k => ?_)
    (fun k : Fin 640 => k0_pay4 (F := Ideal) (B0 m c t) (B1 m c t) (B3 m c t) (ix2 r ⟨k.val, by omega⟩) * k0_pay4 (F := Ideal) (B0 m c t) (B1 m c t) (B3 m c t) (ix2 r ⟨k.val, by omega⟩))).trans ?_
  · rw [blk7]
    have e1 : (64 * h.val + e.val) / 64 = h.val := by omega
    simp only [e1]
  · refine Finset.sum_congr rfl fun k _ => ?_
    exact congrArg₂ (· * ·) (Zr_at m c t r _) (Zr_at m c t r _)

theorem Y_at (c : Dev nD) (t : Fin cfg0.N) (r : Fin 1024) (h : Fin 10) (e : Fin 64) :
    k0_pay7 (F := Ideal) (k0_pay4 (F := Ideal) (B0 m c t) (B1 m c t) (B3 m c t)) (k0_pay5 (F := Ideal) (B0 m c t) (B1 m c t) (B3 m c t) (B7 m c t)) (B4 m c t)
      (ix2 r ⟨64 * h.val + e.val, by omega⟩) = nrm (hz m c t r h) (hg m c t h) e := by
  refine (pay7_at _ _ _ r _).trans ?_
  rw [SS_at, ← div64]
  refine congrArg (fun z : EReal => z * Ideal.rsqrt _ * _) ?_
  exact Zr_at m c t r _

theorem SW_at (c : Dev nD) (t : Fin cfg0.N) (r : Fin 1024) (h : Fin 10) (e : Fin 64) :
    k0_pay8 (F := Ideal) (k0_pay4 (F := Ideal) (B0 m c t) (B1 m c t) (B3 m c t)) (k0_pay5 (F := Ideal) (B0 m c t) (B1 m c t) (B3 m c t) (B7 m c t)) (B4 m c t)
      (ix2 r ⟨64 * h.val + e.val, by omega⟩)
      = if h1 : e.val % 32 < 16 then nrm (hz m c t r h) (hg m c t h) ⟨e.val + 16, by omega⟩ else nrm (hz m c t r h) (hg m c t h) ⟨e.val - 16, by omega⟩ := by
  refine (pay8_at _ _ _ r _).trans ?_
  by_cases h1 : e.val % 32 < 16
  · rw [dif_pos h1, if_pos (by dsimp only <;> omega)]
    refine Eq.trans ?_ (Y_at m c t r h ⟨e.val + 16, by omega⟩)
    refine congrArg (fun j => k0_pay7 (F := Ideal) _ _ _ (ix2 r j)) (Fin.ext ?_)
    show (64 * h.val + e.val + 16) % 640 = 64 * h.val + (e.val + 16)
    omega
  · rw [dif_neg h1, if_neg (by dsimp only <;> omega)]
    refine Eq.trans ?_ (Y_at m c t r h ⟨e.val - 16, by omega⟩)
    refine congrArg (fun j => k0_pay7 (F := Ideal) _ _ _ (ix2 r j)) (Fin.ext ?_)
    show (64 * h.val + e.val + 624) % 640 = 64 * h.val + (e.val - 16)
    omega

/-- The turned rows of a point. -/
def RR (c : Dev nD) (t : Fin cfg0.N) : FVec Ideal S1024x640 .f32 :=
  k0_pay9 (F := Ideal) (k0_pay7 (F := Ideal) (k0_pay4 (F := Ideal) (B0 m c t) (B1 m c t) (B3 m c t)) (k0_pay5 (F := Ideal) (B0 m c t) (B1 m c t) (B3 m c t) (B7 m c t)) (B4 m c t))
    (k0_pay8 (F := Ideal) (k0_pay4 (F := Ideal) (B0 m c t) (B1 m c t) (B3 m c t)) (k0_pay5 (F := Ideal) (B0 m c t) (B1 m c t) (B3 m c t) (B7 m c t)) (B4 m c t)) (B5 m c t) (B6 m c t)

theorem RR_at (c : Dev nD) (t : Fin cfg0.N) (r : Fin 1024) (h : Fin 10) (e : Fin 64) :
    RR m c t (ix2 r ⟨64 * h.val + e.val, by omega⟩) = rot (nrm (hz m c t r h) (hg m c t h)) (co (pl t r)) (si (pl t r)) e := by
  refine (pay9_at _ _ _ _ r _).trans ?_
  rw [Y_at, SW_at, blk5, blk6]
  have e1 : (⟨(64 * h.val + e.val) % 128 % 64, by omega⟩ : Fin 64) = e := Fin.ext (by dsimp only <;> omega)
  have e2 : (64 * h.val + e.val) % 128 % 32 = e.val % 32 := by omega
  simp only [e1, e2]
  exact rot_eq _ _ _ _ _ e rfl rfl

/-- A query's lane carries the scale. -/
theorem RR_query (c : Dev nD) (t : Fin cfg0.N) (r : Fin 1024) (h : Fin 8) (e : Fin 64) :
    RR m c t (ix2 r ⟨64 * h.val + e.val, by omega⟩) = eq (X0 m c) (X1 m c) (X2 m c) (X3 m c) (sq t) (pl t r) h e * sc := by
  refine (RR_at m c t r ⟨h.val, by omega⟩ e).trans ?_
  unfold eq
  rw [← rot_nrm_scale]
  refine congrArg₂ (fun z g => rot (nrm z g) (co (pl t r)) (si (pl t r)) e) (funext fun k => ?_) (funext fun k => ?_)
  · exact congrArg (zz (X0 m c) (X1 m c) (X2 m c) (sq t) (pl t r)) (Fin.ext (by dsimp only <;> omega))
  · unfold hg
    rw [blk4, if_pos (by dsimp only <;> omega)]
    exact congrArg (fun j => X3 m c (ix2 0 j) * sc) (Fin.ext (by dsimp only <;> omega))

theorem RR_key (c : Dev nD) (t : Fin cfg0.N) (r : Fin 1024) (h : Fin 2) (e : Fin 64) :
    RR m c t (ix2 r ⟨512 + (64 * h.val + e.val), by omega⟩) = ek (X0 m c) (X1 m c) (X2 m c) (X4 m c) (sq t) (pl t r) h e := by
  refine Eq.trans (congrArg (fun j => RR m c t (ix2 r j)) (Fin.ext ?_)) ((RR_at m c t r ⟨8 + h.val, by omega⟩ e).trans ?_)
  · show 512 + (64 * h.val + e.val) = 64 * (8 + h.val) + e.val
    omega
  unfold ek
  refine congrArg₂ (fun z g => rot (nrm z g) (co (pl t r)) (si (pl t r)) e) (funext fun k => ?_) (funext fun k => ?_)
  · exact congrArg (zz (X0 m c) (X1 m c) (X2 m c) (sq t) (pl t r)) (Fin.ext (by dsimp only <;> omega))
  · unfold hg
    rw [blk4, if_neg (by dsimp only <;> omega)]
    exact congrArg (fun j => X4 m c (ix2 0 j)) (Fin.ext (by dsimp only <;> omega))

end Cert.InProjIdeal.Val

end
-- ==== Proof.InPieces.lean ====
/- The transposed queries and their norms, each store of one head and one half of the rows. -/
module

public import proofs.«01_k».proof.Proof.InPay
public import Idealize.ShloMosaic.Lib.Pipeline.ValueKit
public import Idealize.ShloMosaic.Lib.Pipeline.ReadBack
public import Idealize.ShloMosaic.Lib.Ring

@[expose] public section

set_option maxRecDepth 16384

noncomputable section

namespace Cert.InProjIdeal.Val

open Cert.InProjIdeal Cert.InProjIdeal.Gen Idealize.ShloMosaic Idealize.ShloMosaic.ValueKit
open Idealize.ShloMosaic.TcCoe Idealize.SL.Sem Cert.In

/-- The row and the lane of the turned rows that a column of the transposed block holds: half `n / 2048` of the rows, head `4 v + n / 512`. -/
def rowOf (n : ℕ) (h : n < 4096) : Fin 1024 := ⟨512 * (n / 2048) + n % 512, by omega⟩
def laneOf (v n : ℕ) (c : Fin 64) (h : v < 2) : Fin 640 := ⟨64 * (4 * v + n / 512 % 4) + c.val, by omega⟩

theorem lt1 (y : S1x2x64x4096.Idx) : (y 1).val < 2 := (y 1).isLt
theorem lt3 (y : S1x2x64x4096.Idx) : (y 3).val < 4096 := (y 3).isLt
theorem lt1n (y : S1x2x8x4096.Idx) : (y 1).val < 2 := (y 1).isLt
theorem lt3n (y : S1x2x8x4096.Idx) : (y 3).val < 4096 := (y 3).isLt

def G9 (R : FVec Ideal S1024x640 .f32) : Vec Ideal S1x2x64x4096 .bf16 := fun y =>
  R (ix2 (rowOf (y 3).val (lt3 y)) (laneOf (y 1).val (y 3).val (y 2) (lt1 y)))

def G12 (R : FVec Ideal S1024x640 .f32) : Vec Ideal S1x2x8x4096 .f32 := fun y =>
  ∑ c : Fin 64, R (ix2 (rowOf (y 3).val (lt3n y)) (laneOf (y 1).val (y 3).val c (lt1n y))) * R (ix2 (rowOf (y 3).val (lt3n y)) (laneOf (y 1).val (y 3).val c (lt1n y)))

theorem rowOf_eq (n p q : ℕ) (h : n < 4096) (g : ℕ) (hg : g < 4) (hp : p < 2) (hq : q < 512) (e : n = 2048 * p + 512 * g + q) (hr : 512 * p + q < 1024) : rowOf n h = ⟨512 * p + q, hr⟩ := by
  apply Fin.ext
  show 512 * (n / 2048) + n % 512 = 512 * p + q
  omega

theorem laneOf_eq (v n p q g : ℕ) (c : Fin 64) (h : v < 2) (hg : g < 4) (hp : p < 2) (hq : q < 512) (e : n = 2048 * p + 512 * g + q) (hr : 64 * (4 * v + g) + c.val < 640) : laneOf v n c h = ⟨64 * (4 * v + g) + c.val, hr⟩ := by
  apply Fin.ext
  show 64 * (4 * v + n / 512 % 4) + c.val = 64 * (4 * v + g) + c.val
  omega

theorem emb9 (R : FVec Ideal S1024x640 .f32) (off : Fin 4 → ℕ) (inb) (v g p : ℕ) (hv : v < 2) (hg : g < 4) (hp : p < 2) (h1 : off 1 = v) (h2 : off 2 = 0) (h3 : off 3 = 2048 * p + 512 * g)
    (c : Fin 64) (q : Fin 512) :
    G9 R ((Rect.unit (s := S1x2x64x4096) off S1x1x64x512.size inb).emb (ix4 0 0 c q)) = R (ix2 ⟨512 * p + q.val, by omega⟩ ⟨64 * (4 * v + g) + c.val, by omega⟩) := by
  have a1 := rect_emb_unit_val (s := S1x2x64x4096) off S1x1x64x512.size inb (ix4 0 0 c q) 1
  have a2 := rect_emb_unit_val (s := S1x2x64x4096) off S1x1x64x512.size inb (ix4 0 0 c q) 2
  have a3 := rect_emb_unit_val (s := S1x2x64x4096) off S1x1x64x512.size inb (ix4 0 0 c q) 3
  rw [h1] at a1
  rw [h2] at a2
  rw [h3] at a3
  unfold G9
  generalize (Rect.unit (s := S1x2x64x4096) off S1x1x64x512.size inb).emb (ix4 0 0 c q) = z at *
  have b1 : (z 1).val = v := a1
  have b2 : z 2 = c := Fin.ext (a2.trans (Nat.zero_add _))
  have b3 : (z 3).val = 2048 * p + 512 * g + q.val := a3
  refine congrArg₂ (fun i j => R (ix2 i j)) (rowOf_eq _ p q.val _ g hg hp q.isLt b3 _) ?_
  rw [b2]
  refine (laneOf_eq _ _ p q.val g c _ hg hp q.isLt b3 (by omega)).trans (Fin.ext ?_)
  show 64 * (4 * (z 1).val + g) + c.val = 64 * (4 * v + g) + c.val
  rw [b1]

theorem emb12 (R : FVec Ideal S1024x640 .f32) (off : Fin 4 → ℕ) (inb) (v g p : ℕ) (hv : v < 2) (hg : g < 4) (hp : p < 2) (h1 : off 1 = v) (h3 : off 3 = 2048 * p + 512 * g)
    (e : Fin 8) (q : Fin 512) :
    G12 R ((Rect.unit (s := S1x2x8x4096) off S1x1x8x512.size inb).emb (ix4 0 0 e q))
      = ∑ c : Fin 64, R (ix2 ⟨512 * p + q.val, by omega⟩ ⟨64 * (4 * v + g) + c.val, by omega⟩) * R (ix2 ⟨512 * p + q.val, by omega⟩ ⟨64 * (4 * v + g) + c.val, by omega⟩) := by
  have a1 := rect_emb_unit_val (s := S1x2x8x4096) off S1x1x8x512.size inb (ix4 0 0 e q) 1
  have a3 := rect_emb_unit_val (s := S1x2x8x4096) off S1x1x8x512.size inb (ix4 0 0 e q) 3
  rw [h1] at a1
  rw [h3] at a3
  unfold G12
  generalize (Rect.unit (s := S1x2x8x4096) off S1x1x8x512.size inb).emb (ix4 0 0 e q) = z at *
  have b1 : (z 1).val = v := a1
  have b3 : (z 3).val = 2048 * p + 512 * g + q.val := a3
  have k : ∀ c : Fin 64, R (ix2 (rowOf (z 3).val (lt3n z)) (laneOf (z 1).val (z 3).val c (lt1n z))) = R (ix2 ⟨512 * p + q.val, by omega⟩ ⟨64 * (4 * v + g) + c.val, by omega⟩) := by
    intro c
    refine congrArg₂ (fun i j => R (ix2 i j)) (rowOf_eq _ p q.val _ g hg hp q.isLt b3 _) ?_
    refine (laneOf_eq _ _ p q.val g c _ hg hp q.isLt b3 (by omega)).trans (Fin.ext ?_)
    show 64 * (4 * (z 1).val + g) + c.val = 64 * (4 * v + g) + c.val
    rw [b1]
  exact Finset.sum_congr rfl fun c _ => congrArg₂ (fun a b : EReal => a * b) (k c) (k c)

theorem c9 (x : S1x1x64x512.Idx) : ∃ (c : Fin 64) (q : Fin 512), x = ix4 0 0 c q := by
  refine ⟨x 2, x 3, funext fun a => ?_⟩
  fin_cases a
  · exact Subsingleton.elim (α := Fin 1) _ _
  · exact Subsingleton.elim (α := Fin 1) _ _
  · rfl
  · rfl

theorem e12 (x : S1x1x8x512.Idx) : ∃ (e : Fin 8) (q : Fin 512), x = ix4 0 0 e q := by
  refine ⟨x 2, x 3, funext fun a => ?_⟩
  fin_cases a
  · exact Subsingleton.elim (α := Fin 1) _ _
  · exact Subsingleton.elim (α := Fin 1) _ _
  · rfl
  · rfl

variable (Y W : FVec Ideal S1024x640 .f32) (co si : Vec Ideal S1024x128 .f32)

theorem q00 (c : Fin 64) (q : Fin 512) : k0_pay11 (F := Ideal) Y W co si (ix4 0 0 c q) = (k0_pay9 (F := Ideal) Y W co si) (ix2 ⟨512 * 0 + q.val, by omega⟩ ⟨64 * (4 * 0 + 0) + c.val, by omega⟩) := by
  unfold k0_pay11 k0_pay10
  generalize k0_pay9 (F := Ideal) Y W co si = R
  refine Eq.trans (b := R (ix2 ⟨q.val, by omega⟩ ⟨c.val, by omega⟩)) ?_ (congrArg₂ (fun i j => R (ix2 i j)) (Fin.ext (by dsimp only <;> omega)) (Fin.ext (by dsimp only <;> omega)))
  pointwise

theorem n00 (e : Fin 8) (q : Fin 512) : k0_pay14 (F := Ideal) Y W co si (ix4 0 0 e q) = ∑ c : Fin 64, (k0_pay9 (F := Ideal) Y W co si) (ix2 ⟨512 * 0 + q.val, by omega⟩ ⟨64 * (4 * 0 + 0) + c.val, by omega⟩) * (k0_pay9 (F := Ideal) Y W co si) (ix2 ⟨512 * 0 + q.val, by omega⟩ ⟨64 * (4 * 0 + 0) + c.val, by omega⟩) := by
  unfold k0_pay14 k0_pay13 k0_pay10
  generalize k0_pay9 (F := Ideal) Y W co si = R
  have k : ∀ c : Fin 64, R (ix2 ⟨512 * 0 + q.val, by omega⟩ ⟨64 * (4 * 0 + 0) + c.val, by omega⟩) = R (ix2 ⟨q.val, by omega⟩ ⟨c.val, by omega⟩) := fun c => congrArg₂ (fun i j => R (ix2 i j)) (Fin.ext (by dsimp only <;> omega)) (Fin.ext (by dsimp only <;> omega))
  simp only [k]
  pointwise

theorem q10 (c : Fin 64) (q : Fin 512) : k0_pay12 (F := Ideal) Y W co si (ix4 0 0 c q) = (k0_pay9 (F := Ideal) Y W co si) (ix2 ⟨512 * 0 + q.val, by omega⟩ ⟨64 * (4 * 0 + 1) + c.val, by omega⟩) := by
  unfold k0_pay12 k0_pay10
  generalize k0_pay9 (F := Ideal) Y W co si = R
  refine Eq.trans (b := R (ix2 ⟨q.val, by omega⟩ ⟨64 + c.val, by omega⟩)) ?_ (congrArg₂ (fun i j => R (ix2 i j)) (Fin.ext (by dsimp only <;> omega)) (Fin.ext (by dsimp only <;> omega)))
  pointwise

theorem n10 (e : Fin 8) (q : Fin 512) : k0_pay15 (F := Ideal) Y W co si (ix4 0 0 e q) = ∑ c : Fin 64, (k0_pay9 (F := Ideal) Y W co si) (ix2 ⟨512 * 0 + q.val, by omega⟩ ⟨64 * (4 * 0 + 1) + c.val, by omega⟩) * (k0_pay9 (F := Ideal) Y W co si) (ix2 ⟨512 * 0 + q.val, by omega⟩ ⟨64 * (4 * 0 + 1) + c.val, by omega⟩) := by
  unfold k0_pay15 k0_pay13 k0_pay10
  generalize k0_pay9 (F := Ideal) Y W co si = R
  have k : ∀ c : Fin 64, R (ix2 ⟨512 * 0 + q.val, by omega⟩ ⟨64 * (4 * 0 + 1) + c.val, by omega⟩) = R (ix2 ⟨q.val, by omega⟩ ⟨64 + c.val, by omega⟩) := fun c => congrArg₂ (fun i j => R (ix2 i j)) (Fin.ext (by dsimp only <;> omega)) (Fin.ext (by dsimp only <;> omega))
  simp only [k]
  pointwise

theorem q20 (R : FVec Ideal S1024x640 .f32) (c : Fin 64) (q : Fin 512) : k0_pay17 (F := Ideal) R (ix4 0 0 c q) = R (ix2 ⟨512 * 0 + q.val, by omega⟩ ⟨64 * (4 * 0 + 2) + c.val, by omega⟩) := by
  refine Eq.trans (b := R (ix2 ⟨q.val, by omega⟩ ⟨128 + c.val, by omega⟩)) ?_ (congrArg₂ (fun i j => R (ix2 i j)) (Fin.ext (by dsimp only <;> omega)) (Fin.ext (by dsimp only <;> omega)))
  pointwise [k0_pay17, k0_pay16]

theorem n20 (R : FVec Ideal S1024x640 .f32) (e : Fin 8) (q : Fin 512) : k0_pay20 (F := Ideal) R (ix4 0 0 e q) = ∑ c : Fin 64, R (ix2 ⟨512 * 0 + q.val, by omega⟩ ⟨64 * (4 * 0 + 2) + c.val, by omega⟩) * R (ix2 ⟨512 * 0 + q.val, by omega⟩ ⟨64 * (4 * 0 + 2) + c.val, by omega⟩) := by
  have k : ∀ c : Fin 64, R (ix2 ⟨512 * 0 + q.val, by omega⟩ ⟨64 * (4 * 0 + 2) + c.val, by omega⟩) = R (ix2 ⟨q.val, by omega⟩ ⟨128 + c.val, by omega⟩) := fun c => congrArg₂ (fun i j => R (ix2 i j)) (Fin.ext (by dsimp only <;> omega)) (Fin.ext (by dsimp only <;> omega))
  simp only [k]
  pointwise [k0_pay20, k0_pay19, k0_pay16]

theorem q30 (R : FVec Ideal S1024x640 .f32) (c : Fin 64) (q : Fin 512) : k0_pay18 (F := Ideal) R (ix4 0 0 c q) = R (ix2 ⟨512 * 0 + q.val, by omega⟩ ⟨64 * (4 * 0 + 3) + c.val, by omega⟩) := by
  refine Eq.trans (b := R (ix2 ⟨q.val, by omega⟩ ⟨128 + (64 + c.val), by omega⟩)) ?_ (congrArg₂ (fun i j => R (ix2 i j)) (Fin.ext (by dsimp only <;> omega)) (Fin.ext (by dsimp only <;> omega)))
  pointwise [k0_pay18, k0_pay16]

theorem n30 (R : FVec Ideal S1024x640 .f32) (e : Fin 8) (q : Fin 512) : k0_pay21 (F := Ideal) R (ix4 0 0 e q) = ∑ c : Fin 64, R (ix2 ⟨512 * 0 + q.val, by omega⟩ ⟨64 * (4 * 0 + 3) + c.val, by omega⟩) * R (ix2 ⟨512 * 0 + q.val, by omega⟩ ⟨64 * (4 * 0 + 3) + c.val, by omega⟩) := by
  have k : ∀ c : Fin 64, R (ix2 ⟨512 * 0 + q.val, by omega⟩ ⟨64 * (4 * 0 + 3) + c.val, by omega⟩) = R (ix2 ⟨q.val, by omega⟩ ⟨128 + (64 + c.val), by omega⟩) := fun c => congrArg₂ (fun i j => R (ix2 i j)) (Fin.ext (by dsimp only <;> omega)) (Fin.ext (by dsimp only <;> omega))
  simp only [k]
  pointwise [k0_pay21, k0_pay19, k0_pay16]

theorem q40 (R : FVec Ideal S1024x640 .f32) (c : Fin 64) (q : Fin 512) : k0_pay24 (F := Ideal) (k0_pay23 R) (ix4 0 0 c q) = R (ix2 ⟨512 * 0 + q.val, by omega⟩ ⟨64 * (4 * 1 + 0) + c.val, by omega⟩) := by
  refine Eq.trans (b := R (ix2 ⟨q.val, by omega⟩ ⟨256 + c.val, by omega⟩)) ?_ (congrArg₂ (fun i j => R (ix2 i j)) (Fin.ext (by dsimp only <;> omega)) (Fin.ext (by dsimp only <;> omega)))
  pointwise [k0_pay24, k0_pay23, k0_pay22]

theorem n40 (R : FVec Ideal S1024x640 .f32) (e : Fin 8) (q : Fin 512) : k0_pay27 (F := Ideal) (k0_pay22 R) (ix4 0 0 e q) = ∑ c : Fin 64, R (ix2 ⟨512 * 0 + q.val, by omega⟩ ⟨64 * (4 * 1 + 0) + c.val, by omega⟩) * R (ix2 ⟨512 * 0 + q.val, by omega⟩ ⟨64 * (4 * 1 + 0) + c.val, by omega⟩) := by
  have k : ∀ c : Fin 64, R (ix2 ⟨512 * 0 + q.val, by omega⟩ ⟨64 * (4 * 1 + 0) + c.val, by omega⟩) = R (ix2 ⟨q.val, by omega⟩ ⟨256 + c.val, by omega⟩) := fun c => congrArg₂ (fun i j => R (ix2 i j)) (Fin.ext (by dsimp only <;> omega)) (Fin.ext (by dsimp only <;> omega))
  simp only [k]
  pointwise [k0_pay27, k0_pay26, k0_pay22]

theorem q50 (R : FVec Ideal S1024x640 .f32) (c : Fin 64) (q : Fin 512) : k0_pay25 (F := Ideal) (k0_pay22 R) (ix4 0 0 c q) = R (ix2 ⟨512 * 0 + q.val, by omega⟩ ⟨64 * (4 * 1 + 1) + c.val, by omega⟩) := by
  refine Eq.trans (b := R (ix2 ⟨q.val, by omega⟩ ⟨256 + (64 + c.val), by omega⟩)) ?_ (congrArg₂ (fun i j => R (ix2 i j)) (Fin.ext (by dsimp only <;> omega)) (Fin.ext (by dsimp only <;> omega)))
  pointwise [k0_pay25, k0_pay22]

theorem n50 (R : FVec Ideal S1024x640 .f32) (e : Fin 8) (q : Fin 512) : k0_pay28 (F := Ideal) (k0_pay22 R) (ix4 0 0 e q) = ∑ c : Fin 64, R (ix2 ⟨512 * 0 + q.val, by omega⟩ ⟨64 * (4 * 1 + 1) + c.val, by omega⟩) * R (ix2 ⟨512 * 0 + q.val, by omega⟩ ⟨64 * (4 * 1 + 1) + c.val, by omega⟩) := by
  have k : ∀ c : Fin 64, R (ix2 ⟨512 * 0 + q.val, by omega⟩ ⟨64 * (4 * 1 + 1) + c.val, by omega⟩) = R (ix2 ⟨q.val, by omega⟩ ⟨256 + (64 + c.val), by omega⟩) := fun c => congrArg₂ (fun i j => R (ix2 i j)) (Fin.ext (by dsimp only <;> omega)) (Fin.ext (by dsimp only <;> omega))
  simp only [k]
  pointwise [k0_pay28, k0_pay26, k0_pay22]

theorem q60 (R : FVec Ideal S1024x640 .f32) (c : Fin 64) (q : Fin 512) : k0_pay30 (F := Ideal) R (ix4 0 0 c q) = R (ix2 ⟨512 * 0 + q.val, by omega⟩ ⟨64 * (4 * 1 + 2) + c.val, by omega⟩) := by
  refine Eq.trans (b := R (ix2 ⟨q.val, by omega⟩ ⟨384 + c.val, by omega⟩)) ?_ (congrArg₂ (fun i j => R (ix2 i j)) (Fin.ext (by dsimp only <;> omega)) (Fin.ext (by dsimp only <;> omega)))
  pointwise [k0_pay30, k0_pay29]

theorem n60 (R : FVec Ideal S1024x640 .f32) (e : Fin 8) (q : Fin 512) : k0_pay34 (F := Ideal) (k0_pay29 R) (ix4 0 0 e q) = ∑ c : Fin 64, R (ix2 ⟨512 * 0 + q.val, by omega⟩ ⟨64 * (4 * 1 + 2) + c.val, by omega⟩) * R (ix2 ⟨512 * 0 + q.val, by omega⟩ ⟨64 * (4 * 1 + 2) + c.val, by omega⟩) := by
  have k : ∀ c : Fin 64, R (ix2 ⟨512 * 0 + q.val, by omega⟩ ⟨64 * (4 * 1 + 2) + c.val, by omega⟩) = R (ix2 ⟨q.val, by omega⟩ ⟨384 + c.val, by omega⟩) := fun c => congrArg₂ (fun i j => R (ix2 i j)) (Fin.ext (by dsimp only <;> omega)) (Fin.ext (by dsimp only <;> omega))
  simp only [k]
  pointwise [k0_pay34, k0_pay33, k0_pay29]

theorem q70 (R : FVec Ideal S1024x640 .f32) (c : Fin 64) (q : Fin 512) : k0_pay32 (F := Ideal) (k0_pay31 R) (ix4 0 0 c q) = R (ix2 ⟨512 * 0 + q.val, by omega⟩ ⟨64 * (4 * 1 + 3) + c.val, by omega⟩) := by
  refine Eq.trans (b := R (ix2 ⟨q.val, by omega⟩ ⟨384 + (64 + c.val), by omega⟩)) ?_ (congrArg₂ (fun i j => R (ix2 i j)) (Fin.ext (by dsimp only <;> omega)) (Fin.ext (by dsimp only <;> omega)))
  pointwise [k0_pay32, k0_pay31, k0_pay29]

theorem n70 (R : FVec Ideal S1024x640 .f32) (e : Fin 8) (q : Fin 512) : k0_pay35 (F := Ideal) (k0_pay29 R) (ix4 0 0 e q) = ∑ c : Fin 64, R (ix2 ⟨512 * 0 + q.val, by omega⟩ ⟨64 * (4 * 1 + 3) + c.val, by omega⟩) * R (ix2 ⟨512 * 0 + q.val, by omega⟩ ⟨64 * (4 * 1 + 3) + c.val, by omega⟩) := by
  have k : ∀ c : Fin 64, R (ix2 ⟨512 * 0 + q.val, by omega⟩ ⟨64 * (4 * 1 + 3) + c.val, by omega⟩) = R (ix2 ⟨q.val, by omega⟩ ⟨384 + (64 + c.val), by omega⟩) := fun c => congrArg₂ (fun i j => R (ix2 i j)) (Fin.ext (by dsimp only <;> omega)) (Fin.ext (by dsimp only <;> omega))
  simp only [k]
  pointwise [k0_pay35, k0_pay33, k0_pay29]

theorem q01 (R : FVec Ideal S1024x640 .f32) (c : Fin 64) (q : Fin 512) : k0_pay37 (F := Ideal) R (ix4 0 0 c q) = R (ix2 ⟨512 * 1 + q.val, by omega⟩ ⟨64 * (4 * 0 + 0) + c.val, by omega⟩) := by
  refine Eq.trans (b := R (ix2 ⟨512 + q.val, by omega⟩ ⟨c.val, by omega⟩)) ?_ (congrArg₂ (fun i j => R (ix2 i j)) (Fin.ext (by dsimp only <;> omega)) (Fin.ext (by dsimp only <;> omega)))
  pointwise [k0_pay37, k0_pay36]

theorem n01 (R : FVec Ideal S1024x640 .f32) (e : Fin 8) (q : Fin 512) : k0_pay41 (F := Ideal) (k0_pay40 R) (ix4 0 0 e q) = ∑ c : Fin 64, R (ix2 ⟨512 * 1 + q.val, by omega⟩ ⟨64 * (4 * 0 + 0) + c.val, by omega⟩) * R (ix2 ⟨512 * 1 + q.val, by omega⟩ ⟨64 * (4 * 0 + 0) + c.val, by omega⟩) := by
  have k : ∀ c : Fin 64, R (ix2 ⟨512 * 1 + q.val, by omega⟩ ⟨64 * (4 * 0 + 0) + c.val, by omega⟩) = R (ix2 ⟨512 + q.val, by omega⟩ ⟨c.val, by omega⟩) := fun c => congrArg₂ (fun i j => R (ix2 i j)) (Fin.ext (by dsimp only <;> omega)) (Fin.ext (by dsimp only <;> omega))
  simp only [k]
  pointwise [k0_pay41, k0_pay40, k0_pay39, k0_pay36]

theorem q11 (R : FVec Ideal S1024x640 .f32) (c : Fin 64) (q : Fin 512) : k0_pay38 (F := Ideal) R (ix4 0 0 c q) = R (ix2 ⟨512 * 1 + q.val, by omega⟩ ⟨64 * (4 * 0 + 1) + c.val, by omega⟩) := by
  refine Eq.trans (b := R (ix2 ⟨512 + q.val, by omega⟩ ⟨64 + c.val, by omega⟩)) ?_ (congrArg₂ (fun i j => R (ix2 i j)) (Fin.ext (by dsimp only <;> omega)) (Fin.ext (by dsimp only <;> omega)))
  pointwise [k0_pay38, k0_pay36]

theorem n11 (R : FVec Ideal S1024x640 .f32) (e : Fin 8) (q : Fin 512) : k0_pay42 (F := Ideal) (k0_pay39 R) (ix4 0 0 e q) = ∑ c : Fin 64, R (ix2 ⟨512 * 1 + q.val, by omega⟩ ⟨64 * (4 * 0 + 1) + c.val, by omega⟩) * R (ix2 ⟨512 * 1 + q.val, by omega⟩ ⟨64 * (4 * 0 + 1) + c.val, by omega⟩) := by
  have k : ∀ c : Fin 64, R (ix2 ⟨512 * 1 + q.val, by omega⟩ ⟨64 * (4 * 0 + 1) + c.val, by omega⟩) = R (ix2 ⟨512 + q.val, by omega⟩ ⟨64 + c.val, by omega⟩) := fun c => congrArg₂ (fun i j => R (ix2 i j)) (Fin.ext (by dsimp only <;> omega)) (Fin.ext (by dsimp only <;> omega))
  simp only [k]
  pointwise [k0_pay42, k0_pay39, k0_pay36]

theorem q21 (R : FVec Ideal S1024x640 .f32) (c : Fin 64) (q : Fin 512) : k0_pay44 (F := Ideal) R (ix4 0 0 c q) = R (ix2 ⟨512 * 1 + q.val, by omega⟩ ⟨64 * (4 * 0 + 2) + c.val, by omega⟩) := by
  refine Eq.trans (b := R (ix2 ⟨512 + q.val, by omega⟩ ⟨128 + c.val, by omega⟩)) ?_ (congrArg₂ (fun i j => R (ix2 i j)) (Fin.ext (by dsimp only <;> omega)) (Fin.ext (by dsimp only <;> omega)))
  pointwise [k0_pay44, k0_pay43]

theorem n21 (R : FVec Ideal S1024x640 .f32) (e : Fin 8) (q : Fin 512) : k0_pay48 (F := Ideal) (k0_pay47 R) (ix4 0 0 e q) = ∑ c : Fin 64, R (ix2 ⟨512 * 1 + q.val, by omega⟩ ⟨64 * (4 * 0 + 2) + c.val, by omega⟩) * R (ix2 ⟨512 * 1 + q.val, by omega⟩ ⟨64 * (4 * 0 + 2) + c.val, by omega⟩) := by
  have k : ∀ c : Fin 64, R (ix2 ⟨512 * 1 + q.val, by omega⟩ ⟨64 * (4 * 0 + 2) + c.val, by omega⟩) = R (ix2 ⟨512 + q.val, by omega⟩ ⟨128 + c.val, by omega⟩) := fun c => congrArg₂ (fun i j => R (ix2 i j)) (Fin.ext (by dsimp only <;> omega)) (Fin.ext (by dsimp only <;> omega))
  simp only [k]
  pointwise [k0_pay48, k0_pay47, k0_pay46, k0_pay43]

theorem q31 (R : FVec Ideal S1024x640 .f32) (c : Fin 64) (q : Fin 512) : k0_pay45 (F := Ideal) R (ix4 0 0 c q) = R (ix2 ⟨512 * 1 + q.val, by omega⟩ ⟨64 * (4 * 0 + 3) + c.val, by omega⟩) := by
  refine Eq.trans (b := R (ix2 ⟨512 + q.val, by omega⟩ ⟨128 + (64 + c.val), by omega⟩)) ?_ (congrArg₂ (fun i j => R (ix2 i j)) (Fin.ext (by dsimp only <;> omega)) (Fin.ext (by dsimp only <;> omega)))
  pointwise [k0_pay45, k0_pay43]

theorem n31 (R : FVec Ideal S1024x640 .f32) (e : Fin 8) (q : Fin 512) : k0_pay49 (F := Ideal) (k0_pay46 R) (ix4 0 0 e q) = ∑ c : Fin 64, R (ix2 ⟨512 * 1 + q.val, by omega⟩ ⟨64 * (4 * 0 + 3) + c.val, by omega⟩) * R (ix2 ⟨512 * 1 + q.val, by omega⟩ ⟨64 * (4 * 0 + 3) + c.val, by omega⟩) := by
  have k : ∀ c : Fin 64, R (ix2 ⟨512 * 1 + q.val, by omega⟩ ⟨64 * (4 * 0 + 3) + c.val, by omega⟩) = R (ix2 ⟨512 + q.val, by omega⟩ ⟨128 + (64 + c.val), by omega⟩) := fun c => congrArg₂ (fun i j => R (ix2 i j)) (Fin.ext (by dsimp only <;> omega)) (Fin.ext (by dsimp only <;> omega))
  simp only [k]
  pointwise [k0_pay49, k0_pay46, k0_pay43]

theorem q41 (R : FVec Ideal S1024x640 .f32) (c : Fin 64) (q : Fin 512) : k0_pay51 (F := Ideal) R (ix4 0 0 c q) = R (ix2 ⟨512 * 1 + q.val, by omega⟩ ⟨64 * (4 * 1 + 0) + c.val, by omega⟩) := by
  refine Eq.trans (b := R (ix2 ⟨512 + q.val, by omega⟩ ⟨256 + c.val, by omega⟩)) ?_ (congrArg₂ (fun i j => R (ix2 i j)) (Fin.ext (by dsimp only <;> omega)) (Fin.ext (by dsimp only <;> omega)))
  pointwise [k0_pay51, k0_pay50]

theorem n41 (R : FVec Ideal S1024x640 .f32) (e : Fin 8) (q : Fin 512) : k0_pay54 (F := Ideal) R (ix4 0 0 e q) = ∑ c : Fin 64, R (ix2 ⟨512 * 1 + q.val, by omega⟩ ⟨64 * (4 * 1 + 0) + c.val, by omega⟩) * R (ix2 ⟨512 * 1 + q.val, by omega⟩ ⟨64 * (4 * 1 + 0) + c.val, by omega⟩) := by
  have k : ∀ c : Fin 64, R (ix2 ⟨512 * 1 + q.val, by omega⟩ ⟨64 * (4 * 1 + 0) + c.val, by omega⟩) = R (ix2 ⟨512 + q.val, by omega⟩ ⟨256 + c.val, by omega⟩) := fun c => congrArg₂ (fun i j => R (ix2 i j)) (Fin.ext (by dsimp only <;> omega)) (Fin.ext (by dsimp only <;> omega))
  simp only [k]
  pointwise [k0_pay54, k0_pay53, k0_pay50]

theorem q51 (R : FVec Ideal S1024x640 .f32) (c : Fin 64) (q : Fin 512) : k0_pay52 (F := Ideal) R (ix4 0 0 c q) = R (ix2 ⟨512 * 1 + q.val, by omega⟩ ⟨64 * (4 * 1 + 1) + c.val, by omega⟩) := by
  refine Eq.trans (b := R (ix2 ⟨512 + q.val, by omega⟩ ⟨256 + (64 + c.val), by omega⟩)) ?_ (congrArg₂ (fun i j => R (ix2 i j)) (Fin.ext (by dsimp only <;> omega)) (Fin.ext (by dsimp only <;> omega)))
  pointwise [k0_pay52, k0_pay50]

theorem n51 (R : FVec Ideal S1024x640 .f32) (e : Fin 8) (q : Fin 512) : k0_pay56 (F := Ideal) (k0_pay55 R) (ix4 0 0 e q) = ∑ c : Fin 64, R (ix2 ⟨512 * 1 + q.val, by omega⟩ ⟨64 * (4 * 1 + 1) + c.val, by omega⟩) * R (ix2 ⟨512 * 1 + q.val, by omega⟩ ⟨64 * (4 * 1 + 1) + c.val, by omega⟩) := by
  have k : ∀ c : Fin 64, R (ix2 ⟨512 * 1 + q.val, by omega⟩ ⟨64 * (4 * 1 + 1) + c.val, by omega⟩) = R (ix2 ⟨512 + q.val, by omega⟩ ⟨256 + (64 + c.val), by omega⟩) := fun c => congrArg₂ (fun i j => R (ix2 i j)) (Fin.ext (by dsimp only <;> omega)) (Fin.ext (by dsimp only <;> omega))
  simp only [k]
  pointwise [k0_pay56, k0_pay55, k0_pay53, k0_pay50]

theorem q61 (R : FVec Ideal S1024x640 .f32) (c : Fin 64) (q : Fin 512) : k0_pay58 (F := Ideal) R (ix4 0 0 c q) = R (ix2 ⟨512 * 1 + q.val, by omega⟩ ⟨64 * (4 * 1 + 2) + c.val, by omega⟩) := by
  refine Eq.trans (b := R (ix2 ⟨512 + q.val, by omega⟩ ⟨384 + c.val, by omega⟩)) ?_ (congrArg₂ (fun i j => R (ix2 i j)) (Fin.ext (by dsimp only <;> omega)) (Fin.ext (by dsimp only <;> omega)))
  pointwise [k0_pay58, k0_pay57]

theorem n61 (R : FVec Ideal S1024x640 .f32) (e : Fin 8) (q : Fin 512) : k0_pay61 (F := Ideal) R (ix4 0 0 e q) = ∑ c : Fin 64, R (ix2 ⟨512 * 1 + q.val, by omega⟩ ⟨64 * (4 * 1 + 2) + c.val, by omega⟩) * R (ix2 ⟨512 * 1 + q.val, by omega⟩ ⟨64 * (4 * 1 + 2) + c.val, by omega⟩) := by
  have k : ∀ c : Fin 64, R (ix2 ⟨512 * 1 + q.val, by omega⟩ ⟨64 * (4 * 1 + 2) + c.val, by omega⟩) = R (ix2 ⟨512 + q.val, by omega⟩ ⟨384 + c.val, by omega⟩) := fun c => congrArg₂ (fun i j => R (ix2 i j)) (Fin.ext (by dsimp only <;> omega)) (Fin.ext (by dsimp only <;> omega))
  simp only [k]
  pointwise [k0_pay61, k0_pay60, k0_pay57]

theorem q71 (R : FVec Ideal S1024x640 .f32) (c : Fin 64) (q : Fin 512) : k0_pay59 (F := Ideal) R (ix4 0 0 c q) = R (ix2 ⟨512 * 1 + q.val, by omega⟩ ⟨64 * (4 * 1 + 3) + c.val, by omega⟩) := by
  refine Eq.trans (b := R (ix2 ⟨512 + q.val, by omega⟩ ⟨384 + (64 + c.val), by omega⟩)) ?_ (congrArg₂ (fun i j => R (ix2 i j)) (Fin.ext (by dsimp only <;> omega)) (Fin.ext (by dsimp only <;> omega)))
  pointwise [k0_pay59, k0_pay57]

theorem n71 (R : FVec Ideal S1024x640 .f32) (e : Fin 8) (q : Fin 512) : k0_pay62 (F := Ideal) R (ix4 0 0 e q) = ∑ c : Fin 64, R (ix2 ⟨512 * 1 + q.val, by omega⟩ ⟨64 * (4 * 1 + 3) + c.val, by omega⟩) * R (ix2 ⟨512 * 1 + q.val, by omega⟩ ⟨64 * (4 * 1 + 3) + c.val, by omega⟩) := by
  have k : ∀ c : Fin 64, R (ix2 ⟨512 * 1 + q.val, by omega⟩ ⟨64 * (4 * 1 + 3) + c.val, by omega⟩) = R (ix2 ⟨512 + q.val, by omega⟩ ⟨384 + (64 + c.val), by omega⟩) := fun c => congrArg₂ (fun i j => R (ix2 i j)) (Fin.ext (by dsimp only <;> omega)) (Fin.ext (by dsimp only <;> omega))
  simp only [k]
  pointwise [k0_pay62, k0_pay60, k0_pay57]

/-- The stores of one point, the last one first. -/
def pieces9 : List (View.Piece (Elt Ideal) S1x2x64x4096 .bf16) :=
    [⟨Rect.unit ![0, 1, 0, 3584] S1x1x64x512.size inb_S1x2x64x4096_S1x1x64x512_0_1_0_3584, k0_pay59 (F := Ideal) (k0_pay9 (F := Ideal) Y W co si)⟩,
      ⟨Rect.unit ![0, 1, 0, 3072] S1x1x64x512.size inb_S1x2x64x4096_S1x1x64x512_0_1_0_3072, k0_pay58 (F := Ideal) (k0_pay9 (F := Ideal) Y W co si)⟩,
      ⟨Rect.unit ![0, 1, 0, 2560] S1x1x64x512.size inb_S1x2x64x4096_S1x1x64x512_0_1_0_2560, k0_pay52 (F := Ideal) (k0_pay9 (F := Ideal) Y W co si)⟩,
      ⟨Rect.unit ![0, 1, 0, 2048] S1x1x64x512.size inb_S1x2x64x4096_S1x1x64x512_0_1_0_2048, k0_pay51 (F := Ideal) (k0_pay9 (F := Ideal) Y W co si)⟩,
      ⟨Rect.unit ![0, 0, 0, 3584] S1x1x64x512.size inb_S1x2x64x4096_S1x1x64x512_0_0_0_3584, k0_pay45 (F := Ideal) (k0_pay9 (F := Ideal) Y W co si)⟩,
      ⟨Rect.unit ![0, 0, 0, 3072] S1x1x64x512.size inb_S1x2x64x4096_S1x1x64x512_0_0_0_3072, k0_pay44 (F := Ideal) (k0_pay9 (F := Ideal) Y W co si)⟩,
      ⟨Rect.unit ![0, 0, 0, 2560] S1x1x64x512.size inb_S1x2x64x4096_S1x1x64x512_0_0_0_2560, k0_pay38 (F := Ideal) (k0_pay9 (F := Ideal) Y W co si)⟩,
      ⟨Rect.unit ![0, 0, 0, 2048] S1x1x64x512.size inb_S1x2x64x4096_S1x1x64x512_0_0_0_2048, k0_pay37 (F := Ideal) (k0_pay9 (F := Ideal) Y W co si)⟩,
      ⟨Rect.unit ![0, 1, 0, 1536] S1x1x64x512.size inb_S1x2x64x4096_S1x1x64x512_0_1_0_1536, k0_pay32 (F := Ideal) (k0_pay31 (k0_pay9 (F := Ideal) Y W co si))⟩,
      ⟨Rect.unit ![0, 1, 0, 1024] S1x1x64x512.size inb_S1x2x64x4096_S1x1x64x512_0_1_0_1024, k0_pay30 (F := Ideal) (k0_pay9 (F := Ideal) Y W co si)⟩,
      ⟨Rect.unit ![0, 1, 0, 512] S1x1x64x512.size inb_S1x2x64x4096_S1x1x64x512_0_1_0_512, k0_pay25 (F := Ideal) (k0_pay22 (k0_pay9 (F := Ideal) Y W co si))⟩,
      ⟨Rect.unit ![0, 1, 0, 0] S1x1x64x512.size inb_S1x2x64x4096_S1x1x64x512_0_1_0_0, k0_pay24 (F := Ideal) (k0_pay23 (k0_pay9 (F := Ideal) Y W co si))⟩,
      ⟨Rect.unit ![0, 0, 0, 1536] S1x1x64x512.size inb_S1x2x64x4096_S1x1x64x512_0_0_0_1536, k0_pay18 (F := Ideal) (k0_pay9 (F := Ideal) Y W co si)⟩,
      ⟨Rect.unit ![0, 0, 0, 1024] S1x1x64x512.size inb_S1x2x64x4096_S1x1x64x512_0_0_0_1024, k0_pay17 (F := Ideal) (k0_pay9 (F := Ideal) Y W co si)⟩,
      ⟨Rect.unit ![0, 0, 0, 512] S1x1x64x512.size inb_S1x2x64x4096_S1x1x64x512_0_0_0_512, k0_pay12 (F := Ideal) Y W co si⟩,
      ⟨Rect.unit ![0, 0, 0, 0] S1x1x64x512.size inb_S1x2x64x4096_S1x1x64x512_0_0_0_0, k0_pay11 (F := Ideal) Y W co si⟩]

theorem pieces9_eq (y : S1x2x64x4096.Idx) : View.canon (pieces9 Y W co si) y = G9 (k0_pay9 (F := Ideal) Y W co si) y := by
  refine (congrFun (congrArg View.canon (List.append_nil _).symm) y).trans ?_
  refine View.canon_append_of_piecesOf (G9 (k0_pay9 (F := Ideal) Y W co si)) [] (pieces9 Y W co si) ⟨?_, ?_, ?_, ?_, ?_, ?_, ?_, ?_, ?_, ?_, ?_, ?_, ?_, ?_, ?_, ?_, trivial⟩ y
    (View.cover_of_tiledL (pieces9 Y W co si) S1x1x64x512.size (by sl_kernel_rfl) y)
  all_goals
    intro x
    obtain ⟨c, q, rfl⟩ : ∃ (c : Fin 64) (q : Fin 512), x = ix4 0 0 c q := c9 x
  · exact (q71 _ c q).trans (emb9 _ ![0, 1, 0, 3584] inb_S1x2x64x4096_S1x1x64x512_0_1_0_3584 1 3 1 (by decide) (by decide) (by decide) rfl rfl rfl c q).symm
  · exact (q61 _ c q).trans (emb9 _ ![0, 1, 0, 3072] inb_S1x2x64x4096_S1x1x64x512_0_1_0_3072 1 2 1 (by decide) (by decide) (by decide) rfl rfl rfl c q).symm
  · exact (q51 _ c q).trans (emb9 _ ![0, 1, 0, 2560] inb_S1x2x64x4096_S1x1x64x512_0_1_0_2560 1 1 1 (by decide) (by decide) (by decide) rfl rfl rfl c q).symm
  · exact (q41 _ c q).trans (emb9 _ ![0, 1, 0, 2048] inb_S1x2x64x4096_S1x1x64x512_0_1_0_2048 1 0 1 (by decide) (by decide) (by decide) rfl rfl rfl c q).symm
  · exact (q31 _ c q).trans (emb9 _ ![0, 0, 0, 3584] inb_S1x2x64x4096_S1x1x64x512_0_0_0_3584 0 3 1 (by decide) (by decide) (by decide) rfl rfl rfl c q).symm
  · exact (q21 _ c q).trans (emb9 _ ![0, 0, 0, 3072] inb_S1x2x64x4096_S1x1x64x512_0_0_0_3072 0 2 1 (by decide) (by decide) (by decide) rfl rfl rfl c q).symm
  · exact (q11 _ c q).trans (emb9 _ ![0, 0, 0, 2560] inb_S1x2x64x4096_S1x1x64x512_0_0_0_2560 0 1 1 (by decide) (by decide) (by decide) rfl rfl rfl c q).symm
  · exact (q01 _ c q).trans (emb9 _ ![0, 0, 0, 2048] inb_S1x2x64x4096_S1x1x64x512_0_0_0_2048 0 0 1 (by decide) (by decide) (by decide) rfl rfl rfl c q).symm
  · exact (q70 _ c q).trans (emb9 _ ![0, 1, 0, 1536] inb_S1x2x64x4096_S1x1x64x512_0_1_0_1536 1 3 0 (by decide) (by decide) (by decide) rfl rfl rfl c q).symm
  · exact (q60 _ c q).trans (emb9 _ ![0, 1, 0, 1024] inb_S1x2x64x4096_S1x1x64x512_0_1_0_1024 1 2 0 (by decide) (by decide) (by decide) rfl rfl rfl c q).symm
  · exact (q50 _ c q).trans (emb9 _ ![0, 1, 0, 512] inb_S1x2x64x4096_S1x1x64x512_0_1_0_512 1 1 0 (by decide) (by decide) (by decide) rfl rfl rfl c q).symm
  · exact (q40 _ c q).trans (emb9 _ ![0, 1, 0, 0] inb_S1x2x64x4096_S1x1x64x512_0_1_0_0 1 0 0 (by decide) (by decide) (by decide) rfl rfl rfl c q).symm
  · exact (q30 _ c q).trans (emb9 _ ![0, 0, 0, 1536] inb_S1x2x64x4096_S1x1x64x512_0_0_0_1536 0 3 0 (by decide) (by decide) (by decide) rfl rfl rfl c q).symm
  · exact (q20 _ c q).trans (emb9 _ ![0, 0, 0, 1024] inb_S1x2x64x4096_S1x1x64x512_0_0_0_1024 0 2 0 (by decide) (by decide) (by decide) rfl rfl rfl c q).symm
  · exact (q10 Y W co si c q).trans (emb9 _ ![0, 0, 0, 512] inb_S1x2x64x4096_S1x1x64x512_0_0_0_512 0 1 0 (by decide) (by decide) (by decide) rfl rfl rfl c q).symm
  · exact (q00 Y W co si c q).trans (emb9 _ ![0, 0, 0, 0] inb_S1x2x64x4096_S1x1x64x512_0_0_0_0 0 0 0 (by decide) (by decide) (by decide) rfl rfl rfl c q).symm

/-- The stores of one point, the last one first. -/
def pieces12 : List (View.Piece (Elt Ideal) S1x2x8x4096 .f32) :=
    [⟨Rect.unit ![0, 1, 0, 3584] S1x1x8x512.size inb_S1x2x8x4096_S1x1x8x512_0_1_0_3584, k0_pay62 (F := Ideal) (k0_pay9 (F := Ideal) Y W co si)⟩,
      ⟨Rect.unit ![0, 1, 0, 3072] S1x1x8x512.size inb_S1x2x8x4096_S1x1x8x512_0_1_0_3072, k0_pay61 (F := Ideal) (k0_pay9 (F := Ideal) Y W co si)⟩,
      ⟨Rect.unit ![0, 1, 0, 2560] S1x1x8x512.size inb_S1x2x8x4096_S1x1x8x512_0_1_0_2560, k0_pay56 (F := Ideal) (k0_pay55 (k0_pay9 (F := Ideal) Y W co si))⟩,
      ⟨Rect.unit ![0, 1, 0, 2048] S1x1x8x512.size inb_S1x2x8x4096_S1x1x8x512_0_1_0_2048, k0_pay54 (F := Ideal) (k0_pay9 (F := Ideal) Y W co si)⟩,
      ⟨Rect.unit ![0, 0, 0, 3584] S1x1x8x512.size inb_S1x2x8x4096_S1x1x8x512_0_0_0_3584, k0_pay49 (F := Ideal) (k0_pay46 (k0_pay9 (F := Ideal) Y W co si))⟩,
      ⟨Rect.unit ![0, 0, 0, 3072] S1x1x8x512.size inb_S1x2x8x4096_S1x1x8x512_0_0_0_3072, k0_pay48 (F := Ideal) (k0_pay47 (k0_pay9 (F := Ideal) Y W co si))⟩,
      ⟨Rect.unit ![0, 0, 0, 2560] S1x1x8x512.size inb_S1x2x8x4096_S1x1x8x512_0_0_0_2560, k0_pay42 (F := Ideal) (k0_pay39 (k0_pay9 (F := Ideal) Y W co si))⟩,
      ⟨Rect.unit ![0, 0, 0, 2048] S1x1x8x512.size inb_S1x2x8x4096_S1x1x8x512_0_0_0_2048, k0_pay41 (F := Ideal) (k0_pay40 (k0_pay9 (F := Ideal) Y W co si))⟩,
      ⟨Rect.unit ![0, 1, 0, 1536] S1x1x8x512.size inb_S1x2x8x4096_S1x1x8x512_0_1_0_1536, k0_pay35 (F := Ideal) (k0_pay29 (k0_pay9 (F := Ideal) Y W co si))⟩,
      ⟨Rect.unit ![0, 1, 0, 1024] S1x1x8x512.size inb_S1x2x8x4096_S1x1x8x512_0_1_0_1024, k0_pay34 (F := Ideal) (k0_pay29 (k0_pay9 (F := Ideal) Y W co si))⟩,
      ⟨Rect.unit ![0, 1, 0, 512] S1x1x8x512.size inb_S1x2x8x4096_S1x1x8x512_0_1_0_512, k0_pay28 (F := Ideal) (k0_pay22 (k0_pay9 (F := Ideal) Y W co si))⟩,
      ⟨Rect.unit ![0, 1, 0, 0] S1x1x8x512.size inb_S1x2x8x4096_S1x1x8x512_0_1_0_0, k0_pay27 (F := Ideal) (k0_pay22 (k0_pay9 (F := Ideal) Y W co si))⟩,
      ⟨Rect.unit ![0, 0, 0, 1536] S1x1x8x512.size inb_S1x2x8x4096_S1x1x8x512_0_0_0_1536, k0_pay21 (F := Ideal) (k0_pay9 (F := Ideal) Y W co si)⟩,
      ⟨Rect.unit ![0, 0, 0, 1024] S1x1x8x512.size inb_S1x2x8x4096_S1x1x8x512_0_0_0_1024, k0_pay20 (F := Ideal) (k0_pay9 (F := Ideal) Y W co si)⟩,
      ⟨Rect.unit ![0, 0, 0, 512] S1x1x8x512.size inb_S1x2x8x4096_S1x1x8x512_0_0_0_512, k0_pay15 (F := Ideal) Y W co si⟩,
      ⟨Rect.unit ![0, 0, 0, 0] S1x1x8x512.size inb_S1x2x8x4096_S1x1x8x512_0_0_0_0, k0_pay14 (F := Ideal) Y W co si⟩]

theorem pieces12_eq (y : S1x2x8x4096.Idx) : View.canon (pieces12 Y W co si) y = G12 (k0_pay9 (F := Ideal) Y W co si) y := by
  refine (congrFun (congrArg View.canon (List.append_nil _).symm) y).trans ?_
  refine View.canon_append_of_piecesOf (G12 (k0_pay9 (F := Ideal) Y W co si)) [] (pieces12 Y W co si) ⟨?_, ?_, ?_, ?_, ?_, ?_, ?_, ?_, ?_, ?_, ?_, ?_, ?_, ?_, ?_, ?_, trivial⟩ y
    (View.cover_of_tiledL (pieces12 Y W co si) S1x1x8x512.size (by sl_kernel_rfl) y)
  all_goals
    intro x
    obtain ⟨e, q, rfl⟩ : ∃ (e : Fin 8) (q : Fin 512), x = ix4 0 0 e q := e12 x
  · exact (n71 _ e q).trans (emb12 _ ![0, 1, 0, 3584] inb_S1x2x8x4096_S1x1x8x512_0_1_0_3584 1 3 1 (by decide) (by decide) (by decide) rfl rfl e q).symm
  · exact (n61 _ e q).trans (emb12 _ ![0, 1, 0, 3072] inb_S1x2x8x4096_S1x1x8x512_0_1_0_3072 1 2 1 (by decide) (by decide) (by decide) rfl rfl e q).symm
  · exact (n51 _ e q).trans (emb12 _ ![0, 1, 0, 2560] inb_S1x2x8x4096_S1x1x8x512_0_1_0_2560 1 1 1 (by decide) (by decide) (by decide) rfl rfl e q).symm
  · exact (n41 _ e q).trans (emb12 _ ![0, 1, 0, 2048] inb_S1x2x8x4096_S1x1x8x512_0_1_0_2048 1 0 1 (by decide) (by decide) (by decide) rfl rfl e q).symm
  · exact (n31 _ e q).trans (emb12 _ ![0, 0, 0, 3584] inb_S1x2x8x4096_S1x1x8x512_0_0_0_3584 0 3 1 (by decide) (by decide) (by decide) rfl rfl e q).symm
  · exact (n21 _ e q).trans (emb12 _ ![0, 0, 0, 3072] inb_S1x2x8x4096_S1x1x8x512_0_0_0_3072 0 2 1 (by decide) (by decide) (by decide) rfl rfl e q).symm
  · exact (n11 _ e q).trans (emb12 _ ![0, 0, 0, 2560] inb_S1x2x8x4096_S1x1x8x512_0_0_0_2560 0 1 1 (by decide) (by decide) (by decide) rfl rfl e q).symm
  · exact (n01 _ e q).trans (emb12 _ ![0, 0, 0, 2048] inb_S1x2x8x4096_S1x1x8x512_0_0_0_2048 0 0 1 (by decide) (by decide) (by decide) rfl rfl e q).symm
  · exact (n70 _ e q).trans (emb12 _ ![0, 1, 0, 1536] inb_S1x2x8x4096_S1x1x8x512_0_1_0_1536 1 3 0 (by decide) (by decide) (by decide) rfl rfl e q).symm
  · exact (n60 _ e q).trans (emb12 _ ![0, 1, 0, 1024] inb_S1x2x8x4096_S1x1x8x512_0_1_0_1024 1 2 0 (by decide) (by decide) (by decide) rfl rfl e q).symm
  · exact (n50 _ e q).trans (emb12 _ ![0, 1, 0, 512] inb_S1x2x8x4096_S1x1x8x512_0_1_0_512 1 1 0 (by decide) (by decide) (by decide) rfl rfl e q).symm
  · exact (n40 _ e q).trans (emb12 _ ![0, 1, 0, 0] inb_S1x2x8x4096_S1x1x8x512_0_1_0_0 1 0 0 (by decide) (by decide) (by decide) rfl rfl e q).symm
  · exact (n30 _ e q).trans (emb12 _ ![0, 0, 0, 1536] inb_S1x2x8x4096_S1x1x8x512_0_0_0_1536 0 3 0 (by decide) (by decide) (by decide) rfl rfl e q).symm
  · exact (n20 _ e q).trans (emb12 _ ![0, 0, 0, 1024] inb_S1x2x8x4096_S1x1x8x512_0_0_0_1024 0 2 0 (by decide) (by decide) (by decide) rfl rfl e q).symm
  · exact (n10 Y W co si e q).trans (emb12 _ ![0, 0, 0, 512] inb_S1x2x8x4096_S1x1x8x512_0_0_0_512 0 1 0 (by decide) (by decide) (by decide) rfl rfl e q).symm
  · exact (n00 Y W co si e q).trans (emb12 _ ![0, 0, 0, 0] inb_S1x2x8x4096_S1x1x8x512_0_0_0_0 0 0 0 (by decide) (by decide) (by decide) rfl rfl e q).symm

end Cert.InProjIdeal.Val

end
-- ==== Proof.InBlock.lean ====
/- The blocks the input projection writes back, from the blocks of its operands. -/
module

public import proofs.«01_k».proof.Proof.InPieces
public import proofs.«01_k».proof.Proof.Gen.InProjIdeal.Value

@[expose] public section

set_option maxRecDepth 16384

noncomputable section

namespace Cert.InProjIdeal.Val

open Cert.InProjIdeal Cert.InProjIdeal.Gen Idealize.ShloMosaic Idealize.ShloMosaic.ValueKit
open Idealize.ShloMosaic.TcCoe Idealize.SL.Sem Cert.In

variable (m : (ℓ : Loc nD τ sig) → Buf (Elt Ideal) ℓ)

/-- The projected rows of a point, their sums of squares, the normalised rows, the rows with the halves of every quarter exchanged, and the turned rows. -/
def Z (c : Dev nD) (t : Fin cfg0.N) : FVec Ideal S1024x768 .f32 := k0_pay4 (F := Ideal) (iblk m c 0 t) (iblk m c 1 t) (iblk m c 3 t)
def SS (c : Dev nD) (t : Fin cfg0.N) : FVec Ideal S1024x640 .f32 := k0_pay5 (F := Ideal) (iblk m c 0 t) (iblk m c 1 t) (iblk m c 3 t) (iblk m c 7 t)
def Y (c : Dev nD) (t : Fin cfg0.N) : FVec Ideal S1024x640 .f32 := k0_pay7 (F := Ideal) (Z m c t) (SS m c t) (iblk m c 4 t)
def SW (c : Dev nD) (t : Fin cfg0.N) : FVec Ideal S1024x640 .f32 := k0_pay8 (F := Ideal) (Z m c t) (SS m c t) (iblk m c 4 t)
def R (c : Dev nD) (t : Fin cfg0.N) : FVec Ideal S1024x640 .f32 := k0_pay9 (F := Ideal) (Y m c t) (SW m c t) (iblk m c 5 t) (iblk m c 6 t)
/-- The part of the head matrix that belongs to the keys. -/
def KH (c : Dev nD) (t : Fin cfg0.N) : Vec Ideal S128x128 .bf16 :=
  View.ld (iblk m c 7 t) (Rect.unit ![512, 512] ![128, 128] inb_S640x640_S128x128_512_512)

theorem cases2 (n : ℕ) : n % 2 = 0 ∨ n % 2 = 1 := by omega

theorem o8 (c : Dev nD) (t : Fin cfg0.N) : (outsAt0 m c t.val t.isLt).1 = k0_pay6 (F := Ideal) (iblk m c 0 t) (iblk m c 1 t) (iblk m c 2 t) := by
  rcases cases2 t.val with h | h
  · rw [outsAt0_A m c t h (by omega)]
    frame_out
  · rw [outsAt0_B m c t (by omega) h]
    frame_out

theorem o9 (c : Dev nD) (t : Fin cfg0.N) (y : S1x2x64x4096.Idx) : (outsAt0 m c t.val t.isLt).2.1 y = G9 (R m c t) y := by
  rcases cases2 t.val with h | h
  · rw [outsAt0_A m c t h (by omega)]
    frame_out
    exact pieces9_eq (Y m c t) (SW m c t) (iblk m c 5 t) (iblk m c 6 t) y
  · rw [outsAt0_B m c t (by omega) h]
    frame_out
    exact pieces9_eq (Y m c t) (SW m c t) (iblk m c 5 t) (iblk m c 6 t) y

theorem o10 (c : Dev nD) (t : Fin cfg0.N) : (outsAt0 m c t.val t.isLt).2.2.1 = k0_pay64 (F := Ideal) (k0_pay63 (R m c t)) := by
  rcases cases2 t.val with h | h
  · rw [outsAt0_A m c t h (by omega)]
    frame_out
    rfl
  · rw [outsAt0_B m c t (by omega) h]
    frame_out
    rfl

theorem o12 (c : Dev nD) (t : Fin cfg0.N) (y : S1x2x8x4096.Idx) : (outsAt0 m c t.val t.isLt).2.2.2.2.1 y = G12 (R m c t) y := by
  rcases cases2 t.val with h | h
  · rw [outsAt0_A m c t h (by omega)]
    frame_out
    exact pieces12_eq (Y m c t) (SW m c t) (iblk m c 5 t) (iblk m c 6 t) y
  · rw [outsAt0_B m c t (by omega) h]
    frame_out
    exact pieces12_eq (Y m c t) (SW m c t) (iblk m c 5 t) (iblk m c 6 t) y

theorem o13_first (c : Dev nD) (t : Fin cfg0.N) (h : t.val % 2 = 0) : (outsAt0 m c t.val t.isLt).2.2.2.2.2 = k0_pay66 (F := Ideal) (k0_pay63 (R m c t)) (KH m c t) := by
  rw [outsAt0_A m c t h (by omega)]
  frame_out
  rfl

theorem o13_second (c : Dev nD) (t s : Fin cfg0.N) (h : t.val % 2 = 1) (hs : s.val = t.val - 1) : (outsAt0 m c t.val t.isLt).2.2.2.2.2
    = k0_pay67 (F := Ideal) (k0_pay63 (R m c t)) (KH m c t) (k0_pay66 (F := Ideal) (k0_pay63 (R m c s)) (KH m c s)) := by
  have hp := o13_first m c s (by omega)
  simp only [hs] at hp
  rw [outsAt0_B m c t (by omega) h]
  frame_out
  rw [hp]
  rfl

/-- The values with their rows of ones: what a point's block holds. -/
def G11 (z : FVec Ideal S1024x768 .f32) : Vec Ideal S1x2x80x1024 .bf16 := fun y =>
  if h : (y 2).val < 64 then z (ix2 (y 3) ⟨640 + 64 * (y 1).val + (y 2).val, by have : (y 1).val < 2 := (y 1).isLt; omega⟩) else FloatOps.ofBits (F := Ideal) .bf16 0x3F80#16

def pieces11 (z : FVec Ideal S1024x768 .f32) : List (View.Piece (Elt Ideal) S1x2x80x1024 .bf16) :=
  [⟨Rect.unit ![0, 1, 64, 0] S1x1x16x1024.size inb_S1x2x80x1024_S1x1x16x1024_0_1_64_0, k0_pay2 (F := Ideal) k0_pay69⟩,
   ⟨Rect.unit ![0, 1, 0, 0] S1x1x64x1024.size inb_S1x2x80x1024_S1x1x64x1024_0_1_0_0, k0_pay1 (F := Ideal) (k0_pay72 z)⟩,
   ⟨Rect.unit ![0, 0, 64, 0] S1x1x16x1024.size inb_S1x2x80x1024_S1x1x16x1024_0_0_64_0, k0_pay71 (F := Ideal)⟩,
   ⟨Rect.unit ![0, 0, 0, 0] S1x1x64x1024.size inb_S1x2x80x1024_S1x1x64x1024_0_0_0_0, k0_pay70 (F := Ideal) z⟩]

theorem c11 (x : S1x1x64x1024.Idx) : ∃ (c : Fin 64) (q : Fin 1024), x = ix4 0 0 c q :=
  ⟨x 2, x 3, funext fun a => by
    fin_cases a
    · exact Subsingleton.elim (α := Fin 1) _ _
    · exact Subsingleton.elim (α := Fin 1) _ _
    · rfl
    · rfl⟩

theorem e11 (x : S1x1x16x1024.Idx) : ∃ (c : Fin 16) (q : Fin 1024), x = ix4 0 0 c q :=
  ⟨x 2, x 3, funext fun a => by
    fin_cases a
    · exact Subsingleton.elim (α := Fin 1) _ _
    · exact Subsingleton.elim (α := Fin 1) _ _
    · rfl
    · rfl⟩

theorem ones11 (z : FVec Ideal S1024x768 .f32) (off : Fin 4 → ℕ) (inb) (h2 : off 2 = 64) (c : Fin 16) (q : Fin 1024) :
    G11 z ((Rect.unit (s := S1x2x80x1024) off S1x1x16x1024.size inb).emb (ix4 0 0 c q)) = FloatOps.ofBits (F := Ideal) .bf16 0x3F80#16 := by
  have a2 := rect_emb_unit_val (s := S1x2x80x1024) off S1x1x16x1024.size inb (ix4 0 0 c q) 2
  rw [h2] at a2
  unfold G11
  generalize (Rect.unit (s := S1x2x80x1024) off S1x1x16x1024.size inb).emb (ix4 0 0 c q) = w at *
  have b2 : (w 2).val = 64 + c.val := a2
  rw [dif_neg (by omega)]

theorem vals11 (z : FVec Ideal S1024x768 .f32) (off : Fin 4 → ℕ) (inb) (v : ℕ) (hv : v < 2) (h1 : off 1 = v) (h2 : off 2 = 0) (h3 : off 3 = 0) (c : Fin 64) (q : Fin 1024) :
    G11 z ((Rect.unit (s := S1x2x80x1024) off S1x1x64x1024.size inb).emb (ix4 0 0 c q)) = z (ix2 q ⟨640 + 64 * v + c.val, by omega⟩) := by
  have a1 := rect_emb_unit_val (s := S1x2x80x1024) off S1x1x64x1024.size inb (ix4 0 0 c q) 1
  have a2 := rect_emb_unit_val (s := S1x2x80x1024) off S1x1x64x1024.size inb (ix4 0 0 c q) 2
  have a3 := rect_emb_unit_val (s := S1x2x80x1024) off S1x1x64x1024.size inb (ix4 0 0 c q) 3
  rw [h1] at a1
  rw [h2] at a2
  rw [h3] at a3
  unfold G11
  generalize (Rect.unit (s := S1x2x80x1024) off S1x1x64x1024.size inb).emb (ix4 0 0 c q) = w at *
  have b1 : (w 1).val = v := a1
  have b2 : (w 2).val = c.val := a2.trans (Nat.zero_add _)
  have b3 : w 3 = q := Fin.ext (a3.trans (Nat.zero_add _))
  rw [dif_pos (by omega)]
  refine congrArg₂ (fun i j => z (ix2 i j)) b3 (Fin.ext ?_)
  show 640 + 64 * (w 1).val + (w 2).val = 640 + 64 * v + c.val
  rw [b1, b2]

theorem pieces11_eq (z : FVec Ideal S1024x768 .f32) (y : S1x2x80x1024.Idx) : View.canon (pieces11 z) y = G11 z y := by
  refine (congrFun (congrArg View.canon (List.append_nil _).symm) y).trans ?_
  refine View.canon_append_of_piecesOf (G11 z) [] (pieces11 z) ⟨?_, ?_, ?_, ?_, trivial⟩ y
    (View.cover_of_tiledBy (pieces11 z) ![1, 1, 16, 1024] (by sl_kernel_rfl) y)
  all_goals intro x
  · obtain ⟨c, q, rfl⟩ := e11 x
    exact (pay2_at c q).trans (ones11 z ![0, 1, 64, 0] inb_S1x2x80x1024_S1x1x16x1024_0_1_64_0 rfl c q).symm
  · obtain ⟨c, q, rfl⟩ := c11 x
    exact (pay72_at z c q).trans (vals11 z ![0, 1, 0, 0] inb_S1x2x80x1024_S1x1x64x1024_0_1_0_0 1 (by decide) rfl rfl rfl c q).symm
  · obtain ⟨c, q, rfl⟩ := e11 x
    exact (pay71_at c q).trans (ones11 z ![0, 0, 64, 0] inb_S1x2x80x1024_S1x1x16x1024_0_0_64_0 rfl c q).symm
  · obtain ⟨c, q, rfl⟩ := c11 x
    exact (pay70_at z c q).trans (vals11 z ![0, 0, 0, 0] inb_S1x2x80x1024_S1x1x64x1024_0_0_0_0 0 (by decide) rfl rfl rfl c q).symm

theorem o11 (c : Dev nD) (t : Fin cfg0.N) (y : S1x2x80x1024.Idx) : (outsAt0 m c t.val t.isLt).2.2.2.1 y = G11 (Z m c t) y := by
  rcases cases2 t.val with h | h
  · rw [outsAt0_A m c t h (by omega)]
    frame_out
    exact pieces11_eq (Z m c t) y
  · rw [outsAt0_B m c t (by omega) h]
    frame_out
    exact pieces11_eq (Z m c t) y

end Cert.InProjIdeal.Val

end
-- ==== Proof.InNorm.lean ====
/- The norms of the plain queries and keys. -/
module

public import proofs.«01_k».proof.Proof.InRef
public import proofs.«01_k».proof.Proof.Gen.InProjRefIdeal.Read
public import Idealize.ShloMosaic.Lib.Pointwise

@[expose] public section

set_option maxRecDepth 16384

noncomputable section

namespace Cert.InProjRefIdeal.Val

open Cert.InProjRefIdeal Cert.InProjRefIdeal.Gen Cert.InProjRefIdeal.Value Cert.InProjRefIdeal.Read Idealize.ShloMosaic Idealize.ShloMosaic.TcCoe Cert.Mix Cert.In

variable (x0 : Vec Ideal S32x2048x1024 .f32) (x1 : Vec Ideal S1x1024 .f32) (x2 : Vec Ideal S1x1024x2688 .f32) (x3 x4 : Vec Ideal S1x64 .f32)

theorem v158_at (b : Fin 32) (v : Fin 2) (e : Fin 8) (col : Fin 8192) : val_main_v158 (F := Ideal) x0 x1 x2 x3 (ix4 b v e col)
    = ∑ c : Fin 64, (eq x0 x1 x2 x3 b (qs col) (qh v col) c * sc) * (eq x0 x1 x2 x3 b (qs col) (qh v col) c * sc) := by
  rw [val_main_v158_apply, val_main_v157_apply, val_main_v156_apply]
  have e0 : val_main_cst_11 (F := Ideal) (Shape.Idx.first h_S_) = (0 : EReal) := by
    show Ideal.ofBits .f32 0x00000000#32 = (0 : EReal)
    simp [Ideal.ofBits, Ideal.ieee]
  rw [e0, zero_add]
  refine Finset.sum_congr rfl fun k _ => ?_
  have e1 : idx_main_v156 (idx_main_v157 (idx_main_v158 (ix4 b v e col))) k = ix4 b v k col := funext fun a => by fin_cases a <;> rfl
  rw [e1, ← v154_at]
  unfold val_main_v155
  generalize val_main_v154 (F := Ideal) x0 x1 x2 x3 = z
  rfl

theorem v164_at (b : Fin 32) (e : Fin 8) (d : Fin 128) : val_main_v164 (F := Ideal) x0 x1 x2 x4 (ix3 b e d)
    = (Finset.univ : Finset (Fin 2048)).sup fun s => ∑ c : Fin 64, ek x0 x1 x2 x4 b s ⟨d.val / 64, by omega⟩ c * ek x0 x1 x2 x4 b s ⟨d.val / 64, by omega⟩ c := by
  simp only [← v149_at]
  unfold Finset.sup
  rw [← bot_word]
  unfold val_main_v164 val_main_v163 val_main_v162 val_main_v161 val_main_v160 val_main_v159
  generalize val_main_v149 (F := Ideal) x0 x1 x2 x4 = z
  pointwise [val_main_cst_12, val_main_cst_13]

end Cert.InProjRefIdeal.Val

end
-- ==== Proof.InArr.lean ====
/- The six arrays the input projection leaves, entry by entry. -/
module

public import proofs.«01_k».proof.Proof.InRow
public import proofs.«01_k».proof.Proof.InBlock
public import proofs.«01_k».proof.Proof.InNorm

@[expose] public section

set_option maxRecDepth 16384

noncomputable section

namespace Cert.InProjIdeal.Val

open Cert.InProjIdeal Cert.InProjIdeal.Gen Idealize.ShloMosaic Idealize.ShloMosaic.TcCoe Idealize.ShloMosaic.ValueKit Cert.Mix Cert.In
open Cert.InProjRefIdeal.Val (tokn zz co si eq ek qs qh v17_at v169_at v171_at v172_at v158_at v164_at)
open Cert.InProjRefIdeal.Read (val_main_v17 val_main_v169 val_main_v171 val_main_v172 val_main_v158 val_main_v164)

variable (m : (ℓ : Loc nD τ sig) → Buf (Elt Ideal) ℓ)

/-- The column of the transposed queries that column `n` of a point's block is. -/
def cl (t : Fin cfg0.N) (n : Fin 4096) : Fin 8192 := ⟨4096 * (t.val % 2) + n.val, by omega⟩
theorem cl_val (t : Fin cfg0.N) (n : Fin 4096) : ((cl t n : Fin 8192) : ℕ) = 4096 * (t.val % 2) + n.val := rfl
theorem sq_val (t : Fin cfg0.N) : ((sq t : Fin 32) : ℕ) = t.val / 2 := rfl

theorem R_eq (c : Dev nD) (t : Fin cfg0.N) : R m c t = RR m c t := rfl
theorem Z_eq (c : Dev nD) (t : Fin cfg0.N) : Z m c t = k0_pay4 (F := Ideal) (B0 m c t) (B1 m c t) (B3 m c t) := rfl

theorem b8 (c : Dev nD) (t : Fin cfg0.N) (r : Fin 1024) (j : Fin 1920) : (outsAt0 m c t.val t.isLt).1 (ix2 r j)
    = val_main_v17 (F := Ideal) (X0 m c) (X1 m c) (X2 m c) (ix2 (tk t r) j) := by
  rw [o8, v17_at]
  refine (ZR_at m c t r j).trans ?_
  refine congrArg₂ (fun b s => zz (X0 m c) (X1 m c) (X2 m c) b s ⟨j.val, by omega⟩) (Fin.ext ?_) (Fin.ext ?_)
  · show t.val / 2 = (1024 * t.val + r.val) / 2048; omega
  · show 1024 * (t.val % 2) + r.val = (1024 * t.val + r.val) % 2048; omega

theorem R_col (c : Dev nD) (t : Fin cfg0.N) (v : Fin 2) (e : Fin 64) (n : Fin 4096) (hv : v.val < 2) (hn : n.val < 4096) : R m c t (ix2 (rowOf n.val hn) (laneOf v.val n.val e hv))
    = eq (X0 m c) (X1 m c) (X2 m c) (X3 m c) (sq t) (qs (cl t n)) (qh v (cl t n)) e * sc := by
  rw [R_eq]
  refine Eq.trans ?_ ((RR_query m c t (rowOf n.val hn) (qh v (cl t n)) e).trans ?_)
  · refine congrArg (fun j => RR m c t (ix2 _ j)) (Fin.ext ?_)
    show 64 * (4 * v.val + n.val / 512 % 4) + e.val = 64 * (4 * v.val + (4096 * (t.val % 2) + n.val) / 512 % 4) + e.val
    omega
  · refine congrArg (fun s => eq (X0 m c) (X1 m c) (X2 m c) (X3 m c) (sq t) s (qh v (cl t n)) e * sc) (Fin.ext ?_)
    show 1024 * (t.val % 2) + (512 * (n.val / 2048) + n.val % 512) = 512 * ((4096 * (t.val % 2) + n.val) / 2048) + (4096 * (t.val % 2) + n.val) % 512
    omega

theorem b9 (c : Dev nD) (t : Fin cfg0.N) (v : Fin 2) (e : Fin 64) (n : Fin 4096) : (outsAt0 m c t.val t.isLt).2.1 (ix4 0 v e n)
    = val_main_v169 (F := Ideal) (X0 m c) (X1 m c) (X2 m c) (X3 m c) (ix4 (sq t) v e (cl t n)) := by
  rw [o9, v169_at]
  exact R_col m c t v e n v.isLt n.isLt

theorem b12 (c : Dev nD) (t : Fin cfg0.N) (v : Fin 2) (e : Fin 8) (n : Fin 4096) : (outsAt0 m c t.val t.isLt).2.2.2.2.1 (ix4 0 v e n)
    = val_main_v158 (F := Ideal) (X0 m c) (X1 m c) (X2 m c) (X3 m c) (ix4 (sq t) v e (cl t n)) := by
  rw [o12, v158_at]
  refine Finset.sum_congr rfl fun k _ => ?_
  exact congrArg₂ (· * ·) (R_col m c t v k n v.isLt n.isLt) (R_col m c t v k n v.isLt n.isLt)

theorem K_at (c : Dev nD) (t : Fin cfg0.N) (r : Fin 1024) (d : Fin 128) : R m c t (ix2 r ⟨512 + d.val, by omega⟩)
    = ek (X0 m c) (X1 m c) (X2 m c) (X4 m c) (sq t) (pl t r) ⟨d.val / 64, by omega⟩ ⟨d.val % 64, by omega⟩ := by
  rw [R_eq]
  refine Eq.trans (congrArg (fun j => RR m c t (ix2 r j)) (Fin.ext ?_)) (RR_key m c t r ⟨d.val / 64, by omega⟩ ⟨d.val % 64, by omega⟩)
  show 512 + d.val = 512 + (64 * (d.val / 64) + d.val % 64)
  omega

theorem b10 (c : Dev nD) (t : Fin cfg0.N) (r : Fin 1024) (d : Fin 128) : (outsAt0 m c t.val t.isLt).2.2.1 (ix3 0 r d)
    = val_main_v171 (F := Ideal) (X0 m c) (X1 m c) (X2 m c) (X4 m c) (ix3 (sq t) (pl t r) d) := by
  rw [o10, v171_at]
  exact (pay64_at (R m c t) r d).trans (K_at m c t r d)

theorem one_words : FloatOps.ofBits (F := Ideal) .bf16 0x3F80#16 = FloatOps.ofBits (F := Ideal) .f32 0x3F800000#32 := by
  have h1 : (FloatOps.ofBits .f32 0x3F800000#32 : Ideal .f32) = (1 : EReal) := by
    simp [FloatOps.ofBits, Ideal.ofBits, Ideal.ieee]
    rw [← EReal.coe_mul, ← EReal.coe_one]
    congr 1
    norm_num
  have h2 : (FloatOps.ofBits .bf16 0x3F80#16 : Ideal .bf16) = (1 : EReal) := by
    simp [FloatOps.ofBits, Ideal.ofBits, Ideal.ieee]
    rw [← EReal.coe_mul, ← EReal.coe_one]
    congr 1
    norm_num
  exact h2.trans h1.symm

theorem b11 (c : Dev nD) (t : Fin cfg0.N) (v : Fin 2) (e : Fin 80) (r : Fin 1024) : (outsAt0 m c t.val t.isLt).2.2.2.1 (ix4 0 v e r)
    = val_main_v172 (F := Ideal) (X0 m c) (X1 m c) (X2 m c) (ix4 (sq t) v e (pl t r)) := by
  rw [o11, v172_at]
  show (if h : e.val < 64 then Z m c t (ix2 r ⟨640 + 64 * v.val + e.val, by omega⟩) else FloatOps.ofBits (F := Ideal) .bf16 0x3F80#16) = _
  by_cases h : e.val < 64
  · rw [dif_pos h, dif_pos h, Z_eq, Zr_at]
    exact congrArg (zz (X0 m c) (X1 m c) (X2 m c) (sq t) (pl t r)) (Fin.ext (by dsimp only <;> omega))
  · rw [dif_neg h, dif_neg h]
    exact one_words

theorem KH_at (c : Dev nD) (t : Fin cfg0.N) (k d : Fin 128) : KH m c t (ix2 k d) = if k.val / 64 = d.val / 64 then (1 : EReal) else 0 := by
  refine Eq.trans (b := B7 m c t (ix2 ⟨512 + k.val, by omega⟩ ⟨512 + d.val, by omega⟩)) ?_ ?_
  · refine congrArg (B7 m c t) (funext fun a => Fin.ext ?_)
    refine (rect_emb_unit_val (s := S640x640) ![512, 512] ![128, 128] inb_S640x640_S128x128_512_512 (ix2 k d) a).trans ?_
    fin_cases a <;> rfl
  · rw [blk7]
    have e : ((512 + k.val) / 64 = (512 + d.val) / 64) ↔ (k.val / 64 = d.val / 64) := by omega
    simp only [e]

/-- The largest squared norm of a key's head over the rows of a point. -/
theorem max_at (c : Dev nD) (t : Fin cfg0.N) (e : Fin 8) (d : Fin 128) : k0_pay65 (F := Ideal) (k0_pay63 (R m c t)) (KH m c t) (ix2 e d)
    = (Finset.univ : Finset (Fin 1024)).sup fun r => ∑ k : Fin 64, ek (X0 m c) (X1 m c) (X2 m c) (X4 m c) (sq t) (pl t r) ⟨d.val / 64, by omega⟩ k
      * ek (X0 m c) (X1 m c) (X2 m c) (X4 m c) (sq t) (pl t r) ⟨d.val / 64, by omega⟩ k := by
  refine (pay65_at _ _ e d).trans ?_
  refine Finset.sup_congr rfl fun r _ => ?_
  refine (hsum_eq (n := 2) (fun k : Fin 128 => KH m c t (ix2 k d)) ⟨d.val / 64, by omega⟩ (fun k => KH_at m c t k d)
    (fun k : Fin 128 => k0_pay63 (F := Ideal) (R m c t) (ix2 r k) * k0_pay63 (F := Ideal) (R m c t) (ix2 r k))).trans ?_
  refine Finset.sum_congr rfl fun k _ => ?_
  have e1 : k0_pay63 (F := Ideal) (R m c t) (ix2 r ⟨64 * (d.val / 64) + k.val, by omega⟩)
      = ek (X0 m c) (X1 m c) (X2 m c) (X4 m c) (sq t) (pl t r) ⟨d.val / 64, by omega⟩ k := by
    refine Eq.trans (b := R m c t (ix2 r ⟨512 + (64 * (d.val / 64) + k.val), by omega⟩)) ?_ ?_
    · generalize R m c t = q
      pointwise [k0_pay63]
    · exact RR_key m c t r ⟨d.val / 64, by omega⟩ k
  exact congrArg₂ (· * ·) e1 e1

theorem sup_halves (f : Fin 2048 → EReal) : (Finset.univ : Finset (Fin 2048)).sup f
    = max ((Finset.univ : Finset (Fin 1024)).sup fun r => f ⟨r.val, by omega⟩) ((Finset.univ : Finset (Fin 1024)).sup fun r => f ⟨1024 + r.val, by omega⟩) := by
  apply le_antisymm
  · refine Finset.sup_le fun s _ => ?_
    by_cases h : s.val < 1024
    · exact le_max_of_le_left (Finset.le_sup (f := fun r : Fin 1024 => f ⟨r.val, by omega⟩) (Finset.mem_univ (⟨s.val, h⟩ : Fin 1024)))
    · refine le_max_of_le_right (Eq.trans_le (congrArg f (Fin.ext ?_)) (Finset.le_sup (f := fun r : Fin 1024 => f ⟨1024 + r.val, by omega⟩) (Finset.mem_univ (⟨s.val - 1024, by omega⟩ : Fin 1024))))
      show s.val = 1024 + (s.val - 1024)
      omega
  · exact max_le (Finset.sup_le fun r _ => Finset.le_sup (Finset.mem_univ _)) (Finset.sup_le fun r _ => Finset.le_sup (Finset.mem_univ _))

theorem b13 (c : Dev nD) (t : Fin cfg0.N) (h1 : t.val % 2 = 1) (e : Fin 8) (d : Fin 128) : (outsAt0 m c t.val t.isLt).2.2.2.2.2 (ix3 0 e d)
    = val_main_v164 (F := Ideal) (X0 m c) (X1 m c) (X2 m c) (X4 m c) (ix3 (sq t) e d) := by
  have hs : t.val - 1 < cfg0.N := by have := t.isLt; omega
  rw [o13_second m c t ⟨t.val - 1, hs⟩ h1 rfl, v164_at, sup_halves]
  refine (pay67_at _ _ _ e d).trans ?_
  refine congrArg₂ max ((pay66_at _ _ e d).trans ((max_at m c _ e d).trans ?_)) ((max_at m c t e d).trans ?_)
  · refine Finset.sup_congr rfl fun r _ => ?_
    refine congrArg₂ (fun b s => ∑ k : Fin 64, ek (X0 m c) (X1 m c) (X2 m c) (X4 m c) b s ⟨d.val / 64, by omega⟩ k * ek (X0 m c) (X1 m c) (X2 m c) (X4 m c) b s ⟨d.val / 64, by omega⟩ k) (Fin.ext ?_) (Fin.ext ?_)
    · show (t.val - 1) / 2 = t.val / 2; omega
    · show 1024 * ((t.val - 1) % 2) + r.val = r.val; omega
  · refine Finset.sup_congr rfl fun r _ => ?_
    refine congrArg (fun s => ∑ k : Fin 64, ek (X0 m c) (X1 m c) (X2 m c) (X4 m c) (sq t) s ⟨d.val / 64, by omega⟩ k * ek (X0 m c) (X1 m c) (X2 m c) (X4 m c) (sq t) s ⟨d.val / 64, by omega⟩ k) (Fin.ext ?_)
    show 1024 * (t.val % 2) + r.val = 1024 + r.val; omega

theorem i4 {n1 n2 n3 : ℕ} (y : (⟨4, ![1, n1, n2, n3]⟩ : Shape).Idx) : ∃ (a : Fin n1) (b : Fin n2) (d : Fin n3), y = ix4 0 a b d :=
  ⟨y 1, y 2, y 3, funext fun a => by
    fin_cases a
    · exact Subsingleton.elim (α := Fin 1) _ _
    · rfl
    · rfl
    · rfl⟩

theorem i3 {n1 n2 : ℕ} (y : (⟨3, ![1, n1, n2]⟩ : Shape).Idx) : ∃ (a : Fin n1) (b : Fin n2), y = ix3 0 a b :=
  ⟨y 1, y 2, funext fun a => by
    fin_cases a
    · exact Subsingleton.elim (α := Fin 1) _ _
    · rfl
    · rfl⟩

theorem final8 (c : Dev nD) : (dats m 0 c).arrAt 8 cfg0.N = val_main_v17 (F := Ideal) (X0 m c) (X1 m c) (X2 m c) := by
  refine (dats m 0 c).arrAt_eq_of_covers 8 _ (by decide +kernel) fun t hf y => ?_
  blk_simp
  rw [after0_8]
  obtain ⟨r, j, rfl⟩ : ∃ r j, y = ix2 r j := ⟨y 0, y 1, by idx_vars y⟩
  refine (b8 m c t r j).trans ?_
  refine congrArg (val_main_v17 (F := Ideal) (X0 m c) (X1 m c) (X2 m c)) (funext fun a => Fin.ext ?_)
  fin_cases a
  · blk_simp [idx t, tk_val]
    show 1024 * t.val + r.val = t.val * 1024 + r.val
    omega
  · blk_simp [idx t, tk_val]
    rfl

theorem final9 (c : Dev nD) : (dats m 0 c).arrAt 9 cfg0.N = val_main_v169 (F := Ideal) (X0 m c) (X1 m c) (X2 m c) (X3 m c) := by
  refine (dats m 0 c).arrAt_eq_of_covers 9 _ (by decide +kernel) fun t hf y => ?_
  blk_simp
  rw [after0_9]
  obtain ⟨v, e, n, rfl⟩ := i4 y
  refine (b9 m c t v e n).trans ?_
  refine congrArg (val_main_v169 (F := Ideal) (X0 m c) (X1 m c) (X2 m c) (X3 m c)) (funext fun a => Fin.ext ?_)
  fin_cases a
  all_goals blk_simp [idx t, sq_val, cl_val]
  all_goals first | rfl | (show 4096 * (t.val % 2) + n.val = t.val % 2 * 4096 + n.val; omega)

theorem final10 (c : Dev nD) : (dats m 0 c).arrAt 10 cfg0.N = val_main_v171 (F := Ideal) (X0 m c) (X1 m c) (X2 m c) (X4 m c) := by
  refine (dats m 0 c).arrAt_eq_of_covers 10 _ (by decide +kernel) fun t hf y => ?_
  blk_simp
  rw [after0_10]
  obtain ⟨r, d, rfl⟩ := i3 y
  refine (b10 m c t r d).trans ?_
  refine congrArg (val_main_v171 (F := Ideal) (X0 m c) (X1 m c) (X2 m c) (X4 m c)) (funext fun a => Fin.ext ?_)
  fin_cases a
  all_goals blk_simp [idx t, sq_val, pl_val]
  all_goals first | rfl | (show 1024 * (t.val % 2) + r.val = t.val % 2 * 1024 + r.val; omega)

theorem final11 (c : Dev nD) : (dats m 0 c).arrAt 11 cfg0.N = val_main_v172 (F := Ideal) (X0 m c) (X1 m c) (X2 m c) := by
  refine (dats m 0 c).arrAt_eq_of_covers 11 _ (by decide +kernel) fun t hf y => ?_
  blk_simp
  rw [after0_11]
  obtain ⟨v, e, r, rfl⟩ := i4 y
  refine (b11 m c t v e r).trans ?_
  refine congrArg (val_main_v172 (F := Ideal) (X0 m c) (X1 m c) (X2 m c)) (funext fun a => Fin.ext ?_)
  fin_cases a
  all_goals blk_simp [idx t, sq_val, pl_val]
  all_goals first | rfl | (show 1024 * (t.val % 2) + r.val = t.val % 2 * 1024 + r.val; omega)

theorem final12 (c : Dev nD) : (dats m 0 c).arrAt 12 cfg0.N = val_main_v158 (F := Ideal) (X0 m c) (X1 m c) (X2 m c) (X3 m c) := by
  refine (dats m 0 c).arrAt_eq_of_covers 12 _ (by decide +kernel) fun t hf y => ?_
  blk_simp
  rw [after0_12]
  obtain ⟨v, e, n, rfl⟩ := i4 y
  refine (b12 m c t v e n).trans ?_
  refine congrArg (val_main_v158 (F := Ideal) (X0 m c) (X1 m c) (X2 m c) (X3 m c)) (funext fun a => Fin.ext ?_)
  fin_cases a
  all_goals blk_simp [idx t, sq_val, cl_val]
  all_goals first | rfl | (show 4096 * (t.val % 2) + n.val = t.val % 2 * 4096 + n.val; omega)

theorem final13 (c : Dev nD) : (dats m 0 c).arrAt 13 cfg0.N = val_main_v164 (F := Ideal) (X0 m c) (X1 m c) (X2 m c) (X4 m c) := by
  refine (dats m 0 c).arrAt_eq_of_covers 13 _ (by decide +kernel) fun t hf y => ?_
  have h1 : t.val % 2 = 1 := (flush0_13 t).mp hf
  blk_simp
  rw [after0_13]
  obtain ⟨e, d, rfl⟩ := i3 y
  refine (b13 m c t h1 e d).trans ?_
  refine congrArg (val_main_v164 (F := Ideal) (X0 m c) (X1 m c) (X2 m c) (X4 m c)) (funext fun a => Fin.ext ?_)
  fin_cases a
  all_goals blk_simp [idx t, sq_val]
  all_goals rfl

end Cert.InProjIdeal.Val

end
-- ==== Proof.InClaim.lean ====
/- The value claim of the input projection: the two programs' six results are equal. -/
module

public import proofs.«01_k».proof.Defs
public import proofs.«01_k».proof.Proof.InArr
public import proofs.«01_k».proof.Proof.Gen.InProjRefIdeal.Run
public import Idealize.ShloMosaic.Lib.Claim

@[expose] public section

set_option maxRecDepth 16384

noncomputable section

namespace Cert.InProjIdeal.Val

open Cert.InProjIdeal Cert.InProjIdeal.Gen
open Idealize.ShloMosaic Idealize.ShloMosaic.TcCoe Idealize.SL.Sem

/-- Each result of the call is the reference's, and the arguments end unchanged. -/
theorem algebraic : Cert.algebraic_InProjIdeal_InProjRefIdeal := by
  intro m g m' g' hp ha
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, fun c => (dats m 0 c).arrAt 13 cfg0.N,
    Cert.InProjIdeal.Value.run_blocks m g,
    (θ_run _ _ _).mono (fun r h c => ⟨?_, ?_, ?_, ?_, ?_, ?_, (h c).2.2.2.2.2.2⟩) (Cert.InProjRefIdeal.Value.run m' g')⟩
  · refine (h c).1.trans ((Cert.InProjRefIdeal.Read.val_main_v17_eq (StableHlo.launchContents m' c)).trans ?_)
    obtain ⟨e0, e1, e2, e3, e4⟩ := ha c
    show Cert.InProjRefIdeal.Read.val_main_v17 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) = _
    rw [e0, e1, e2]
    exact (final8 m c).symm
  · refine (h c).2.1.trans ((Cert.InProjRefIdeal.Read.val_main_v169_eq (StableHlo.launchContents m' c)).trans ?_)
    obtain ⟨e0, e1, e2, e3, e4⟩ := ha c
    show Cert.InProjRefIdeal.Read.val_main_v169 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg3)) = _
    rw [e0, e1, e2, e3]
    exact (final9 m c).symm
  · refine (h c).2.2.1.trans ((Cert.InProjRefIdeal.Read.val_main_v171_eq (StableHlo.launchContents m' c)).trans ?_)
    obtain ⟨e0, e1, e2, e3, e4⟩ := ha c
    show Cert.InProjRefIdeal.Read.val_main_v171 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg4)) = _
    rw [e0, e1, e2, e4]
    exact (final10 m c).symm
  · refine (h c).2.2.2.1.trans ((Cert.InProjRefIdeal.Read.val_main_v172_eq (StableHlo.launchContents m' c)).trans ?_)
    obtain ⟨e0, e1, e2, e3, e4⟩ := ha c
    show Cert.InProjRefIdeal.Read.val_main_v172 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) = _
    rw [e0, e1, e2]
    exact (final11 m c).symm
  · refine (h c).2.2.2.2.1.trans ((Cert.InProjRefIdeal.Read.val_main_v158_eq (StableHlo.launchContents m' c)).trans ?_)
    obtain ⟨e0, e1, e2, e3, e4⟩ := ha c
    show Cert.InProjRefIdeal.Read.val_main_v158 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg3)) = _
    rw [e0, e1, e2, e3]
    exact (final12 m c).symm
  · refine (h c).2.2.2.2.2.1.trans ((Cert.InProjRefIdeal.Read.val_main_v164_eq (StableHlo.launchContents m' c)).trans ?_)
    obtain ⟨e0, e1, e2, e3, e4⟩ := ha c
    show Cert.InProjRefIdeal.Read.val_main_v164 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg4)) = _
    rw [e0, e1, e2, e4]
    exact (final13 m c).symm

end Cert.InProjIdeal.Val

end
-- ==== Proof.lean ====
module

public import proofs.«01_k».proof.Defs
public import Idealize.ShloMosaic.Lib.Quiescent
public import proofs.«01_k».proof.Proof.AttnBody
public import proofs.«01_k».proof.Proof.AttnIdealBody
public import proofs.«01_k».proof.Proof.AttnClaim
public import proofs.«01_k».proof.Proof.MixClaim
public import proofs.«01_k».proof.Proof.InClaim
public import proofs.«01_k».proof.Proof.Gen.AttentionRefIdeal
public import proofs.«01_k».proof.Proof.Gen.Pre_attention_operands
public import proofs.«01_k».proof.Proof.Gen.AttentionRefIdeal.Run
public import proofs.«01_k».proof.Proof.Gen.AttentionRefIdeal.Read
public import proofs.«01_k».proof.Proof.Gen.MixFfn.Frame
public import proofs.«01_k».proof.Proof.Gen.MixFfnIdeal.Frame
public import proofs.«01_k».proof.Proof.Gen.MixFfnIdeal.Value
public import proofs.«01_k».proof.Proof.Gen.MixFfnRefIdeal.Run
public import proofs.«01_k».proof.Proof.Gen.MixFfnRefIdeal.Read
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read

@[expose] public section

noncomputable section

namespace Cert.Proof

open Idealize.ShloMosaic Idealize.SL.Sem

/-- The reference of the attention: its arguments end unchanged. -/
theorem attention_ref : Cert.quiescent_AttentionRefIdeal := fun m ρ _ =>
  (θ_run _ _ _).mono (fun r h => ⟨fun c => (h c).2, sem_eq_zero_of_no_sems (by decide) _⟩) (Cert.AttentionRefIdeal.Value.run m ρ)

/-- The reference of the mixing output and feed-forward block: its arguments end unchanged. -/
theorem mixffn_ref : Cert.quiescent_MixFfnRefIdeal := fun m ρ _ =>
  (θ_run _ _ _).mono (fun r h => ⟨fun c => (h c).2, sem_eq_zero_of_no_sems (by decide) _⟩) (Cert.MixFfnRefIdeal.Value.run m ρ)

/-- The reference of the input projection: its arguments end unchanged. -/
theorem inproj_ref : Cert.quiescent_InProjRefIdeal := fun m ρ _ =>
  (θ_run _ _ _).mono (fun r h => ⟨fun c => (h c).2.2.2.2.2.2, sem_eq_zero_of_no_sems (by decide) _⟩) (Cert.InProjRefIdeal.Value.run m ρ)

theorem claim : Cert.Claim :=
  ⟨Cert.Attention.Gen.facts, Cert.AttentionIdeal.Gen.facts, Cert.AttentionRefIdeal.Gen.facts, Cert.MixFfn.Gen.facts,
    Cert.MixFfnIdeal.Gen.facts, Cert.MixFfnRefIdeal.Gen.facts, Cert.InProj.Gen.facts, Cert.InProjIdeal.Gen.facts,
    Cert.InProjRefIdeal.Gen.facts, Cert.Pre_attention_operands.Gen.facts,
    fun m ρ _ => Cert.Attention.Body.frame m ρ, fun m ρ _ => Cert.AttentionIdeal.Body.frame m ρ, fun m ρ _ => Cert.AttentionIdeal.Body.frame m ρ,
    attention_ref, fun m ρ _ => attention_ref m ρ trivial,
    fun m ρ _ => Cert.MixFfn.Gen.frame m ρ, fun m ρ _ => Cert.MixFfnIdeal.Gen.frame m ρ, mixffn_ref,
    fun m ρ _ => Cert.InProj.Gen.frame m ρ, fun m ρ _ => Cert.InProjIdeal.Gen.frame m ρ, inproj_ref,
    trivial, Cert.AttentionIdeal.Val.algebraic, trivial, Cert.MixFfnIdeal.Val.algebraic,
    trivial, Cert.InProjIdeal.Val.algebraic⟩

end Cert.Proof

end
